-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x8192x10240 : Shape := ⟨3, ![3, 8192, 10240]⟩
abbrev S7168x10240 : Shape := ⟨2, ![7168, 10240]⟩
abbrev S56x80 : Shape := ⟨2, ![56, 80]⟩
abbrev S_ : Shape := ⟨0, ![]⟩

class Facts : Prop where
  bitsLt_bf16_f32 : FTy.bits .bf16 < FTy.bits .f32
  bcast_S_S3x8192x10240 : S_.BroadcastsInDim S3x8192x10240 (![] : Fin 0 → Fin S3x8192x10240.rank)

variable [Facts]

def fn {F : FTy → Type} [FloatOps F] (main_arg0 : FVec F S3x8192x10240 .bf16) (main_arg1 : FVec F S7168x10240 .fp8e4m3) (main_arg2 : FVec F S56x80 .f32) : IVec S3x8192x10240 1 :=
  let main_v0 : FVec F S3x8192x10240 .f32 := (extf .f32 · bitsLt_bf16_f32) main_arg0
  let main_v1 : FVec F S3x8192x10240 .f32 := Host.absf main_v0
  let main_cst : FVec F S_ .f32 := constant S_ .f32 0x7F7F0000#32
  let main_v2 : FVec F S3x8192x10240 .f32 := broadcastInDim S3x8192x10240 ![] bcast_S_S3x8192x10240 main_cst
  let main_v3 : IVec S3x8192x10240 1 := cmpf .ole main_v1 main_v2
  main_v3
-- ==== Kernel.lean ====
abbrev S3x8192x10240 : Shape := ⟨3, ![3, 8192, 10240]⟩
abbrev S7168x10240 : Shape := ⟨2, ![7168, 10240]⟩
abbrev S56x80 : Shape := ⟨2, ![56, 80]⟩
abbrev S24576x10240 : Shape := ⟨2, ![24576, 10240]⟩
abbrev S24576x7168 : Shape := ⟨2, ![24576, 7168]⟩
abbrev S24576x80 : Shape := ⟨2, ![24576, 80]⟩
abbrev S512x10240 : Shape := ⟨2, ![512, 10240]⟩
abbrev S512x512 : Shape := ⟨2, ![512, 512]⟩
abbrev S512x80 : Shape := ⟨2, ![512, 80]⟩
abbrev S64x128 : Shape := ⟨2, ![64, 128]⟩
abbrev S64 : Shape := ⟨1, ![64]⟩
abbrev S64x1 : Shape := ⟨2, ![64, 1]⟩
abbrev S64x80 : Shape := ⟨2, ![64, 80]⟩
abbrev S1x1 : Shape := ⟨2, ![1, 1]⟩
abbrev S128x128 : Shape := ⟨2, ![128, 128]⟩
abbrev S128x10240 : Shape := ⟨2, ![128, 10240]⟩

abbrev nBuf : Space → Nat
  | .hbm => 7
  | .vmem => 11
  | .smem => 1
  | _ => 0

abbrev bufTy : (tb : Table) → Fin (tcTables nBuf tb) → BufTy
  | .hbm, ⟨0, _⟩ => ⟨S3x8192x10240, .bf16⟩
  | .hbm, ⟨1, _⟩ => ⟨S7168x10240, .fp8e4m3⟩
  | .hbm, ⟨2, _⟩ => ⟨S56x80, .f32⟩
  | .hbm, ⟨3, _⟩ => ⟨S24576x10240, .bf16⟩
  | .hbm, ⟨4, _⟩ => ⟨S24576x7168, .bf16⟩
  | .hbm, ⟨5, _⟩ => ⟨S24576x10240, .fp8e4m3⟩
  | .hbm, ⟨6, _⟩ => ⟨S24576x80, .f32⟩
  | .local _ .vmem, ⟨0, _⟩ => ⟨S512x10240, .bf16⟩
  | .local _ .vmem, ⟨1, _⟩ => ⟨S512x10240, .bf16⟩
  | .local _ .vmem, ⟨2, _⟩ => ⟨S512x10240, .fp8e4m3⟩
  | .local _ .vmem, ⟨3, _⟩ => ⟨S512x10240, .fp8e4m3⟩
  | .local _ .vmem, ⟨4, _⟩ => ⟨S512x512, .bf16⟩
  | .local _ .vmem, ⟨5, _⟩ => ⟨S512x512, .bf16⟩
  | .local _ .vmem, ⟨6, _⟩ => ⟨S512x10240, .fp8e4m3⟩
  | .local _ .vmem, ⟨7, _⟩ => ⟨S512x10240, .fp8e4m3⟩
  | .local _ .vmem, ⟨8, _⟩ => ⟨S512x80, .f32⟩
  | .local _ .vmem, ⟨9, _⟩ => ⟨S512x80, .f32⟩
  | .local _ .vmem, ⟨10, _⟩ => ⟨S512x10240, .bf16⟩
  | .local _ .smem, ⟨0, _⟩ => ⟨S56x80, .f32⟩
  | _, _ => ⟨S3x8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![48, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1442 : BitVec 32 := 0#32
  let c8_i32 : BitVec 32 := 8#32
  let v2892 : BitVec 32 := Scalar.addi c0_i32_1442 c8_i32
  let c1_i32_1443 : BitVec 32 := 1#32
  ⟨c0_i32_1442, v2892, c1_i32_1443⟩
def k0_mult1 (k0_t1 : Fin k0_t1_loop.trips) : BitVec 32 :=
  let c0_i32_1442 : BitVec 32 := 0#32
  let c1_i32_1443 : BitVec 32 := 1#32
  let arg9 : BitVec 32 := Scf.iv c0_i32_1442 c1_i32_1443 k0_t1
  let c64_i32 : BitVec 32 := 64#32
  let v2893 : BitVec 32 := Scalar.muli arg9 c64_i32
  v2893
@[reducible] def k0_t2_loop : Scf.Loop 32 :=
  let c0_i32_1446 : BitVec 32 := 0#32
  let c80_i32 : BitVec 32 := 80#32
  let v2897 : BitVec 32 := Scalar.addi c0_i32_1446 c80_i32
  let c1_i32_1447 : BitVec 32 := 1#32
  ⟨c0_i32_1446, v2897, c1_i32_1447⟩
def k0_mult2 (k0_t2 : Fin k0_t2_loop.trips) : BitVec 32 :=
  let c0_i32_1446 : BitVec 32 := 0#32
  let c1_i32_1447 : BitVec 32 := 1#32
  let arg10 : BitVec 32 := Scf.iv c0_i32_1446 c1_i32_1447 k0_t2
  let c128_i32 : BitVec 32 := 128#32
  let v2902 : BitVec 32 := Scalar.muli arg10 c128_i32
  v2902
def k0_off1 (k0_t1 : Fin k0_t1_loop.trips) (k0_t2 : Fin k0_t2_loop.trips) : Fin 2 → Nat :=
  let c0_i32_1442 : BitVec 32 := 0#32
  let c1_i32_1443 : BitVec 32 := 1#32
  let arg9 : BitVec 32 := Scf.iv c0_i32_1442 c1_i32_1443 k0_t1
  let c64_i32 : BitVec 32 := 64#32
  let v2893 : BitVec 32 := Scalar.muli arg9 c64_i32
  let v2894 : BitVec 32 := v2893
  let v2904 : Index := Scalar.indexCast v2894
  let c0_i32_1446 : BitVec 32 := 0#32
  let c1_i32_1447 : BitVec 32 := 1#32
  let arg10 : BitVec 32 := Scf.iv c0_i32_1446 c1_i32_1447 k0_t2
  let c128_i32 : BitVec 32 := 128#32
  let v2902 : BitVec 32 := Scalar.muli arg10 c128_i32
  let v2903 : BitVec 32 := v2902
  let v2905 : Index := Scalar.indexCast v2903
  ![v2904.toNat, v2905.toNat]
def k0_off2 (k0_t1 : Fin k0_t1_loop.trips) : Fin 2 → Nat :=
  let c0_i32_1442 : BitVec 32 := 0#32
  let c1_i32_1443 : BitVec 32 := 1#32
  let arg9 : BitVec 32 := Scf.iv c0_i32_1442 c1_i32_1443 k0_t1
  let c64_i32 : BitVec 32 := 64#32
  let v2893 : BitVec 32 := Scalar.muli arg9 c64_i32
  let v2894 : BitVec 32 := v2893
  let v2900 : Index := Scalar.indexCast v2894
  let c0_1449 : Index := 0#32
  ![v2900.toNat, 0]
def k0_off3 (i : grid0.Coords) (c0_i32_1 : BitVec 32) : Fin 2 → Nat :=
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  let c0 : Index := 0#32
  ![v5.toNat, 0]
def k0_off4 (i : grid0.Coords) (c0_i32_5 : BitVec 32) : Fin 2 → Nat :=
  let arg1 : BitVec 32 := BitVec.ofNat 32 (i 1).val
  let c4_i32_4 : BitVec 32 := 4#32
  let v12 : BitVec 32 := Scalar.muli arg1 c4_i32_4
  let v13 : BitVec 32 := Scalar.addi v12 c0_i32_5
  let v14 : Index := Scalar.indexCast v13
  let c1 : Index := 1#32
  ![v14.toNat, 1]
def k0_off5 (i : grid0.Coords) (c0_i32_8 : BitVec 32) : Fin 2 → Nat :=
  let arg1 : BitVec 32 := BitVec.ofNat 32 (i 1).val
  let c4_i32_7 : BitVec 32 := 4#32
  let v21 : BitVec 32 := Scalar.muli arg1 c4_i32_7
  let v22 : BitVec 32 := Scalar.addi v21 c0_i32_8
  let v23 : Index := Scalar.indexCast v22
  let c2 : Index := 2#32
  ![v23.toNat, 2]
def k0_off6 (i : grid0.Coords) (c0_i32_11 : BitVec 32) : Fin 2 → Nat :=
  let arg1 : BitVec 32 := BitVec.ofNat 32 (i 1).val
  let c4_i32_10 : BitVec 32 := 4#32
  let v30 : BitVec 32 := Scalar.muli arg1 c4_i32_10
  let v31 : BitVec 32 := Scalar.addi v30 c0_i32_11
  let v32 : Index := Scalar.indexCast v31
  let c3 : Index := 3#32
  ![v32.toNat, 3]
def k0_off7 (i : grid0.Coords) (c0_i32_14 : BitVec 32) : Fin 2 → Nat :=
  let arg1 : BitVec 32 := BitVec.ofNat 32 (i 1).val
  let c4_i32_13 : BitVec 32 := 4#32
  let v39 : BitVec 32 := Scalar.muli arg1 c4_i32_13
  let v40 : BitVec 32 := Scalar.addi v39 c0_i32_14
  let v41 : Index := Scalar.indexCast v40
  let c4 : Index := 4#32
  ![v41.toNat, 4]
def k0_off8 (i : grid0.Coords) (c0_i32_17 : BitVec 32) : Fin 2 → Nat :=
  let arg1 : BitVec 32 := BitVec.ofNat 32 (i 1).val
  let c4_i32_16 : BitVec 32 := 4#32
  let v48 : BitVec 32 := Scalar.muli arg1 c4_i32_16
  let v49 : BitVec 32 := Scalar.addi v48 c0_i32_17
  let v50 : Index := Scalar.indexCast v49
  let c5 : Index := 5#32
  ![v50.toNat, 5]
def k0_off9 (i : grid0.Coords) (c0_i32_20 : BitVec 32) : Fin 2 → Nat :=
  let arg1 : BitVec 32 := BitVec.ofNat 32 (i 1).val
  let c4_i32_19 : BitVec 32 := 4#32
  let v57 : BitVec 32 := Scalar.muli arg1 c4_i32_19
  let v58 : BitVec 32 := Scalar.addi v57 c0_i32_20
  let v59 : Index := Scalar.indexCast v58
  let c6 : Index := 6#32
  ![v59.toNat, 6]
def k0_off10 (i : grid0.Coords) (c0_i32_23 : BitVec 32) : Fin 2 → Nat :=
  let arg1 : BitVec 32 := BitVec.ofNat 32 (i 1).val
  let c4_i32_22 : BitVec 32 := 4#32
  let v66 : BitVec 32 := Scalar.muli arg1 c4_i32_22
  let v67 : BitVec 32 := Scalar.addi v66 c0_i32_23
  let v68 : Index := Scalar.indexCast v67
  let c7 : Index := 7#32
  ![v68.toNat, 7]
def k0_off11 (i : grid0.Coords) (c0_i32_26 : BitVec 32) : Fin 2 → Nat :=
  let arg1 : BitVec 32 := BitVec.ofNat 32 (i 1).val
  let c4_i32_25 : BitVec 32 := 4#32
  let v75 : BitVec 32 := Scalar.muli arg1 c4_i32_25
  let v76 : BitVec 32 := Scalar.addi v75 c0_i32_26
  let v77 : Index := Scalar.indexCast v76
  let c8 : Index := 8#32
  ![v77.toNat, 8]
def k0_off12 (i : grid0.Coords) (c0_i32_29 : BitVec 32) : Fin 2 → Nat :=
  let arg1 : BitVec 32 := BitVec.ofNat 32 (i 1).val
  let c4_i32_28 : BitVec 32 := 4#32
  let v84 : BitVec 32 := Scalar.muli arg1 c4_i32_28
  let v85 : BitVec 32 := Scalar.addi v84 c0_i32_29
  let v86 : Index := Scalar.indexCast v85
  let c9 : Index := 9#32
  ![v86.toNat, 9]
def k0_off13 (i : grid0.Coords) (c0_i32_32 : BitVec 32) : Fin 2 → Nat :=
  let arg1 : BitVec 32 := BitVec.ofNat 32 (i 1).val
  let c4_i32_31 : BitVec 32 := 4#32
  let v93 : BitVec 32 := Scalar.muli arg1 c4_i32_31
  let v94 : BitVec 32 := Scalar.addi v93 c0_i32_32
  let v95 : Index := Scalar.indexCast v94
  let c10 : Index := 10#32
  ![v95.toNat, 10]
def k0_off14 (i : grid0.Coords) (c0_i32_35 : BitVec 32) : Fin 2 → Nat :=
  let arg1 : BitVec 32 := BitVec.ofNat 32 (i 1).val
  let c4_i32_34 : BitVec 32 := 4#32
  let v102 : BitVec 32 := Scalar.muli arg1 c4_i32_34
  let v103 : BitVec 32 := Scalar.addi v102 c0_i32_35
  let v104 : Index := Scalar.indexCast v103
  let c11 : Index := 11#32
  ![v104.toNat, 11]
def k0_off15 (i : grid0.Coords) (c0_i32_38 : BitVec 32) : Fin 2 → Nat :=
  let arg1 : BitVec 32 := BitVec.ofNat 32 (i 1).val
  let c4_i32_37 : BitVec 32 := 4#32
  let v111 : BitVec 32 := Scalar.muli arg1 c4_i32_37
  let v112 : BitVec 32 := Scalar.addi v111 c0_i32_38
  let v113 : Index := Scalar.indexCast v112
  let c12 : Index := 12#32
  ![v113.toNat, 12]
def k0_off16 (i : grid0.Coords) (c0_i32_41 : BitVec 32) : Fin 2 → Nat :=
  let arg1 : BitVec 32 := BitVec.ofNat 32 (i 1).val
  let c4_i32_40 : BitVec 32 := 4#32
  let v120 : BitVec 32 := Scalar.muli arg1 c4_i32_40
  let v121 : BitVec 32 := Scalar.addi v120 c0_i32_41
  let v122 : Index := Scalar.indexCast v121
  let c13 : Index := 13#32
  ![v122.toNat, 13]
def k0_off17 (i : grid0.Coords) (c0_i32_44 : BitVec 32) : Fin 2 → Nat :=
  let arg1 : BitVec 32 := BitVec.ofNat 32 (i 1).val
  let c4_i32_43 : BitVec 32 := 4#32
  let v129 : BitVec 32 := Scalar.muli arg1 c4_i32_43
  let v130 : BitVec 32 := Scalar.addi v129 c0_i32_44
  let v131 : Index := Scalar.indexCast v130
  let c14 : Index := 14#32
  ![v131.toNat, 14]
def k0_off18 (i : grid0.Coords) (c0_i32_47 : BitVec 32) : Fin 2 → Nat :=
  let arg1 : BitVec 32 := BitVec.ofNat 32 (i 1).val
  let c4_i32_46 : BitVec 32 := 4#32
  let v138 : BitVec 32 := Scalar.muli arg1 c4_i32_46
  let v139 : BitVec 32 := Scalar.addi v138 c0_i32_47
  let v140 : Index := Scalar.indexCast v139
  let c15 : Index := 15#32
  ![v140.toNat, 15]
def k0_off19 (i : grid0.Coords) (c0_i32_50 : BitVec 32) : Fin 2 → Nat :=
  let arg1 : BitVec 32 := BitVec.ofNat 32 (i 1).val
  let c4_i32_49 : BitVec 32 := 4#32
  let v147 : BitVec 32 := Scalar.muli arg1 c4_i32_49
  let v148 : BitVec 32 := Scalar.addi v147 c0_i32_50
  let v149 : Index := Scalar.indexCast v148
  let c16 : Index := 16#32
  ![v149.toNat, 16]
def k0_off20 (i : grid0.Coords) (c0_i32_53 : BitVec 32) : Fin 2 → Nat :=
  let arg1 : BitVec 32 := BitVec.ofNat 32 (i 1).val
  let c4_i32_52 : BitVec 32 := 4#32
  let v156 : BitVec 32 := Scalar.muli arg1 c4_i32_52
  let v157 : BitVec 32 := Scalar.addi v156 c0_i32_53
  let v158 : Index := Scalar.indexCast v157
  let c17 : Index := 17#32
  ![v158.toNat, 17]
def k0_off21 (i : grid0.Coords) (c0_i32_56 : BitVec 32) : Fin 2 → Nat :=
  let arg1 : BitVec 32 := BitVec.ofNat 32 (i 1).val
  let c4_i32_55 : BitVec 32 := 4#32
  let v165 : BitVec 32 := Scalar.muli arg1 c4_i32_55
  let v166 : BitVec 32 := Scalar.addi v165 c0_i32_56
  let v167 : Index := Scalar.indexCast v166
  let c18 : Index := 18#32
  ![v167.toNat, 18]
def k0_off22 (i : grid0.Coords) (c0_i32_59 : BitVec 32) : Fin 2 → Nat :=
  let arg1 : BitVec 32 := BitVec.ofNat 32 (i 1).val
  let c4_i32_58 : BitVec 32 := 4#32
  let v174 : BitVec 32 := Scalar.muli arg1 c4_i32_58
  let v175 : BitVec 32 := Scalar.addi v174 c0_i32_59
  let v176 : Index := Scalar.indexCast v175
  let c19 : Index := 19#32
  ![v176.toNat, 19]
def k0_off23 (i : grid0.Coords) (c0_i32_62 : BitVec 32) : Fin 2 → Nat :=
  let arg1 : BitVec 32 := BitVec.ofNat 32 (i 1).val
  let c4_i32_61 : BitVec 32 := 4#32
  let v183 : BitVec 32 := Scalar.muli arg1 c4_i32_61
  let v184 : BitVec 32 := Scalar.addi v183 c0_i32_62
  let v185 : Index := Scalar.indexCast v184
  let c20 : Index := 20#32
  ![v185.toNat, 20]
def k0_off24 (i : grid0.Coords) (c0_i32_65 : BitVec 32) : Fin 2 → Nat :=
  let arg1 : BitVec 32 := BitVec.ofNat 32 (i 1).val
  let c4_i32_64 : BitVec 32 := 4#32
  let v192 : BitVec 32 := Scalar.muli arg1 c4_i32_64
  let v193 : BitVec 32 := Scalar.addi v192 c0_i32_65
  let v194 : Index := Scalar.indexCast v193
  let c21 : Index := 21#32
  ![v194.toNat, 21]
def k0_off25 (i : grid0.Coords) (c0_i32_68 : BitVec 32) : Fin 2 → Nat :=
  let arg1 : BitVec 32 := BitVec.ofNat 32 (i 1).val
  let c4_i32_67 : BitVec 32 := 4#32
  let v201 : BitVec 32 := Scalar.muli arg1 c4_i32_67
  let v202 : BitVec 32 := Scalar.addi v201 c0_i32_68
  let v203 : Index := Scalar.indexCast v202
  let c22 : Index := 22#32
  ![v203.toNat, 22]
def k0_off26 (i : grid0.Coords) (c0_i32_71 : BitVec 32) : Fin 2 → Nat :=
  let arg1 : BitVec 32 := BitVec.ofNat 32 (i 1).val
  let c4_i32_70 : BitVec 32 := 4#32
  let v210 : BitVec 32 := Scalar.muli arg1 c4_i32_70
  let v211 : BitVec 32 := Scalar.addi v210 c0_i32_71
  let v212 : Index := Scalar.indexCast v211
  let c23 : Index := 23#32
  ![v212.toNat, 23]
def k0_off27 (i : grid0.Coords) (c0_i32_74 : BitVec 32) : Fin 2 → Nat :=
  let arg1 : BitVec 32 := BitVec.ofNat 32 (i 1).val
  let c4_i32_73 : BitVec 32 := 4#32
  let v219 : BitVec 32 := Scalar.muli arg1 c4_i32_73
  let v220 : BitVec 32 := Scalar.addi v219 c0_i32_74
  let v221 : Index := Scalar.indexCast v220
  let c24 : Index := 24#32
  ![v221.toNat, 24]
def k0_off28 (i : grid0.Coords) (c0_i32_77 : BitVec 32) : Fin 2 → Nat :=
  let arg1 : BitVec 32 := BitVec.ofNat 32 (i 1).val
  let c4_i32_76 : BitVec 32 := 4#32
  let v228 : BitVec 32 := Scalar.muli arg1 c4_i32_76
  let v229 : BitVec 32 := Scalar.addi v228 c0_i32_77
  let v230 : Index := Scalar.indexCast v229
  let c25 : Index := 25#32
  ![v230.toNat, 25]
def k0_off29 (i : grid0.Coords) (c0_i32_80 : BitVec 32) : Fin 2 → Nat :=
  let arg1 : BitVec 32 := BitVec.ofNat 32 (i 1).val
  let c4_i32_79 : BitVec 32 := 4#32
  let v237 : BitVec 32 := Scalar.muli arg1 c4_i32_79
  let v238 : BitVec 32 := Scalar.addi v237 c0_i32_80
  let v239 : Index := Scalar.indexCast v238
  let c26 : Index := 26#32
  ![v239.toNat, 26]
def k0_off30 (i : grid0.Coords) (c0_i32_83 : BitVec 32) : Fin 2 → Nat :=
  let arg1 : BitVec 32 := BitVec.ofNat 32 (i 1).val
  let c4_i32_82 : BitVec 32 := 4#32
  let v246 : BitVec 32 := Scalar.muli arg1 c4_i32_82
  let v247 : BitVec 32 := Scalar.addi v246 c0_i32_83
  let v248 : Index := Scalar.indexCast v247
  let c27 : Index := 27#32
  ![v248.toNat, 27]
def k0_off31 (i : grid0.Coords) (c0_i32_86 : BitVec 32) : Fin 2 → Nat :=
  let arg1 : BitVec 32 := BitVec.ofNat 32 (i 1).val
  let c4_i32_85 : BitVec 32 := 4#32
  let v255 : BitVec 32 := Scalar.muli arg1 c4_i32_85
  let v256 : BitVec 32 := Scalar.addi v255 c0_i32_86
  let v257 : Index := Scalar.indexCast v256
  let c28 : Index := 28#32
  ![v257.toNat, 28]
def k0_off32 (i : grid0.Coords) (c0_i32_89 : BitVec 32) : Fin 2 → Nat :=
  let arg1 : BitVec 32 := BitVec.ofNat 32 (i 1).val
  let c4_i32_88 : BitVec 32 := 4#32
  let v264 : BitVec 32 := Scalar.muli arg1 c4_i32_88
  let v265 : BitVec 32 := Scalar.addi v264 c0_i32_89
  let v266 : Index := Scalar.indexCast v265
  let c29 : Index := 29#32
  ![v266.toNat, 29]
def k0_off33 (i : grid0.Coords) (c0_i32_92 : BitVec 32) : Fin 2 → Nat :=
  let arg1 : BitVec 32 := BitVec.ofNat 32 (i 1).val
  let c4_i32_91 : BitVec 32 := 4#32
  let v273 : BitVec 32 := Scalar.muli arg1 c4_i32_91
  let v274 : BitVec 32 := Scalar.addi v273 c0_i32_92
  let v275 : Index := Scalar.indexCast v274
  let c30 : Index := 30#32
  ![v275.toNat, 30]
def k0_off34 (i : grid0.Coords) (c0_i32_95 : BitVec 32) : Fin 2 → Nat :=
  let arg1 : BitVec 32 := BitVec.ofNat 32 (i 1).val
  let c4_i32_94 : BitVec 32 := 4#32
  let v282 : BitVec 32 := Scalar.muli arg1 c4_i32_94
  let v283 : BitVec 32 := Scalar.addi v282 c0_i32_95
  let v284 : Index := Scalar.indexCast v283
  let c31 : Index := 31#32
  ![v284.toNat, 31]
def k0_off35 (i : grid0.Coords) (c0_i32_98 : BitVec 32) : Fin 2 → Nat :=
  let arg1 : BitVec 32 := BitVec.ofNat 32 (i 1).val
  let c4_i32_97 : BitVec 32 := 4#32
  let v291 : BitVec 32 := Scalar.muli arg1 c4_i32_97
  let v292 : BitVec 32 := Scalar.addi v291 c0_i32_98
  let v293 : Index := Scalar.indexCast v292
  let c32 : Index := 32#32
  ![v293.toNat, 32]
def k0_off36 (i : grid0.Coords) (c0_i32_101 : BitVec 32) : Fin 2 → Nat :=
  let arg1 : BitVec 32 := BitVec.ofNat 32 (i 1).val
  let c4_i32_100 : BitVec 32 := 4#32
  let v300 : BitVec 32 := Scalar.muli arg1 c4_i32_100
  let v301 : BitVec 32 := Scalar.addi v300 c0_i32_101
  let v302 : Index := Scalar.indexCast v301
  let c33 : Index := 33#32
  ![v302.toNat, 33]
def k0_off37 (i : grid0.Coords) (c0_i32_104 : BitVec 32) : Fin 2 → Nat :=
  let arg1 : BitVec 32 := BitVec.ofNat 32 (i 1).val
  let c4_i32_103 : BitVec 32 := 4#32
  let v309 : BitVec 32 := Scalar.muli arg1 c4_i32_103
  let v310 : BitVec 32 := Scalar.addi v309 c0_i32_104
  let v311 : Index := Scalar.indexCast v310
  let c34 : Index := 34#32
  ![v311.toNat, 34]
def k0_off38 (i : grid0.Coords) (c0_i32_107 : BitVec 32) : Fin 2 → Nat :=
  let arg1 : BitVec 32 := BitVec.ofNat 32 (i 1).val
  let c4_i32_106 : BitVec 32 := 4#32
  let v318 : BitVec 32 := Scalar.muli arg1 c4_i32_106
  let v319 : BitVec 32 := Scalar.addi v318 c0_i32_107
  let v320 : Index := Scalar.indexCast v319
  let c35 : Index := 35#32
  ![v320.toNat, 35]
def k0_off39 (i : grid0.Coords) (c0_i32_110 : BitVec 32) : Fin 2 → Nat :=
  let arg1 : BitVec 32 := BitVec.ofNat 32 (i 1).val
  let c4_i32_109 : BitVec 32 := 4#32
  let v327 : BitVec 32 := Scalar.muli arg1 c4_i32_109
  let v328 : BitVec 32 := Scalar.addi v327 c0_i32_110
  let v329 : Index := Scalar.indexCast v328
  let c36 : Index := 36#32
  ![v329.toNat, 36]
def k0_off40 (i : grid0.Coords) (c0_i32_113 : BitVec 32) : Fin 2 → Nat :=
  let arg1 : BitVec 32 := BitVec.ofNat 32 (i 1).val
  let c4_i32_112 : BitVec 32 := 4#32
  let v336 : BitVec 32 := Scalar.muli arg1 c4_i32_112
  let v337 : BitVec 32 := Scalar.addi v336 c0_i32_113
  let v338 : Index := Scalar.indexCast v337
  let c37 : Index := 37#32
  ![v338.toNat, 37]
def k0_off41 (i : grid0.Coords) (c0_i32_116 : BitVec 32) : Fin 2 → Nat :=
  let arg1 : BitVec 32 := BitVec.ofNat 32 (i 1).val
  let c4_i32_115 : BitVec 32 := 4#32
  let v345 : BitVec 32 := Scalar.muli arg1 c4_i32_115
  let v346 : BitVec 32 := Scalar.addi v345 c0_i32_116
  let v347 : Index := Scalar.indexCast v346
  let c38 : Index := 38#32
  ![v347.toNat, 38]
def k0_off42 (i : grid0.Coords) (c0_i32_119 : BitVec 32) : Fin 2 → Nat :=
  let arg1 : BitVec 32 := BitVec.ofNat 32 (i 1).val
  let c4_i32_118 : BitVec 32 := 4#32
  let v354 : BitVec 32 := Scalar.muli arg1 c4_i32_118
  let v355 : BitVec 32 := Scalar.addi v354 c0_i32_119
  let v356 : Index := Scalar.indexCast v355
  let c39 : Index := 39#32
  ![v356.toNat, 39]
def k0_off43 (i : grid0.Coords) (c0_i32_122 : BitVec 32) : Fin 2 → Nat :=
  let arg1 : BitVec 32 := BitVec.ofNat 32 (i 1).val
  let c4_i32_121 : BitVec 32 := 4#32
  let v363 : BitVec 32 := Scalar.muli arg1 c4_i32_121
  let v364 : BitVec 32 := Scalar.addi v363 c0_i32_122
  let v365 : Index := Scalar.indexCast v364
  let c40 : Index := 40#32
  ![v365.toNat, 40]
def k0_off44 (i : grid0.Coords) (c0_i32_125 : BitVec 32) : Fin 2 → Nat :=
  let arg1 : BitVec 32 := BitVec.ofNat 32 (i 1).val
  let c4_i32_124 : BitVec 32 := 4#32
  let v372 : BitVec 32 := Scalar.muli arg1 c4_i32_124
  let v373 : BitVec 32 := Scalar.addi v372 c0_i32_125
  let v374 : Index := Scalar.indexCast v373
  let c41 : Index := 41#32
  ![v374.toNat, 41]
def k0_off45 (i : grid0.Coords) (c0_i32_128 : BitVec 32) : Fin 2 → Nat :=
  let arg1 : BitVec 32 := BitVec.ofNat 32 (i 1).val
  let c4_i32_127 : BitVec 32 := 4#32
  let v381 : BitVec 32 := Scalar.muli arg1 c4_i32_127
  let v382 : BitVec 32 := Scalar.addi v381 c0_i32_128
  let v383 : Index := Scalar.indexCast v382
  let c42 : Index := 42#32
  ![v383.toNat, 42]
def k0_off46 (i : grid0.Coords) (c0_i32_131 : BitVec 32) : Fin 2 → Nat :=
  let arg1 : BitVec 32 := BitVec.ofNat 32 (i 1).val
  let c4_i32_130 : BitVec 32 := 4#32
  let v390 : BitVec 32 := Scalar.muli arg1 c4_i32_130
  let v391 : BitVec 32 := Scalar.addi v390 c0_i32_131
  let v392 : Index := Scalar.indexCast v391
  let c43 : Index := 43#32
  ![v392.toNat, 43]
def k0_off47 (i : grid0.Coords) (c0_i32_134 : BitVec 32) : Fin 2 → Nat :=
  let arg1 : BitVec 32 := BitVec.ofNat 32 (i 1).val
  let c4_i32_133 : BitVec 32 := 4#32
  let v399 : BitVec 32 := Scalar.muli arg1 c4_i32_133
  let v400 : BitVec 32 := Scalar.addi v399 c0_i32_134
  let v401 : Index := Scalar.indexCast v400
  let c44 : Index := 44#32
  ![v401.toNat, 44]
def k0_off48 (i : grid0.Coords) (c0_i32_137 : BitVec 32) : Fin 2 → Nat :=
  let arg1 : BitVec 32 := BitVec.ofNat 32 (i 1).val
  let c4_i32_136 : BitVec 32 := 4#32
  let v408 : BitVec 32 := Scalar.muli arg1 c4_i32_136
  let v409 : BitVec 32 := Scalar.addi v408 c0_i32_137
  let v410 : Index := Scalar.indexCast v409
  let c45 : Index := 45#32
  ![v410.toNat, 45]
def k0_off49 (i : grid0.Coords) (c0_i32_140 : BitVec 32) : Fin 2 → Nat :=
  let arg1 : BitVec 32 := BitVec.ofNat 32 (i 1).val
  let c4_i32_139 : BitVec 32 := 4#32
  let v417 : BitVec 32 := Scalar.muli arg1 c4_i32_139
  let v418 : BitVec 32 := Scalar.addi v417 c0_i32_140
  let v419 : Index := Scalar.indexCast v418
  let c46 : Index := 46#32
  ![v419.toNat, 46]
def k0_off50 (i : grid0.Coords) (c0_i32_143 : BitVec 32) : Fin 2 → Nat :=
  let arg1 : BitVec 32 := BitVec.ofNat 32 (i 1).val
  let c4_i32_142 : BitVec 32 := 4#32
  let v426 : BitVec 32 := Scalar.muli arg1 c4_i32_142
  let v427 : BitVec 32 := Scalar.addi v426 c0_i32_143
  let v428 : Index := Scalar.indexCast v427
  let c47 : Index := 47#32
  ![v428.toNat, 47]
def k0_off51 (i : grid0.Coords) (c0_i32_146 : BitVec 32) : Fin 2 → Nat :=
  let arg1 : BitVec 32 := BitVec.ofNat 32 (i 1).val
  let c4_i32_145 : BitVec 32 := 4#32
  let v435 : BitVec 32 := Scalar.muli arg1 c4_i32_145
  let v436 : BitVec 32 := Scalar.addi v435 c0_i32_146
  let v437 : Index := Scalar.indexCast v436
  let c48 : Index := 48#32
  ![v437.toNat, 48]
def k0_off52 (i : grid0.Coords) (c0_i32_149 : BitVec 32) : Fin 2 → Nat :=
  let arg1 : BitVec 32 := BitVec.ofNat 32 (i 1).val
  let c4_i32_148 : BitVec 32 := 4#32
  let v444 : BitVec 32 := Scalar.muli arg1 c4_i32_148
  let v445 : BitVec 32 := Scalar.addi v444 c0_i32_149
  let v446 : Index := Scalar.indexCast v445
  let c49 : Index := 49#32
  ![v446.toNat, 49]
def k0_off53 (i : grid0.Coords) (c0_i32_152 : BitVec 32) : Fin 2 → Nat :=
  let arg1 : BitVec 32 := BitVec.ofNat 32 (i 1).val
  let c4_i32_151 : BitVec 32 := 4#32
  let v453 : BitVec 32 := Scalar.muli arg1 c4_i32_151
  let v454 : BitVec 32 := Scalar.addi v453 c0_i32_152
  let v455 : Index := Scalar.indexCast v454
  let c50 : Index := 50#32
  ![v455.toNat, 50]
def k0_off54 (i : grid0.Coords) (c0_i32_155 : BitVec 32) : Fin 2 → Nat :=
  let arg1 : BitVec 32 := BitVec.ofNat 32 (i 1).val
  let c4_i32_154 : BitVec 32 := 4#32
  let v462 : BitVec 32 := Scalar.muli arg1 c4_i32_154
  let v463 : BitVec 32 := Scalar.addi v462 c0_i32_155
  let v464 : Index := Scalar.indexCast v463
  let c51 : Index := 51#32
  ![v464.toNat, 51]
def k0_off55 (i : grid0.Coords) (c0_i32_158 : BitVec 32) : Fin 2 → Nat :=
  let arg1 : BitVec 32 := BitVec.ofNat 32 (i 1).val
  let c4_i32_157 : BitVec 32 := 4#32
  let v471 : BitVec 32 := Scalar.muli arg1 c4_i32_157
  let v472 : BitVec 32 := Scalar.addi v471 c0_i32_158
  let v473 : Index := Scalar.indexCast v472
  let c52 : Index := 52#32
  ![v473.toNat, 52]
def k0_off56 (i : grid0.Coords) (c0_i32_161 : BitVec 32) : Fin 2 → Nat :=
  let arg1 : BitVec 32 := BitVec.ofNat 32 (i 1).val
  let c4_i32_160 : BitVec 32 := 4#32
  let v480 : BitVec 32 := Scalar.muli arg1 c4_i32_160
  let v481 : BitVec 32 := Scalar.addi v480 c0_i32_161
  let v482 : Index := Scalar.indexCast v481
  let c53 : Index := 53#32
  ![v482.toNat, 53]
def k0_off57 (i : grid0.Coords) (c0_i32_164 : BitVec 32) : Fin 2 → Nat :=
  let arg1 : BitVec 32 := BitVec.ofNat 32 (i 1).val
  let c4_i32_163 : BitVec 32 := 4#32
  let v489 : BitVec 32 := Scalar.muli arg1 c4_i32_163
  let v490 : BitVec 32 := Scalar.addi v489 c0_i32_164
  let v491 : Index := Scalar.indexCast v490
  let c54 : Index := 54#32
  ![v491.toNat, 54]
def k0_off58 (i : grid0.Coords) (c0_i32_167 : BitVec 32) : Fin 2 → Nat :=
  let arg1 : BitVec 32 := BitVec.ofNat 32 (i 1).val
  let c4_i32_166 : BitVec 32 := 4#32
  let v498 : BitVec 32 := Scalar.muli arg1 c4_i32_166
  let v499 : BitVec 32 := Scalar.addi v498 c0_i32_167
  let v500 : Index := Scalar.indexCast v499
  let c55 : Index := 55#32
  ![v500.toNat, 55]
def k0_off59 (i : grid0.Coords) (c0_i32_170 : BitVec 32) : Fin 2 → Nat :=
  let arg1 : BitVec 32 := BitVec.ofNat 32 (i 1).val
  let c4_i32_169 : BitVec 32 := 4#32
  let v507 : BitVec 32 := Scalar.muli arg1 c4_i32_169
  let v508 : BitVec 32 := Scalar.addi v507 c0_i32_170
  let v509 : Index := Scalar.indexCast v508
  let c56 : Index := 56#32
  ![v509.toNat, 56]
def k0_off60 (i : grid0.Coords) (c0_i32_173 : BitVec 32) : Fin 2 → Nat :=
  let arg1 : BitVec 32 := BitVec.ofNat 32 (i 1).val
  let c4_i32_172 : BitVec 32 := 4#32
  let v516 : BitVec 32 := Scalar.muli arg1 c4_i32_172
  let v517 : BitVec 32 := Scalar.addi v516 c0_i32_173
  let v518 : Index := Scalar.indexCast v517
  let c57 : Index := 57#32
  ![v518.toNat, 57]
def k0_off61 (i : grid0.Coords) (c0_i32_176 : BitVec 32) : Fin 2 → Nat :=
  let arg1 : BitVec 32 := BitVec.ofNat 32 (i 1).val
  let c4_i32_175 : BitVec 32 := 4#32
  let v525 : BitVec 32 := Scalar.muli arg1 c4_i32_175
  let v526 : BitVec 32 := Scalar.addi v525 c0_i32_176
  let v527 : Index := Scalar.indexCast v526
  let c58 : Index := 58#32
  ![v527.toNat, 58]
def k0_off62 (i : grid0.Coords) (c0_i32_179 : BitVec 32) : Fin 2 → Nat :=
  let arg1 : BitVec 32 := BitVec.ofNat 32 (i 1).val
  let c4_i32_178 : BitVec 32 := 4#32
  let v534 : BitVec 32 := Scalar.muli arg1 c4_i32_178
  let v535 : BitVec 32 := Scalar.addi v534 c0_i32_179
  let v536 : Index := Scalar.indexCast v535
  let c59 : Index := 59#32
  ![v536.toNat, 59]
def k0_off63 (i : grid0.Coords) (c0_i32_182 : BitVec 32) : Fin 2 → Nat :=
  let arg1 : BitVec 32 := BitVec.ofNat 32 (i 1).val
  let c4_i32_181 : BitVec 32 := 4#32
  let v543 : BitVec 32 := Scalar.muli arg1 c4_i32_181
  let v544 : BitVec 32 := Scalar.addi v543 c0_i32_182
  let v545 : Index := Scalar.indexCast v544
  let c60 : Index := 60#32
  ![v545.toNat, 60]
def k0_off64 (i : grid0.Coords) (c0_i32_185 : BitVec 32) : Fin 2 → Nat :=
  let arg1 : BitVec 32 := BitVec.ofNat 32 (i 1).val
  let c4_i32_184 : BitVec 32 := 4#32
  let v552 : BitVec 32 := Scalar.muli arg1 c4_i32_184
  let v553 : BitVec 32 := Scalar.addi v552 c0_i32_185
  let v554 : Index := Scalar.indexCast v553
  let c61 : Index := 61#32
  ![v554.toNat, 61]
def k0_off65 (i : grid0.Coords) (c0_i32_188 : BitVec 32) : Fin 2 → Nat :=
  let arg1 : BitVec 32 := BitVec.ofNat 32 (i 1).val
  let c4_i32_187 : BitVec 32 := 4#32
  let v561 : BitVec 32 := Scalar.muli arg1 c4_i32_187
  let v562 : BitVec 32 := Scalar.addi v561 c0_i32_188
  let v563 : Index := Scalar.indexCast v562
  let c62 : Index := 62#32
  ![v563.toNat, 62]
def k0_off66 (i : grid0.Coords) (c0_i32_191 : BitVec 32) : Fin 2 → Nat :=
  let arg1 : BitVec 32 := BitVec.ofNat 32 (i 1).val
  let c4_i32_190 : BitVec 32 := 4#32
  let v570 : BitVec 32 := Scalar.muli arg1 c4_i32_190
  let v571 : BitVec 32 := Scalar.addi v570 c0_i32_191
  let v572 : Index := Scalar.indexCast v571
  let c63 : Index := 63#32
  ![v572.toNat, 63]
def k0_off67 (i : grid0.Coords) (c0_i32_194 : BitVec 32) : Fin 2 → Nat :=
  let arg1 : BitVec 32 := BitVec.ofNat 32 (i 1).val
  let c4_i32_193 : BitVec 32 := 4#32
  let v579 : BitVec 32 := Scalar.muli arg1 c4_i32_193
  let v580 : BitVec 32 := Scalar.addi v579 c0_i32_194
  let v581 : Index := Scalar.indexCast v580
  let c64 : Index := 64#32
  ![v581.toNat, 64]
def k0_off68 (i : grid0.Coords) (c0_i32_197 : BitVec 32) : Fin 2 → Nat :=
  let arg1 : BitVec 32 := BitVec.ofNat 32 (i 1).val
  let c4_i32_196 : BitVec 32 := 4#32
  let v588 : BitVec 32 := Scalar.muli arg1 c4_i32_196
  let v589 : BitVec 32 := Scalar.addi v588 c0_i32_197
  let v590 : Index := Scalar.indexCast v589
  let c65 : Index := 65#32
  ![v590.toNat, 65]
def k0_off69 (i : grid0.Coords) (c0_i32_200 : BitVec 32) : Fin 2 → Nat :=
  let arg1 : BitVec 32 := BitVec.ofNat 32 (i 1).val
  let c4_i32_199 : BitVec 32 := 4#32
  let v597 : BitVec 32 := Scalar.muli arg1 c4_i32_199
  let v598 : BitVec 32 := Scalar.addi v597 c0_i32_200
  let v599 : Index := Scalar.indexCast v598
  let c66 : Index := 66#32
  ![v599.toNat, 66]
def k0_off70 (i : grid0.Coords) (c0_i32_203 : BitVec 32) : Fin 2 → Nat :=
  let arg1 : BitVec 32 := BitVec.ofNat 32 (i 1).val
  let c4_i32_202 : BitVec 32 := 4#32
  let v606 : BitVec 32 := Scalar.muli arg1 c4_i32_202
  let v607 : BitVec 32 := Scalar.addi v606 c0_i32_203
  let v608 : Index := Scalar.indexCast v607
  let c67 : Index := 67#32
  ![v608.toNat, 67]
def k0_off71 (i : grid0.Coords) (c0_i32_206 : BitVec 32) : Fin 2 → Nat :=
  let arg1 : BitVec 32 := BitVec.ofNat 32 (i 1).val
  let c4_i32_205 : BitVec 32 := 4#32
  let v615 : BitVec 32 := Scalar.muli arg1 c4_i32_205
  let v616 : BitVec 32 := Scalar.addi v615 c0_i32_206
  let v617 : Index := Scalar.indexCast v616
  let c68 : Index := 68#32
  ![v617.toNat, 68]
def k0_off72 (i : grid0.Coords) (c0_i32_209 : BitVec 32) : Fin 2 → Nat :=
  let arg1 : BitVec 32 := BitVec.ofNat 32 (i 1).val
  let c4_i32_208 : BitVec 32 := 4#32
  let v624 : BitVec 32 := Scalar.muli arg1 c4_i32_208
  let v625 : BitVec 32 := Scalar.addi v624 c0_i32_209
  let v626 : Index := Scalar.indexCast v625
  let c69 : Index := 69#32
  ![v626.toNat, 69]
def k0_off73 (i : grid0.Coords) (c0_i32_212 : BitVec 32) : Fin 2 → Nat :=
  let arg1 : BitVec 32 := BitVec.ofNat 32 (i 1).val
  let c4_i32_211 : BitVec 32 := 4#32
  let v633 : BitVec 32 := Scalar.muli arg1 c4_i32_211
  let v634 : BitVec 32 := Scalar.addi v633 c0_i32_212
  let v635 : Index := Scalar.indexCast v634
  let c70 : Index := 70#32
  ![v635.toNat, 70]
def k0_off74 (i : grid0.Coords) (c0_i32_215 : BitVec 32) : Fin 2 → Nat :=
  let arg1 : BitVec 32 := BitVec.ofNat 32 (i 1).val
  let c4_i32_214 : BitVec 32 := 4#32
  let v642 : BitVec 32 := Scalar.muli arg1 c4_i32_214
  let v643 : BitVec 32 := Scalar.addi v642 c0_i32_215
  let v644 : Index := Scalar.indexCast v643
  let c71 : Index := 71#32
  ![v644.toNat, 71]
def k0_off75 (i : grid0.Coords) (c0_i32_218 : BitVec 32) : Fin 2 → Nat :=
  let arg1 : BitVec 32 := BitVec.ofNat 32 (i 1).val
  let c4_i32_217 : BitVec 32 := 4#32
  let v651 : BitVec 32 := Scalar.muli arg1 c4_i32_217
  let v652 : BitVec 32 := Scalar.addi v651 c0_i32_218
  let v653 : Index := Scalar.indexCast v652
  let c72 : Index := 72#32
  ![v653.toNat, 72]
def k0_off76 (i : grid0.Coords) (c0_i32_221 : BitVec 32) : Fin 2 → Nat :=
  let arg1 : BitVec 32 := BitVec.ofNat 32 (i 1).val
  let c4_i32_220 : BitVec 32 := 4#32
  let v660 : BitVec 32 := Scalar.muli arg1 c4_i32_220
  let v661 : BitVec 32 := Scalar.addi v660 c0_i32_221
  let v662 : Index := Scalar.indexCast v661
  let c73 : Index := 73#32
  ![v662.toNat, 73]
def k0_off77 (i : grid0.Coords) (c0_i32_224 : BitVec 32) : Fin 2 → Nat :=
  let arg1 : BitVec 32 := BitVec.ofNat 32 (i 1).val
  let c4_i32_223 : BitVec 32 := 4#32
  let v669 : BitVec 32 := Scalar.muli arg1 c4_i32_223
  let v670 : BitVec 32 := Scalar.addi v669 c0_i32_224
  let v671 : Index := Scalar.indexCast v670
  let c74 : Index := 74#32
  ![v671.toNat, 74]
def k0_off78 (i : grid0.Coords) (c0_i32_227 : BitVec 32) : Fin 2 → Nat :=
  let arg1 : BitVec 32 := BitVec.ofNat 32 (i 1).val
  let c4_i32_226 : BitVec 32 := 4#32
  let v678 : BitVec 32 := Scalar.muli arg1 c4_i32_226
  let v679 : BitVec 32 := Scalar.addi v678 c0_i32_227
  let v680 : Index := Scalar.indexCast v679
  let c75 : Index := 75#32
  ![v680.toNat, 75]
def k0_off79 (i : grid0.Coords) (c0_i32_230 : BitVec 32) : Fin 2 → Nat :=
  let arg1 : BitVec 32 := BitVec.ofNat 32 (i 1).val
  let c4_i32_229 : BitVec 32 := 4#32
  let v687 : BitVec 32 := Scalar.muli arg1 c4_i32_229
  let v688 : BitVec 32 := Scalar.addi v687 c0_i32_230
  let v689 : Index := Scalar.indexCast v688
  let c76 : Index := 76#32
  ![v689.toNat, 76]
def k0_off80 (i : grid0.Coords) (c0_i32_233 : BitVec 32) : Fin 2 → Nat :=
  let arg1 : BitVec 32 := BitVec.ofNat 32 (i 1).val
  let c4_i32_232 : BitVec 32 := 4#32
  let v696 : BitVec 32 := Scalar.muli arg1 c4_i32_232
  let v697 : BitVec 32 := Scalar.addi v696 c0_i32_233
  let v698 : Index := Scalar.indexCast v697
  let c77 : Index := 77#32
  ![v698.toNat, 77]
def k0_off81 (i : grid0.Coords) (c0_i32_236 : BitVec 32) : Fin 2 → Nat :=
  let arg1 : BitVec 32 := BitVec.ofNat 32 (i 1).val
  let c4_i32_235 : BitVec 32 := 4#32
  let v705 : BitVec 32 := Scalar.muli arg1 c4_i32_235
  let v706 : BitVec 32 := Scalar.addi v705 c0_i32_236
  let v707 : Index := Scalar.indexCast v706
  let c78 : Index := 78#32
  ![v707.toNat, 78]
def k0_off82 (i : grid0.Coords) (c0_i32_239 : BitVec 32) : Fin 2 → Nat :=
  let arg1 : BitVec 32 := BitVec.ofNat 32 (i 1).val
  let c4_i32_238 : BitVec 32 := 4#32
  let v714 : BitVec 32 := Scalar.muli arg1 c4_i32_238
  let v715 : BitVec 32 := Scalar.addi v714 c0_i32_239
  let v716 : Index := Scalar.indexCast v715
  let c79 : Index := 79#32
  ![v716.toNat, 79]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S56x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x10240 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x10240 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3x8192x10240 : Shape := ⟨3, ![3, 8192, 10240]⟩
abbrev S7168x10240 : Shape := ⟨2, ![7168, 10240]⟩
abbrev S56x80 : Shape := ⟨2, ![56, 80]⟩
abbrev S24576x10240 : Shape := ⟨2, ![24576, 10240]⟩
abbrev S24576x7168 : Shape := ⟨2, ![24576, 7168]⟩
abbrev S24576x80 : Shape := ⟨2, ![24576, 80]⟩
abbrev S24576x80x128 : Shape := ⟨3, ![24576, 80, 128]⟩
abbrev S24576x80x1 : Shape := ⟨3, ![24576, 80, 1]⟩
abbrev S56x128x80x128 : Shape := ⟨4, ![56, 128, 80, 128]⟩
abbrev S56x1x80x1 : Shape := ⟨4, ![56, 1, 80, 1]⟩

abbrev nBuf : Space → Nat
  | .hbm => 7
  | .vmem => 6
  | .smem => 0
  | _ => 0

abbrev bufTy : (tb : Table) → Fin (tcTables nBuf tb) → BufTy
  | .hbm, ⟨0, _⟩ => ⟨S3x8192x10240, .bf16⟩
  | .hbm, ⟨1, _⟩ => ⟨S7168x10240, .fp8e4m3⟩
  | .hbm, ⟨2, _⟩ => ⟨S56x80, .f32⟩
  | .hbm, ⟨3, _⟩ => ⟨S24576x10240, .bf16⟩
  | .hbm, ⟨4, _⟩ => ⟨S24576x7168, .bf16⟩
  | .hbm, ⟨5, _⟩ => ⟨S24576x10240, .fp8e4m3⟩
  | .hbm, ⟨6, _⟩ => ⟨S24576x80, .f32⟩
  | .local _ .vmem, ⟨0, _⟩ => ⟨S24576x10240, .bf16⟩
  | .local _ .vmem, ⟨1, _⟩ => ⟨S7168x10240, .fp8e4m3⟩
  | .local _ .vmem, ⟨2, _⟩ => ⟨S56x80, .f32⟩
  | .local _ .vmem, ⟨3, _⟩ => ⟨S24576x7168, .bf16⟩
  | .local _ .vmem, ⟨4, _⟩ => ⟨S24576x10240, .fp8e4m3⟩
  | .local _ .vmem, ⟨5, _⟩ => ⟨S24576x80, .f32⟩
  | _, _ => ⟨S3x8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kern.RowLoop.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one trip of the row loop holds: the gradient block `arg3` it reads, and the three buffers it
    stores into. -/
abbrev TripRes (c : Dev nD) (arg3 : Memref sig .tc .vmem S512x10240 .bf16) (arg6 : Memref sig .tc .vmem S512x10240 .fp8e4m3) (arg7 : Memref sig .tc .vmem S512x80 .f32) (arg8 : Memref sig .tc .vmem S512x10240 .bf16)
    (X3 : BufTy.Contents (Elt F) arg3.view.ty) (f6 : BufTy.Contents (Elt F) arg6.view.ty) (f7 : BufTy.Contents (Elt F) arg7.view.ty) (f8 : BufTy.Contents (Elt F) arg8.view.ty) : sProp 𝕄 :=
  iprop((arg3.view.loc (c : Thread nD τ) ↦[arg3.view.set]{fullShare} X3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- One trip of the row loop: the pieces it writes are what the run of its body finds. -/
@[irreducible] def tripO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (k : Fin k0_t1_loop.trips) :
    Σ' (L6 : List (View.Piece (Elt F) S512x10240 .fp8e4m3)) (L7 : List (View.Piece (Elt F) S512x80 .f32)), { L8 : List (View.Piece (Elt F) S512x10240 .bf16) // ∀ (E : Set ℕ) (f6 : BufTy.Contents (Elt F) arg6.view.ty) (f7 : BufTy.Contents (Elt F) arg7.view.ty) (f8 : BufTy.Contents (Elt F) arg8.view.ty),
      TripRes (F := F) c arg3 arg6 arg7 arg8 X3 f6 f7 f8
      ⊢ wp frame (wpE (defs₀ (F := F)) 𝒱 (c : Thread nD τ) bd) E (k0_t1_body (F := F) i arg2 harg2 arg3 harg3 arg4 harg4 arg5 harg5 arg6 harg6 arg7 harg7 arg8 harg8 k0_h1 k ())
          (fun _ => TripRes (F := F) c arg3 arg6 arg7 arg8 X3 (arg6.view.writes (Elt F) f6 L6) (arg7.view.writes (Elt F) f7 L7) (arg8.view.writes (Elt F) f8 L8)) } := by
  have hk : k.val < 8 := Nat.lt_of_lt_of_le k.isLt k0_t1_abs.2.1
  refine ⟨?_, ?_, ?_, fun E f6 f7 f8 => ?run⟩
  case run =>
    unfold k0_t1_body
    iintro ⟨HR3, HW6, HW7, HW8⟩
    sl_exec
    sl_step
    isplitl [HR3]; · iexact HR3
    isplitl [HW6]; · iexact HW6
    isplitl [HW7]; · iexact HW7
    iexact HW8

/-- The pieces of the trips before trip `k`, last first, per buffer. -/
def piecesO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) : ℕ → List (View.Piece (Elt F) S512x10240 .fp8e4m3) × List (View.Piece (Elt F) S512x80 .f32) × List (View.Piece (Elt F) S512x10240 .bf16)
  | 0 => ([], [], [])
  | k + 1 =>
    if h : k < k0_t1_loop.trips then
      ((tripO (F := F) 𝒱 c bd i arg2 harg2 arg3 harg3 arg4 harg4 arg5 harg5 arg6 harg6 arg7 harg7 arg8 harg8 k0_h1 X3 ⟨k, h⟩).1 ++ (piecesO 𝒱 c bd i arg2 harg2 arg3 harg3 arg4 harg4 arg5 harg5 arg6 harg6 arg7 harg7 arg8 harg8 k0_h1 X3 k).1,
       (tripO (F := F) 𝒱 c bd i arg2 harg2 arg3 harg3 arg4 harg4 arg5 harg5 arg6 harg6 arg7 harg7 arg8 harg8 k0_h1 X3 ⟨k, h⟩).2.1 ++ (piecesO 𝒱 c bd i arg2 harg2 arg3 harg3 arg4 harg4 arg5 harg5 arg6 harg6 arg7 harg7 arg8 harg8 k0_h1 X3 k).2.1,
       (tripO (F := F) 𝒱 c bd i arg2 harg2 arg3 harg3 arg4 harg4 arg5 harg5 arg6 harg6 arg7 harg7 arg8 harg8 k0_h1 X3 ⟨k, h⟩).2.2.1 ++ (piecesO 𝒱 c bd i arg2 harg2 arg3 harg3 arg4 harg4 arg5 harg5 arg6 harg6 arg7 harg7 arg8 harg8 k0_h1 X3 k).2.2)
    else piecesO 𝒱 c bd i arg2 harg2 arg3 harg3 arg4 harg4 arg5 harg5 arg6 harg6 arg7 harg7 arg8 harg8 k0_h1 X3 k

theorem piecesO_succ (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (k : Fin k0_t1_loop.trips) :
    piecesO (F := F) 𝒱 c bd i arg2 harg2 arg3 harg3 arg4 harg4 arg5 harg5 arg6 harg6 arg7 harg7 arg8 harg8 k0_h1 X3 (k.val + 1)
      = ((tripO (F := F) 𝒱 c bd i arg2 harg2 arg3 harg3 arg4 harg4 arg5 harg5 arg6 harg6 arg7 harg7 arg8 harg8 k0_h1 X3 k).1 ++ (piecesO (F := F) 𝒱 c bd i arg2 harg2 arg3 harg3 arg4 harg4 arg5 harg5 arg6 harg6 arg7 harg7 arg8 harg8 k0_h1 X3 k.val).1,
         (tripO (F := F) 𝒱 c bd i arg2 harg2 arg3 harg3 arg4 harg4 arg5 harg5 arg6 harg6 arg7 harg7 arg8 harg8 k0_h1 X3 k).2.1 ++ (piecesO (F := F) 𝒱 c bd i arg2 harg2 arg3 harg3 arg4 harg4 arg5 harg5 arg6 harg6 arg7 harg7 arg8 harg8 k0_h1 X3 k.val).2.1,
         (tripO (F := F) 𝒱 c bd i arg2 harg2 arg3 harg3 arg4 harg4 arg5 harg5 arg6 harg6 arg7 harg7 arg8 harg8 k0_h1 X3 k).2.2.1 ++ (piecesO (F := F) 𝒱 c bd i arg2 harg2 arg3 harg3 arg4 harg4 arg5 harg5 arg6 harg6 arg7 harg7 arg8 harg8 k0_h1 X3 k.val).2.2) := by
  rw [piecesO.eq_2]; exact dif_pos k.isLt

/-- The invariant of the row loop before trip `k`: each buffer stored into holds the pieces of the trips
    before `k` over what it held at entry. -/
abbrev invO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (G6 : BufTy.Contents (Elt F) arg6.view.ty) (G7 : BufTy.Contents (Elt F) arg7.view.ty) (G8 : BufTy.Contents (Elt F) arg8.view.ty) (k : ℕ) (_ : Unit) : sProp 𝕄 :=
  iprop((arg3.view.loc (c : Thread nD τ) ↦[arg3.view.set]{fullShare} X3)
    ∗ (∃ f, (arg6.view.loc (c : Thread nD τ) ↦[arg6.view.set]{fullShare} f) ∗ ⌜f = arg6.view.writes (Elt F) G6 (piecesO (F := F) 𝒱 c bd i arg2 harg2 arg3 harg3 arg4 harg4 arg5 harg5 arg6 harg6 arg7 harg7 arg8 harg8 k0_h1 X3 k).1⌝)
    ∗ (∃ f, (arg7.view.loc (c : Thread nD τ) ↦[arg7.view.set]{fullShare} f) ∗ ⌜f = arg7.view.writes (Elt F) G7 (piecesO (F := F) 𝒱 c bd i arg2 harg2 arg3 harg3 arg4 harg4 arg5 harg5 arg6 harg6 arg7 harg7 arg8 harg8 k0_h1 X3 k).2.1⌝)
    ∗ (∃ f, (arg8.view.loc (c : Thread nD τ) ↦[arg8.view.set]{fullShare} f) ∗ ⌜f = arg8.view.writes (Elt F) G8 (piecesO (F := F) 𝒱 c bd i arg2 harg2 arg3 harg3 arg4 harg4 arg5 harg5 arg6 harg6 arg7 harg7 arg8 harg8 k0_h1 X3 k).2.2⌝))

set_option warn.classDefReducibility false in
/-- The row loop by its invariant. -/
@[sl_loop] def loopInvO (𝒱 : Variants) (c : Dev nD) (bd : Option 𝒱.V) (E : Set ℕ) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (G6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 k0_h1 where
  inv := invO (F := F) 𝒱 c bd i arg2 harg2 arg3 harg3 arg4 harg4 arg5 harg5 arg6 harg6 arg7 harg7 arg8 harg8 k0_h1 X3 G6 G7 G8
  step k acc := by
    iintro ⟨HR3, ⟨%f6, HW6, %h6⟩, ⟨%f7, HW7, %h7⟩, ⟨%f8, HW8, %h8⟩⟩
    iapply (wp_wand_r Idealize.ShloMosaic.frame (wpE (defs₀ (F := F)) 𝒱 (c : Thread nD τ) bd) E)
    isplitl [HR3 HW6 HW7 HW8]
    · iapply ((tripO (F := F) 𝒱 c bd i arg2 harg2 arg3 harg3 arg4 harg4 arg5 harg5 arg6 harg6 arg7 harg7 arg8 harg8 k0_h1 X3 k).2.2.2 E f6 f7 f8)
      isplitl [HR3]; · iexact HR3
      isplitl [HW6]; · iexact HW6
      isplitl [HW7]; · iexact HW7
      iexact HW8
    · iintro %yld ⟨HR3, HW6, HW7, HW8⟩
      isplitl [HR3]; · iexact HR3
      simp only [piecesO_succ]
      isplitl [HW6]
      · iexists _; isplitl [HW6]; · iexact HW6
        ipureintro; rw [h6, ← View.writes_append]
      isplitl [HW7]
      · iexists _; isplitl [HW7]; · iexact HW7
        ipureintro; rw [h7, ← View.writes_append]
      iexists _; isplitl [HW8]; · iexact HW8
      ipureintro; rw [h8, ← View.writes_append]

end Cert.Kernel.Dgrad

end
-- ==== Proof.Kern.RunA.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import proofs.«01_k».proof.Proof.Kern.RowLoop
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 100000000 in
noncomputable def runA (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1)
    (x0 : Vec F S56x80 .f32) (x1 : Vec F S512x10240 .bf16) (x2 : Vec F S512x10240 .fp8e4m3) (xs : Vec F S512x10240 .bf16) :
    Σ' (L3 : List (View.Piece (Elt F) S512x512 .bf16)) (L6 : List (View.Piece (Elt F) S512x10240 .fp8e4m3)) (L7 : List (View.Piece (Elt F) S512x80 .f32)), { L8 : List (View.Piece (Elt F) S512x10240 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0_fp8_dgrad i arg2 harg2 arg3 harg3 arg4 harg4 arg5 harg5 arg6 harg6 arg7 harg7 arg8 harg8) K } := by
  refine ⟨?_, ?_, ?_, ?_, fun E K => ?run⟩
  case run =>
    simp only [cc0_fp8_dgrad_eq_skeleton]; unfold cc0_fp8_dgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS0

end Cert.Kernel.Dgrad

end
-- ==== Proof.Kern.RunB.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 100000000 in
noncomputable def runB (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : ¬ k0_cond1 i = 1#1)
    (x0 : Vec F S56x80 .f32) (x2 : Vec F S512x10240 .fp8e4m3) (xs : Vec F S512x10240 .bf16) :
    { L3 : List (View.Piece (Elt F) S512x512 .bf16) //
      ∀ (E : Set ℕ) (K : PUnit → sProp 𝕄),
        iprop(owns (c : Thread nD τ) arg2 fullShare x0 ∗ owns (c : Thread nD τ) arg4 fullShare x2 ∗ (∃ d, owns (c : Thread nD τ) arg5 fullShare d) ∗ owns (c : Thread nD τ) arg8 fullShare xs
            ∗ (iprop(owns (c : Thread nD τ) arg2 fullShare x0 ∗ owns (c : Thread nD τ) arg4 fullShare x2 ∗ (∃ f, arg5.view.loc (c : Thread nD τ) ↦[arg5.view.set]{fullShare} arg5.view.writes (Elt F) f L3) ∗ owns (c : Thread nD τ) arg8 fullShare xs) -∗ K ⟨⟩))
          ⊢ wp frame (wpE (defs₀ (F := F)) Variants.none c none) E (cc0_fp8_dgrad i arg2 harg2 arg3 harg3 arg4 harg4 arg5 harg5 arg6 harg6 arg7 harg7 arg8 harg8) K } := by
  refine ⟨?_, fun E K => ?run⟩
  case run =>
    simp only [cc0_fp8_dgrad_eq_skeleton]; unfold cc0_fp8_dgrad_skel
    unfold owns
    iintro ⟨⟨%f0, %hf0, H0⟩, ⟨%f2, %hf2, H2⟩, ⟨%d3, %f3, -, H3⟩, ⟨%fs0, %hfs0, HS0⟩, Hk⟩
    obtain rfl := harg2.eq_unread hf0; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H2]
    · iexists _; isplitr; · ipureintro; exact harg4.read_unread _
      iexact H2
    isplitl [H3]; · iexists _; iexact H3
    iexists _; isplitr; · ipureintro; exact harg8.read_unread _
    iexact HS0

end Cert.Kernel.Dgrad

end
-- ==== Proof.Kern.Tiles.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import proofs.«01_k».proof.Proof.Kern.RunA
public import Idealize.ShloMosaic.Lib.WritesUnit
public import Idealize.ShloMosaic.Lib.ValueIdxCore
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The coordinates of a rank-2 index are below the extents. -/
theorem lt0 {a b : ℕ} (y : (⟨2, ![a, b]⟩ : Shape).Idx) : (y 0).val < a := (y 0).isLt
theorem lt1 {a b : ℕ} (y : (⟨2, ![a, b]⟩ : Shape).Idx) : (y 1).val < b := (y 1).isLt

/-- Two rank-2 indices with the same coordinates are equal. -/
theorem idx_ext {a b : ℕ} {y z : (⟨2, ![a, b]⟩ : Shape).Idx} (h0 : (y 0).val = (z 0).val) (h1 : (y 1).val = (z 1).val) : y = z :=
  funext fun d => Fin.ext (by fin_cases d; exacts [h0, h1])

/-! ## One 64-by-128 tile -/

/-- The codes of one tile, -/
def codeT (v : Vec F S64x128 .bf16) : FVec F S64x128 .fp8e4m3 := k0_pay10 (k0_pay1 v) (k0_pay2 v) (k0_pay3 v) (k0_pay4 v) (k0_pay5 v)
/-- what they stand for, -/
def wideT (v : Vec F S64x128 .bf16) : FVec F S64x128 .bf16 := k0_pay11 (k0_pay1 v) (k0_pay2 v) (k0_pay3 v) (k0_pay4 v) (k0_pay5 v)
/-- and the scale of each row of the tile, the same in every lane. -/
def scaleT (v : Vec F S64x128 .bf16) : FVec F S64x128 .f32 := k0_pay9 (k0_pay2 v) (k0_pay3 v) (k0_pay4 v) (k0_pay5 v)

/-- Tile `(a, b)` of a 512-by-10240 block. -/
def tile (x : Vec F S512x10240 .bf16) (a : Fin 8) (b : Fin 80) : Vec F S64x128 .bf16 := fun y =>
  x (ix2 ⟨64 * a.val + (y 0).val, by have := lt0 y; omega⟩ ⟨128 * b.val + (y 1).val, by have := lt1 y; omega⟩)

/-- The tile an element of the block lies in, and its place there. -/
def ta (y : S512x10240.Idx) : Fin 8 := ⟨(y 0).val / 64, by have := lt0 y; omega⟩
def tb (y : S512x10240.Idx) : Fin 80 := ⟨(y 1).val / 128, by have := lt1 y; omega⟩
def tl (y : S512x10240.Idx) : S64x128.Idx := ix2 ⟨(y 0).val % 64, Nat.mod_lt _ (by omega)⟩ ⟨(y 1).val % 128, Nat.mod_lt _ (by omega)⟩

/-- The codes of a 512-by-10240 block, what they stand for, and its scales. -/
def codes (x : Vec F S512x10240 .bf16) : Vec F S512x10240 .fp8e4m3 := fun y => codeT (tile x (ta y) (tb y)) (tl y)
def wide (x : Vec F S512x10240 .bf16) : Vec F S512x10240 .bf16 := fun y => wideT (tile x (ta y) (tb y)) (tl y)
def scales (x : Vec F S512x10240 .bf16) : Vec F S512x80 .f32 := fun y =>
  scaleT (tile x ⟨(y 0).val / 64, by have := lt0 y; omega⟩ ⟨(y 1).val, lt1 y⟩)
    (ix2 ⟨(y 0).val % 64, Nat.mod_lt _ (by omega)⟩ ⟨(y 1).val, by have := lt1 y; omega⟩)

/-! ## One trip of the tile loop -/

theorem lt_t1 (k : Fin k0_t1_loop.trips) : k.val < 8 := Nat.lt_of_lt_of_le k.isLt k0_t1_abs.2.1
theorem lt_t2 (k : Fin k0_t2_loop.trips) : k.val < 80 := Nat.lt_of_lt_of_le k.isLt k0_t2_abs.2.1

/-- The tile a trip loads. -/
theorem rd_tile (arg3 : Memref sig .tc .vmem S512x10240 .bf16) (harg3 : arg3.IsWhole) (x1 : Vec F S512x10240 .bf16)
    (k1 : Fin k0_t1_loop.trips) (k2 : Fin k0_t2_loop.trips) (inb) :
    arg3.view.readAt (Elt F) (Rect.unit (s := S512x10240) (k0_off1 k1 k2) S64x128.size inb).toLoadRect (harg3.unread x1)
      = tile x1 ⟨k1.val, lt_t1 k1⟩ ⟨k2.val, lt_t2 k2⟩ := by
  funext y
  rw [View.readAt_apply, harg3.read_unread]
  unfold tile
  congr 1
  have h0 : k0_off1 k1 k2 0 = 64 * k1.val := by rw [k0_off1_eq]; rfl
  have h1 : k0_off1 k1 k2 1 = 128 * k2.val := by rw [k0_off1_eq]; rfl
  refine idx_ext ?_ ?_
  · show k0_off1 k1 k2 0 + 1 * (y 0).val = 64 * k1.val + (y 0).val
    omega
  · show k0_off1 k1 k2 1 + 1 * (y 1).val = 128 * k2.val + (y 1).val
    omega

theorem tripR_eq (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (k2 : Fin k0_t2_loop.trips) (acc : FVec F S64x128 .f32) :
    tripR_k0_t2 (F := F) 𝒱 c bd i arg2 harg2 arg3 harg3 arg4 harg4 arg5 harg5 arg6 harg6 arg7 harg7 arg8 harg8 k0_h1 k1 v (harg3.unread x1) k2 acc
      = select (cmpi .eq (iota .tc S64x128 32 [1] iota_S64x128_d1_w32) (broadcast S64x128 (Scf.iv 0#32 1#32 k2.val)))
          (scaleT (tile x1 ⟨k1.val, lt_t1 k1⟩ ⟨k2.val, lt_t2 k2⟩)) acc := by
  rw [← rd_tile arg3 harg3 x1 k1 k2 (k0_off1_inb i k1 k2 k0_h1)]
  unfold tripR_k0_t2 trip_k0_t2
  rfl

theorem tripL_eq (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (k2 : Fin k0_t2_loop.trips) (acc : FVec F S64x128 .f32) :
    tripL_k0_t2 (F := F) 𝒱 c bd i arg2 harg2 arg3 harg3 arg4 harg4 arg5 harg5 arg6 harg6 arg7 harg7 arg8 harg8 k0_h1 k1 v (harg3.unread x1) k2 acc
      = ([⟨Rect.unit (s := S512x10240) (k0_off1 k1 k2) S64x128.size (k0_off1_inb i k1 k2 k0_h1), codeT (tile x1 ⟨k1.val, lt_t1 k1⟩ ⟨k2.val, lt_t2 k2⟩)⟩],
         [⟨Rect.unit (s := S512x10240) (k0_off1 k1 k2) S64x128.size (k0_off1_inb i k1 k2 k0_h1), wideT (tile x1 ⟨k1.val, lt_t1 k1⟩ ⟨k2.val, lt_t2 k2⟩)⟩]) := by
  rw [← rd_tile arg3 harg3 x1 k1 k2 (k0_off1_inb i k1 k2 k0_h1)]
  unfold tripL_k0_t2 trip_k0_t2
  rfl

/-! ## The tile loop -/

/-- A tile's store, read back: the tile's element inside it, what was there elsewhere. -/
theorem read_tile {e : EltTy} (v : View sig .tc .vmem S512x10240 e) (f : v.ty.Contents (Elt F)) (L : List (View.Piece (Elt F) S512x10240 e))
    (k1 : Fin k0_t1_loop.trips) (k2 : Fin k0_t2_loop.trips) (inb) (w : S64x128.Idx → Elt F e) (y : S512x10240.Idx) :
    v.read (Elt F) (v.writes (Elt F) f ((⟨Rect.unit (s := S512x10240) (k0_off1 k1 k2) S64x128.size inb, w⟩ : View.Piece (Elt F) S512x10240 e) :: L)) y
      = if (y 0).val / 64 = k1.val ∧ (y 1).val / 128 = k2.val then w (tl y) else v.read (Elt F) (v.writes (Elt F) f L) y := by
  split
  · rename_i h
    refine View.read_writes_cons_unit_of_mem v f inb w L y (tl y) (k0_off1_eq k1 k2) ?_
    intro a
    fin_cases a
    · show (y 0).val = 64 * k1.val + (y 0).val % 64
      omega
    · show (y 1).val = 128 * k2.val + (y 1).val % 128
      omega
  · rename_i h
    by_cases h0 : (y 0).val / 64 = k1.val
    · have h1 : ¬ (y 1).val / 128 = k2.val := fun h1 => h ⟨h0, h1⟩
      refine View.read_writes_cons_unit_of_not_mem v f inb w L y (k0_off1_eq k1 k2) 1 ?_
      show (y 1).val < 128 * k2.val ∨ 128 * k2.val + 128 ≤ (y 1).val
      omega
    · refine View.read_writes_cons_unit_of_not_mem v f inb w L y (k0_off1_eq k1 k2) 0 ?_
      show (y 0).val < 64 * k1.val ∨ 64 * k1.val + 64 ≤ (y 0).val
      omega

theorem st_codes (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (f : arg6.view.ty.Contents (Elt F)) (y : S512x10240.Idx) : ∀ k : ℕ, k ≤ k0_t2_loop.trips →
    arg6.view.read (Elt F) (arg6.view.writes (Elt F) f (st_k0_t2 (F := F) 𝒱 c bd i arg2 harg2 arg3 harg3 arg4 harg4 arg5 harg5 arg6 harg6 arg7 harg7 arg8 harg8 k0_h1 k1 v (harg3.unread x1) init k).2.1) y
      = if (y 0).val / 64 = k1.val ∧ (y 1).val / 128 < k then codes x1 y else arg6.view.read (Elt F) f y
  | 0, _ => by rw [if_neg (by omega)]; rfl
  | k + 1, hk => by
    have hk' : k < k0_t2_loop.trips := hk
    rw [show k + 1 = (⟨k, hk'⟩ : Fin k0_t2_loop.trips).val + 1 from rfl, st_k0_t2_succ, tripL_eq]
    dsimp only [List.cons_append, List.nil_append]
    rw [read_tile, st_codes _ _ _ i arg2 harg2 arg3 harg3 arg4 harg4 arg5 harg5 arg6 harg6 arg7 harg7 arg8 harg8 k0_h1 k1 v x1 init f y k (by omega)]
    by_cases h0 : (y 0).val / 64 = k1.val
    · by_cases h1 : (y 1).val / 128 = k
      · rw [if_pos ⟨h0, h1⟩, if_pos ⟨h0, by omega⟩]
        unfold codes
        rw [show ta y = ⟨k1.val, lt_t1 k1⟩ from Fin.ext h0, show tb y = ⟨k, lt_t2 ⟨k, hk'⟩⟩ from Fin.ext h1]
      · rw [if_neg (fun h => h1 h.2)]
        by_cases h2 : (y 1).val / 128 < k
        · rw [if_pos ⟨h0, h2⟩, if_pos ⟨h0, by omega⟩]
        · rw [if_neg (fun h => h2 h.2), if_neg (fun h => by omega)]
    · rw [if_neg (fun h => h0 h.1), if_neg (fun h => h0 h.1), if_neg (fun h => h0 h.1)]

theorem st_wide (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (f : arg8.view.ty.Contents (Elt F)) (y : S512x10240.Idx) : ∀ k : ℕ, k ≤ k0_t2_loop.trips →
    arg8.view.read (Elt F) (arg8.view.writes (Elt F) f (st_k0_t2 (F := F) 𝒱 c bd i arg2 harg2 arg3 harg3 arg4 harg4 arg5 harg5 arg6 harg6 arg7 harg7 arg8 harg8 k0_h1 k1 v (harg3.unread x1) init k).2.2) y
      = if (y 0).val / 64 = k1.val ∧ (y 1).val / 128 < k then wide x1 y else arg8.view.read (Elt F) f y
  | 0, _ => by rw [if_neg (by omega)]; rfl
  | k + 1, hk => by
    have hk' : k < k0_t2_loop.trips := hk
    rw [show k + 1 = (⟨k, hk'⟩ : Fin k0_t2_loop.trips).val + 1 from rfl, st_k0_t2_succ, tripL_eq]
    dsimp only [List.cons_append, List.nil_append]
    rw [read_tile, st_wide _ _ _ i arg2 harg2 arg3 harg3 arg4 harg4 arg5 harg5 arg6 harg6 arg7 harg7 arg8 harg8 k0_h1 k1 v x1 init f y k (by omega)]
    by_cases h0 : (y 0).val / 64 = k1.val
    · by_cases h1 : (y 1).val / 128 = k
      · rw [if_pos ⟨h0, h1⟩, if_pos ⟨h0, by omega⟩]
        unfold wide
        rw [show ta y = ⟨k1.val, lt_t1 k1⟩ from Fin.ext h0, show tb y = ⟨k, lt_t2 ⟨k, hk'⟩⟩ from Fin.ext h1]
      · rw [if_neg (fun h => h1 h.2)]
        by_cases h2 : (y 1).val / 128 < k
        · rw [if_pos ⟨h0, h2⟩, if_pos ⟨h0, by omega⟩]
        · rw [if_neg (fun h => h2 h.2), if_neg (fun h => by omega)]
    · rw [if_neg (fun h => h0 h.1), if_neg (fun h => h0 h.1), if_neg (fun h => h0 h.1)]

theorem select_lane (k : ℕ) (hk : k < 80) (a b : FVec F S64x128 .f32) (y : S64x128.Idx) :
    select (cmpi .eq (iota .tc S64x128 32 [1] iota_S64x128_d1_w32) (broadcast S64x128 (Scf.iv 0#32 1#32 k))) a b y
      = if (y 1).val = k then a y else b y := by
  have hy := lt1 y
  have e : Scf.iv 0#32 1#32 k = BitVec.ofNat 32 k := by simp [Scf.iv]
  show Scalar.select (IntOp.cmpi .eq (iota .tc S64x128 32 [1] iota_S64x128_d1_w32 y) (Scf.iv 0#32 1#32 k)) (a y) (b y) = _
  have ei : iota .tc S64x128 32 [1] iota_S64x128_d1_w32 y = BitVec.ofNat 32 (y 1).val := by
    show BitVec.ofNat 32 (List.foldl (fun n a => n * S64x128.size a + (y a).val) 0 [1]) = _
    simp
  rw [e, ei]
  have hc : IntOp.cmpi .eq (BitVec.ofNat 32 (y 1).val) (BitVec.ofNat 32 k) = BitVec.ofBool (decide ((y 1).val = k)) := by
    by_cases h : (y 1).val = k
    · rw [h]; simp [IntOp.cmpi]
    · have hne : ¬ (BitVec.ofNat 32 (y 1).val = BitVec.ofNat 32 k) := fun h' => h (by
        have := congrArg BitVec.toNat h'
        simp only [BitVec.toNat_ofNat] at this
        omega)
      rw [IntOp.cmpi, beq_eq_false_iff_ne.mpr hne, decide_eq_false h]
  rw [hc]
  by_cases h : (y 1).val = k
  · rw [if_pos h]; simp [h, Scalar.select]
  · rw [if_neg h]; simp [h, Scalar.select]

theorem st_scale (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (y : S64x128.Idx) : ∀ k : ℕ, k ≤ k0_t2_loop.trips →
    (st_k0_t2 (F := F) 𝒱 c bd i arg2 harg2 arg3 harg3 arg4 harg4 arg5 harg5 arg6 harg6 arg7 harg7 arg8 harg8 k0_h1 k1 v (harg3.unread x1) init k).1 y
      = if h : (y 1).val < k ∧ (y 1).val < 80 then scaleT (tile x1 ⟨k1.val, lt_t1 k1⟩ ⟨(y 1).val, h.2⟩) y else init y
  | 0, _ => by rw [dif_neg (by omega)]; rfl
  | k + 1, hk => by
    have hk' : k < k0_t2_loop.trips := hk
    have h80 : k < 80 := lt_t2 ⟨k, hk'⟩
    rw [show k + 1 = (⟨k, hk'⟩ : Fin k0_t2_loop.trips).val + 1 from rfl, st_k0_t2_succ, tripR_eq]
    dsimp only
    rw [select_lane _ h80, st_scale _ _ _ i arg2 harg2 arg3 harg3 arg4 harg4 arg5 harg5 arg6 harg6 arg7 harg7 arg8 harg8 k0_h1 k1 v x1 init y k (by omega)]
    by_cases h1 : (y 1).val = k
    · rw [if_pos h1, dif_pos ⟨by omega, by omega⟩]
      congr 2
      exact Fin.ext h1.symm
    · rw [if_neg h1]
      by_cases h2 : (y 1).val < k
      · rw [dif_pos ⟨h2, by omega⟩, dif_pos ⟨by omega, by omega⟩]
      · rw [dif_neg (fun h => h2 h.1), dif_neg (fun h => by omega)]

end Cert.Kernel.Dgrad

end
-- ==== Proof.Kern.Weights.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import proofs.«01_k».proof.Proof.Kern.RunB
public import proofs.«01_k».proof.Proof.Kern.Tiles
public import Idealize.ShloMosaic.Lib.Pipeline.Value
public import Idealize.ShloMosaic.Lib.ValueIdxCore
public import Idealize.ShloMosaic.Lib.StableHlo.Run
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem lt_i1 (i : grid0.Coords) : (i 1).val < 14 := (i 1).isLt

/-- The scale word of each element of weight block `i 1`: one word per 128-by-128 square, -/
def wscale (i : grid0.Coords) (x0 : Vec F S56x80 .f32) : FVec F S512x10240 .f32 := fun y =>
  x0 (ix2 ⟨4 * (i 1).val + (y 0).val / 128, by have := lt0 y; have := lt_i1 i; omega⟩ ⟨(y 1).val / 128, by have := lt1 y; omega⟩)

/-- and the weight block it widens. -/
def wdq (i : grid0.Coords) (x0 : Vec F S56x80 .f32) (x2 : Vec F S512x10240 .fp8e4m3) : FVec F S512x10240 .bf16 :=
  mulf (extf .bf16 x2 bitsLt_fp8e4m3_bf16) (truncf .bf16 (wscale i x0) bitsLt_bf16_f32)

/-- One 512-by-512 tile of the product. -/
def dxT (i : grid0.Coords) (x0 : Vec F S56x80 .f32) (x2 : Vec F S512x10240 .fp8e4m3) (xs : Vec F S512x10240 .bf16) : FVec F S512x512 .bf16 :=
  truncf .bf16 (matmul (F := F) dot_S512x10240_S512x10240_S512x512_1_1_0_0_n_n none xs (wdq i x0 x2) (constant S512x512 .f32 0x00000000#32)) bitsLt_bf16_f32

/-- The square `(nb, g)` of the widened block, and its rows `128 nb …`. -/
def blk (i : grid0.Coords) (x0 : Vec F S56x80 .f32) (x2 : Vec F S512x10240 .fp8e4m3) (nb : Fin 4) (g : Fin 80) : FVec F S128x128 .bf16 := fun y =>
  wdq i x0 x2 (ix2 ⟨128 * nb.val + (y 0).val, by have := lt0 y; omega⟩ ⟨128 * g.val + (y 1).val, by have := lt1 y; omega⟩)
def rowOf (i : grid0.Coords) (x0 : Vec F S56x80 .f32) (x2 : Vec F S512x10240 .fp8e4m3) (nb : Fin 4) : FVec F S128x10240 .bf16 := fun y =>
  wdq i x0 x2 (ix2 ⟨128 * nb.val + (y 0).val, by have := lt0 y; omega⟩ ⟨(y 1).val, lt1 y⟩)

/-- What the kernel computes for one square is that square. -/
theorem blk_of (i : grid0.Coords) (x0 : Vec F S56x80 .f32) (x2 : Vec F S512x10240 .fp8e4m3)
    (arg2 : Memref sig .tc .smem S56x80 .f32) (harg2 : arg2.IsWhole) (arg4 : Memref sig .tc .vmem S512x10240 .fp8e4m3) (harg4 : arg4.IsWhole)
    (nb : Fin 4) (g : Fin 80) (off : Fin 2 → ℕ) (inb) (off' : Fin 2 → ℕ) (inb')
    (h : off = ![4 * (i 1).val + nb.val, g.val]) (h' : off' = ![128 * nb.val, 128 * g.val]) :
    mulf (extf .bf16 (arg4.view.readAt (Elt F) (Rect.unit (s := S512x10240) off' S128x128.size inb').toLoadRect (harg4.unread x2)) bitsLt_fp8e4m3_bf16)
        (truncf .bf16 (broadcast S128x128 (arg2.view.readAt (Elt F) (Rect.unit (s := S56x80) off S1x1.size inb).toLoadRect (harg2.unread x0) (Shape.Idx.first (Nat.lt_of_lt_of_eq Nat.zero_lt_one numel1_S1x1.symm)))) bitsLt_bf16_f32)
      = blk i x0 x2 nb g := by
  subst h h'
  have e1 : arg4.view.readAt (Elt F) (Rect.unit (s := S512x10240) ![128 * nb.val, 128 * g.val] S128x128.size inb').toLoadRect (harg4.unread x2)
      = fun y : S128x128.Idx => x2 (ix2 ⟨128 * nb.val + (y 0).val, by have := lt0 y; omega⟩ ⟨128 * g.val + (y 1).val, by have := lt1 y; omega⟩) := by
    funext y
    rw [View.readAt_apply, harg4.read_unread]
    congr 1
    refine idx_ext ?_ ?_
    · show 128 * nb.val + 1 * (y 0).val = 128 * nb.val + (y 0).val
      omega
    · show 128 * g.val + 1 * (y 1).val = 128 * g.val + (y 1).val
      omega
  have e2 : arg2.view.readAt (Elt F) (Rect.unit (s := S56x80) ![4 * (i 1).val + nb.val, g.val] S1x1.size inb).toLoadRect (harg2.unread x0) (Shape.Idx.first (Nat.lt_of_lt_of_eq Nat.zero_lt_one numel1_S1x1.symm))
      = x0 (ix2 ⟨4 * (i 1).val + nb.val, by have := lt_i1 i; omega⟩ ⟨g.val, by omega⟩) := by
    rw [View.readAt_apply, harg2.read_unread]
    congr 1
    refine idx_ext ?_ ?_
    · show 4 * (i 1).val + nb.val + 1 * 0 = 4 * (i 1).val + nb.val
      omega
    · show g.val + 1 * 0 = g.val
      omega
  rw [e1, e2]
  funext y
  have h0 := lt0 y
  have h1 := lt1 y
  have e3 : wscale i x0 (ix2 ⟨128 * nb.val + (y 0).val, by omega⟩ ⟨128 * g.val + (y 1).val, by omega⟩)
      = x0 (ix2 ⟨4 * (i 1).val + nb.val, by have := lt_i1 i; omega⟩ ⟨g.val, by omega⟩) := by
    unfold wscale
    congr 1
    refine idx_ext ?_ ?_
    · show 4 * (i 1).val + (128 * nb.val + (y 0).val) / 128 = 4 * (i 1).val + nb.val
      omega
    · show (128 * g.val + (y 1).val) / 128 = g.val
      omega
  unfold blk wdq
  show FloatOps.mulf _ _ = FloatOps.mulf _ _
  congr 1
  show FloatOps.truncf _ _ _ = FloatOps.truncf _ _ _
  rw [e3]
  rfl

/-- A list of 80 by its elements. -/
theorem ofFn80 {α : Type} (f : Fin 80 → α) : List.ofFn f = [f ⟨0, by decide⟩, f ⟨1, by decide⟩, f ⟨2, by decide⟩, f ⟨3, by decide⟩, f ⟨4, by decide⟩, f ⟨5, by decide⟩, f ⟨6, by decide⟩, f ⟨7, by decide⟩, f ⟨8, by decide⟩, f ⟨9, by decide⟩, f ⟨10, by decide⟩, f ⟨11, by decide⟩, f ⟨12, by decide⟩, f ⟨13, by decide⟩, f ⟨14, by decide⟩, f ⟨15, by decide⟩, f ⟨16, by decide⟩, f ⟨17, by decide⟩, f ⟨18, by decide⟩, f ⟨19, by decide⟩, f ⟨20, by decide⟩, f ⟨21, by decide⟩, f ⟨22, by decide⟩, f ⟨23, by decide⟩, f ⟨24, by decide⟩, f ⟨25, by decide⟩, f ⟨26, by decide⟩, f ⟨27, by decide⟩, f ⟨28, by decide⟩, f ⟨29, by decide⟩, f ⟨30, by decide⟩, f ⟨31, by decide⟩, f ⟨32, by decide⟩, f ⟨33, by decide⟩, f ⟨34, by decide⟩, f ⟨35, by decide⟩, f ⟨36, by decide⟩, f ⟨37, by decide⟩, f ⟨38, by decide⟩, f ⟨39, by decide⟩, f ⟨40, by decide⟩, f ⟨41, by decide⟩, f ⟨42, by decide⟩, f ⟨43, by decide⟩, f ⟨44, by decide⟩, f ⟨45, by decide⟩, f ⟨46, by decide⟩, f ⟨47, by decide⟩, f ⟨48, by decide⟩, f ⟨49, by decide⟩, f ⟨50, by decide⟩, f ⟨51, by decide⟩, f ⟨52, by decide⟩, f ⟨53, by decide⟩, f ⟨54, by decide⟩, f ⟨55, by decide⟩, f ⟨56, by decide⟩, f ⟨57, by decide⟩, f ⟨58, by decide⟩, f ⟨59, by decide⟩, f ⟨60, by decide⟩, f ⟨61, by decide⟩, f ⟨62, by decide⟩, f ⟨63, by decide⟩, f ⟨64, by decide⟩, f ⟨65, by decide⟩, f ⟨66, by decide⟩, f ⟨67, by decide⟩, f ⟨68, by decide⟩, f ⟨69, by decide⟩, f ⟨70, by decide⟩, f ⟨71, by decide⟩, f ⟨72, by decide⟩, f ⟨73, by decide⟩, f ⟨74, by decide⟩, f ⟨75, by decide⟩, f ⟨76, by decide⟩, f ⟨77, by decide⟩, f ⟨78, by decide⟩, f ⟨79, by decide⟩] := rfl

/-- Eighty squares fill a band. -/
theorem cat80 : Shape.Concatenates [S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128] S128x10240 1 :=
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x10240_d1

theorem cCons {a b : FVec F S128x128 .bf16} {l l' : List ((s : Shape) × (s.Idx → Elt F .bf16))} (h : a = b) (hl : l = l') :
    (⟨S128x128, a⟩ : (s : Shape) × (s.Idx → Elt F .bf16)) :: l = ⟨S128x128, b⟩ :: l' := by rw [h, hl]
theorem cNil : ([] : List ((s : Shape) × (s.Idx → Elt F .bf16))) = [] := rfl

/-- Eighty squares side by side are the 128 rows they lie in. -/
theorem row_of_list (i : grid0.Coords) (x0 : Vec F S56x80 .f32) (x2 : Vec F S512x10240 .fp8e4m3) (nb : Fin 4)
    (l : List ((s : Shape) × (s.Idx → Elt F .bf16))) (h : Shape.Concatenates (l.map (·.1)) S128x10240 1)
    (hl : l = List.ofFn fun g : Fin 80 => (⟨S128x128, blk i x0 x2 nb g⟩ : (s : Shape) × (s.Idx → Elt F .bf16))) :
    concatenate S128x10240 1 l h = rowOf i x0 x2 nb := by
  subst hl
  funext y
  have h0 := lt0 y
  have h1 := lt1 y
  rw [concatenate_ofFn_apply (s₁ := S128x128) 1 (fun g => blk i x0 x2 nb g) h rfl 128 rfl y ⟨(y 1).val / 128, by omega⟩ rfl
    (ix2 ⟨(y 0).val, h0⟩ ⟨(y 1).val % 128, Nat.mod_lt _ (by omega)⟩) rfl (by
      intro b hb
      fin_cases b
      · rfl
      · exact absurd rfl hb)]
  unfold blk rowOf
  congr 1
  refine idx_ext rfl ?_
  show 128 * ((y 1).val / 128) + (y 1).val % 128 = (y 1).val
  omega

/-- Four bands of rows, one under the other, are the block. -/
theorem block_of_rows (i : grid0.Coords) (x0 : Vec F S56x80 .f32) (x2 : Vec F S512x10240 .fp8e4m3)
    (a0 a1 a2 a3 : FVec F S128x10240 .bf16) (h)
    (h0 : a0 = rowOf i x0 x2 0) (h1 : a1 = rowOf i x0 x2 1) (h2 : a2 = rowOf i x0 x2 2) (h3 : a3 = rowOf i x0 x2 3) :
    concatenate S512x10240 0 [⟨S128x10240, a0⟩, ⟨S128x10240, a1⟩, ⟨S128x10240, a2⟩, ⟨S128x10240, a3⟩] h = wdq i x0 x2 := by
  subst h0 h1 h2 h3
  funext y
  have hy0 := lt0 y
  have hy1 := lt1 y
  refine (concatenate_ofFn_apply (s₁ := S128x10240) 0 (fun nb : Fin 4 => rowOf i x0 x2 nb) h rfl 128 rfl y ⟨(y 0).val / 128, by omega⟩ rfl
    (ix2 ⟨(y 0).val % 128, Nat.mod_lt _ (by omega)⟩ ⟨(y 1).val, hy1⟩) rfl (by
      intro b hb
      fin_cases b
      · exact absurd rfl hb
      · rfl)).trans ?_
  unfold rowOf
  congr 1
  refine idx_ext ?_ rfl
  show 128 * ((y 0).val / 128) + (y 0).val % 128 = (y 0).val
  omega

set_option maxHeartbeats 4000000 in
theorem row0 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_167 c i arg2 harg2 arg4 harg4 x0 x2 = rowOf i x0 x2 0 :=
  row_of_list i x0 x2 0 _ (by exact cat80) <| (Eq.trans · (ofFn80 _).symm) <|
  (cCons (blk_of i x0 x2 arg2 harg2 arg4 harg4 ⟨0, by decide⟩ ⟨0, by decide⟩ _ _ _ _ (k0_off3_eq i ⟨0, by decide⟩) rfl)
  (cCons (blk_of i x0 x2 arg2 harg2 arg4 harg4 ⟨0, by decide⟩ ⟨1, by decide⟩ _ _ _ _ (k0_off4_eq i ⟨0, by decide⟩) rfl)
  (cCons (blk_of i x0 x2 arg2 harg2 arg4 harg4 ⟨0, by decide⟩ ⟨2, by decide⟩ _ _ _ _ (k0_off5_eq i ⟨0, by decide⟩) rfl)
  (cCons (blk_of i x0 x2 arg2 harg2 arg4 harg4 ⟨0, by decide⟩ ⟨3, by decide⟩ _ _ _ _ (k0_off6_eq i ⟨0, by decide⟩) rfl)
  (cCons (blk_of i x0 x2 arg2 harg2 arg4 harg4 ⟨0, by decide⟩ ⟨4, by decide⟩ _ _ _ _ (k0_off7_eq i ⟨0, by decide⟩) rfl)
  (cCons (blk_of i x0 x2 arg2 harg2 arg4 harg4 ⟨0, by decide⟩ ⟨5, by decide⟩ _ _ _ _ (k0_off8_eq i ⟨0, by decide⟩) rfl)
  (cCons (blk_of i x0 x2 arg2 harg2 arg4 harg4 ⟨0, by decide⟩ ⟨6, by decide⟩ _ _ _ _ (k0_off9_eq i ⟨0, by decide⟩) rfl)
  (cCons (blk_of i x0 x2 arg2 harg2 arg4 harg4 ⟨0, by decide⟩ ⟨7, by decide⟩ _ _ _ _ (k0_off10_eq i ⟨0, by decide⟩) rfl)
  (cCons (blk_of i x0 x2 arg2 harg2 arg4 harg4 ⟨0, by decide⟩ ⟨8, by decide⟩ _ _ _ _ (k0_off11_eq i ⟨0, by decide⟩) rfl)
  (cCons (blk_of i x0 x2 arg2 harg2 arg4 harg4 ⟨0, by decide⟩ ⟨9, by decide⟩ _ _ _ _ (k0_off12_eq i ⟨0, by decide⟩) rfl)
  (cCons (blk_of i x0 x2 arg2 harg2 arg4 harg4 ⟨0, by decide⟩ ⟨10, by decide⟩ _ _ _ _ (k0_off13_eq i ⟨0, by decide⟩) rfl)
  (cCons (blk_of i x0 x2 arg2 harg2 arg4 harg4 ⟨0, by decide⟩ ⟨11, by decide⟩ _ _ _ _ (k0_off14_eq i ⟨0, by decide⟩) rfl)
  (cCons (blk_of i x0 x2 arg2 harg2 arg4 harg4 ⟨0, by decide⟩ ⟨12, by decide⟩ _ _ _ _ (k0_off15_eq i ⟨0, by decide⟩) rfl)
  (cCons (blk_of i x0 x2 arg2 harg2 arg4 harg4 ⟨0, by decide⟩ ⟨13, by decide⟩ _ _ _ _ (k0_off16_eq i ⟨0, by decide⟩) rfl)
  (cCons (blk_of i x0 x2 arg2 harg2 arg4 harg4 ⟨0, by decide⟩ ⟨14, by decide⟩ _ _ _ _ (k0_off17_eq i ⟨0, by decide⟩) rfl)
  (cCons (blk_of i x0 x2 arg2 harg2 arg4 harg4 ⟨0, by decide⟩ ⟨15, by decide⟩ _ _ _ _ (k0_off18_eq i ⟨0, by decide⟩) rfl)
  (cCons (blk_of i x0 x2 arg2 harg2 arg4 harg4 ⟨0, by decide⟩ ⟨16, by decide⟩ _ _ _ _ (k0_off19_eq i ⟨0, by decide⟩) rfl)
  (cCons (blk_of i x0 x2 arg2 harg2 arg4 harg4 ⟨0, by decide⟩ ⟨17, by decide⟩ _ _ _ _ (k0_off20_eq i ⟨0, by decide⟩) rfl)
  (cCons (blk_of i x0 x2 arg2 harg2 arg4 harg4 ⟨0, by decide⟩ ⟨18, by decide⟩ _ _ _ _ (k0_off21_eq i ⟨0, by decide⟩) rfl)
  (cCons (blk_of i x0 x2 arg2 harg2 arg4 harg4 ⟨0, by decide⟩ ⟨19, by decide⟩ _ _ _ _ (k0_off22_eq i ⟨0, by decide⟩) rfl)
  (cCons (blk_of i x0 x2 arg2 harg2 arg4 harg4 ⟨0, by decide⟩ ⟨20, by decide⟩ _ _ _ _ (k0_off23_eq i ⟨0, by decide⟩) rfl)
  (cCons (blk_of i x0 x2 arg2 harg2 arg4 harg4 ⟨0, by decide⟩ ⟨21, by decide⟩ _ _ _ _ (k0_off24_eq i ⟨0, by decide⟩) rfl)
  (cCons (blk_of i x0 x2 arg2 harg2 arg4 harg4 ⟨0, by decide⟩ ⟨22, by decide⟩ _ _ _ _ (k0_off25_eq i ⟨0, by decide⟩) rfl)
  (cCons (blk_of i x0 x2 arg2 harg2 arg4 harg4 ⟨0, by decide⟩ ⟨23, by decide⟩ _ _ _ _ (k0_off26_eq i ⟨0, by decide⟩) rfl)
  (cCons (blk_of i x0 x2 arg2 harg2 arg4 harg4 ⟨0, by decide⟩ ⟨24, by decide⟩ _ _ _ _ (k0_off27_eq i ⟨0, by decide⟩) rfl)
  (cCons (blk_of i x0 x2 arg2 harg2 arg4 harg4 ⟨0, by decide⟩ ⟨25, by decide⟩ _ _ _ _ (k0_off28_eq i ⟨0, by decide⟩) rfl)
  (cCons (blk_of i x0 x2 arg2 harg2 arg4 harg4 ⟨0, by decide⟩ ⟨26, by decide⟩ _ _ _ _ (k0_off29_eq i ⟨0, by decide⟩) rfl)
  (cCons (blk_of i x0 x2 arg2 harg2 arg4 harg4 ⟨0, by decide⟩ ⟨27, by decide⟩ _ _ _ _ (k0_off30_eq i ⟨0, by decide⟩) rfl)
  (cCons (blk_of i x0 x2 arg2 harg2 arg4 harg4 ⟨0, by decide⟩ ⟨28, by decide⟩ _ _ _ _ (k0_off31_eq i ⟨0, by decide⟩) rfl)
  (cCons (blk_of i x0 x2 arg2 harg2 arg4 harg4 ⟨0, by decide⟩ ⟨29, by decide⟩ _ _ _ _ (k0_off32_eq i ⟨0, by decide⟩) rfl)
  (cCons (blk_of i x0 x2 arg2 harg2 arg4 harg4 ⟨0, by decide⟩ ⟨30, by decide⟩ _ _ _ _ (k0_off33_eq i ⟨0, by decide⟩) rfl)
  (cCons (blk_of i x0 x2 arg2 harg2 arg4 harg4 ⟨0, by decide⟩ ⟨31, by decide⟩ _ _ _ _ (k0_off34_eq i ⟨0, by decide⟩) rfl)
  (cCons (blk_of i x0 x2 arg2 harg2 arg4 harg4 ⟨0, by decide⟩ ⟨32, by decide⟩ _ _ _ _ (k0_off35_eq i ⟨0, by decide⟩) rfl)
  (cCons (blk_of i x0 x2 arg2 harg2 arg4 harg4 ⟨0, by decide⟩ ⟨33, by decide⟩ _ _ _ _ (k0_off36_eq i ⟨0, by decide⟩) rfl)
  (cCons (blk_of i x0 x2 arg2 harg2 arg4 harg4 ⟨0, by decide⟩ ⟨34, by decide⟩ _ _ _ _ (k0_off37_eq i ⟨0, by decide⟩) rfl)
  (cCons (blk_of i x0 x2 arg2 harg2 arg4 harg4 ⟨0, by decide⟩ ⟨35, by decide⟩ _ _ _ _ (k0_off38_eq i ⟨0, by decide⟩) rfl)
  (cCons (blk_of i x0 x2 arg2 harg2 arg4 harg4 ⟨0, by decide⟩ ⟨36, by decide⟩ _ _ _ _ (k0_off39_eq i ⟨0, by decide⟩) rfl)
  (cCons (blk_of i x0 x2 arg2 harg2 arg4 harg4 ⟨0, by decide⟩ ⟨37, by decide⟩ _ _ _ _ (k0_off40_eq i ⟨0, by decide⟩) rfl)
  (cCons (blk_of i x0 x2 arg2 harg2 arg4 harg4 ⟨0, by decide⟩ ⟨38, by decide⟩ _ _ _ _ (k0_off41_eq i ⟨0, by decide⟩) rfl)
  (cCons (blk_of i x0 x2 arg2 harg2 arg4 harg4 ⟨0, by decide⟩ ⟨39, by decide⟩ _ _ _ _ (k0_off42_eq i ⟨0, by decide⟩) rfl)
  (cCons (blk_of i x0 x2 arg2 harg2 arg4 harg4 ⟨0, by decide⟩ ⟨40, by decide⟩ _ _ _ _ (k0_off43_eq i ⟨0, by decide⟩) rfl)
  (cCons (blk_of i x0 x2 arg2 harg2 arg4 harg4 ⟨0, by decide⟩ ⟨41, by decide⟩ _ _ _ _ (k0_off44_eq i ⟨0, by decide⟩) rfl)
  (cCons (blk_of i x0 x2 arg2 harg2 arg4 harg4 ⟨0, by decide⟩ ⟨42, by decide⟩ _ _ _ _ (k0_off45_eq i ⟨0, by decide⟩) rfl)
  (cCons (blk_of i x0 x2 arg2 harg2 arg4 harg4 ⟨0, by decide⟩ ⟨43, by decide⟩ _ _ _ _ (k0_off46_eq i ⟨0, by decide⟩) rfl)
  (cCons (blk_of i x0 x2 arg2 harg2 arg4 harg4 ⟨0, by decide⟩ ⟨44, by decide⟩ _ _ _ _ (k0_off47_eq i ⟨0, by decide⟩) rfl)
  (cCons (blk_of i x0 x2 arg2 harg2 arg4 harg4 ⟨0, by decide⟩ ⟨45, by decide⟩ _ _ _ _ (k0_off48_eq i ⟨0, by decide⟩) rfl)
  (cCons (blk_of i x0 x2 arg2 harg2 arg4 harg4 ⟨0, by decide⟩ ⟨46, by decide⟩ _ _ _ _ (k0_off49_eq i ⟨0, by decide⟩) rfl)
  (cCons (blk_of i x0 x2 arg2 harg2 arg4 harg4 ⟨0, by decide⟩ ⟨47, by decide⟩ _ _ _ _ (k0_off50_eq i ⟨0, by decide⟩) rfl)
  (cCons (blk_of i x0 x2 arg2 harg2 arg4 harg4 ⟨0, by decide⟩ ⟨48, by decide⟩ _ _ _ _ (k0_off51_eq i ⟨0, by decide⟩) rfl)
  (cCons (blk_of i x0 x2 arg2 harg2 arg4 harg4 ⟨0, by decide⟩ ⟨49, by decide⟩ _ _ _ _ (k0_off52_eq i ⟨0, by decide⟩) rfl)
  (cCons (blk_of i x0 x2 arg2 harg2 arg4 harg4 ⟨0, by decide⟩ ⟨50, by decide⟩ _ _ _ _ (k0_off53_eq i ⟨0, by decide⟩) rfl)
  (cCons (blk_of i x0 x2 arg2 harg2 arg4 harg4 ⟨0, by decide⟩ ⟨51, by decide⟩ _ _ _ _ (k0_off54_eq i ⟨0, by decide⟩) rfl)
  (cCons (blk_of i x0 x2 arg2 harg2 arg4 harg4 ⟨0, by decide⟩ ⟨52, by decide⟩ _ _ _ _ (k0_off55_eq i ⟨0, by decide⟩) rfl)
  (cCons (blk_of i x0 x2 arg2 harg2 arg4 harg4 ⟨0, by decide⟩ ⟨53, by decide⟩ _ _ _ _ (k0_off56_eq i ⟨0, by decide⟩) rfl)
  (cCons (blk_of i x0 x2 arg2 harg2 arg4 harg4 ⟨0, by decide⟩ ⟨54, by decide⟩ _ _ _ _ (k0_off57_eq i ⟨0, by decide⟩) rfl)
  (cCons (blk_of i x0 x2 arg2 harg2 arg4 harg4 ⟨0, by decide⟩ ⟨55, by decide⟩ _ _ _ _ (k0_off58_eq i ⟨0, by decide⟩) rfl)
  (cCons (blk_of i x0 x2 arg2 harg2 arg4 harg4 ⟨0, by decide⟩ ⟨56, by decide⟩ _ _ _ _ (k0_off59_eq i ⟨0, by decide⟩) rfl)
  (cCons (blk_of i x0 x2 arg2 harg2 arg4 harg4 ⟨0, by decide⟩ ⟨57, by decide⟩ _ _ _ _ (k0_off60_eq i ⟨0, by decide⟩) rfl)
  (cCons (blk_of i x0 x2 arg2 harg2 arg4 harg4 ⟨0, by decide⟩ ⟨58, by decide⟩ _ _ _ _ (k0_off61_eq i ⟨0, by decide⟩) rfl)
  (cCons (blk_of i x0 x2 arg2 harg2 arg4 harg4 ⟨0, by decide⟩ ⟨59, by decide⟩ _ _ _ _ (k0_off62_eq i ⟨0, by decide⟩) rfl)
  (cCons (blk_of i x0 x2 arg2 harg2 arg4 harg4 ⟨0, by decide⟩ ⟨60, by decide⟩ _ _ _ _ (k0_off63_eq i ⟨0, by decide⟩) rfl)
  (cCons (blk_of i x0 x2 arg2 harg2 arg4 harg4 ⟨0, by decide⟩ ⟨61, by decide⟩ _ _ _ _ (k0_off64_eq i ⟨0, by decide⟩) rfl)
  (cCons (blk_of i x0 x2 arg2 harg2 arg4 harg4 ⟨0, by decide⟩ ⟨62, by decide⟩ _ _ _ _ (k0_off65_eq i ⟨0, by decide⟩) rfl)
  (cCons (blk_of i x0 x2 arg2 harg2 arg4 harg4 ⟨0, by decide⟩ ⟨63, by decide⟩ _ _ _ _ (k0_off66_eq i ⟨0, by decide⟩) rfl)
  (cCons (blk_of i x0 x2 arg2 harg2 arg4 harg4 ⟨0, by decide⟩ ⟨64, by decide⟩ _ _ _ _ (k0_off67_eq i ⟨0, by decide⟩) rfl)
  (cCons (blk_of i x0 x2 arg2 harg2 arg4 harg4 ⟨0, by decide⟩ ⟨65, by decide⟩ _ _ _ _ (k0_off68_eq i ⟨0, by decide⟩) rfl)
  (cCons (blk_of i x0 x2 arg2 harg2 arg4 harg4 ⟨0, by decide⟩ ⟨66, by decide⟩ _ _ _ _ (k0_off69_eq i ⟨0, by decide⟩) rfl)
  (cCons (blk_of i x0 x2 arg2 harg2 arg4 harg4 ⟨0, by decide⟩ ⟨67, by decide⟩ _ _ _ _ (k0_off70_eq i ⟨0, by decide⟩) rfl)
  (cCons (blk_of i x0 x2 arg2 harg2 arg4 harg4 ⟨0, by decide⟩ ⟨68, by decide⟩ _ _ _ _ (k0_off71_eq i ⟨0, by decide⟩) rfl)
  (cCons (blk_of i x0 x2 arg2 harg2 arg4 harg4 ⟨0, by decide⟩ ⟨69, by decide⟩ _ _ _ _ (k0_off72_eq i ⟨0, by decide⟩) rfl)
  (cCons (blk_of i x0 x2 arg2 harg2 arg4 harg4 ⟨0, by decide⟩ ⟨70, by decide⟩ _ _ _ _ (k0_off73_eq i ⟨0, by decide⟩) rfl)
  (cCons (blk_of i x0 x2 arg2 harg2 arg4 harg4 ⟨0, by decide⟩ ⟨71, by decide⟩ _ _ _ _ (k0_off74_eq i ⟨0, by decide⟩) rfl)
  (cCons (blk_of i x0 x2 arg2 harg2 arg4 harg4 ⟨0, by decide⟩ ⟨72, by decide⟩ _ _ _ _ (k0_off75_eq i ⟨0, by decide⟩) rfl)
  (cCons (blk_of i x0 x2 arg2 harg2 arg4 harg4 ⟨0, by decide⟩ ⟨73, by decide⟩ _ _ _ _ (k0_off76_eq i ⟨0, by decide⟩) rfl)
  (cCons (blk_of i x0 x2 arg2 harg2 arg4 harg4 ⟨0, by decide⟩ ⟨74, by decide⟩ _ _ _ _ (k0_off77_eq i ⟨0, by decide⟩) rfl)
  (cCons (blk_of i x0 x2 arg2 harg2 arg4 harg4 ⟨0, by decide⟩ ⟨75, by decide⟩ _ _ _ _ (k0_off78_eq i ⟨0, by decide⟩) rfl)
  (cCons (blk_of i x0 x2 arg2 harg2 arg4 harg4 ⟨0, by decide⟩ ⟨76, by decide⟩ _ _ _ _ (k0_off79_eq i ⟨0, by decide⟩) rfl)
  (cCons (blk_of i x0 x2 arg2 harg2 arg4 harg4 ⟨0, by decide⟩ ⟨77, by decide⟩ _ _ _ _ (k0_off80_eq i ⟨0, by decide⟩) rfl)
  (cCons (blk_of i x0 x2 arg2 harg2 arg4 harg4 ⟨0, by decide⟩ ⟨78, by decide⟩ _ _ _ _ (k0_off81_eq i ⟨0, by decide⟩) rfl)
  (cCons (blk_of i x0 x2 arg2 harg2 arg4 harg4 ⟨0, by decide⟩ ⟨79, by decide⟩ _ _ _ _ (k0_off82_eq i ⟨0, by decide⟩) rfl)
  cNil))))))))))))))))))))))))))))))))))))))))))))))))))))))))))))))))))))))))))))))))

set_option maxHeartbeats 4000000 in
theorem row1 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_341 c i arg2 harg2 arg4 harg4 x0 x2 = rowOf i x0 x2 1 :=
  row_of_list i x0 x2 1 _ (by exact cat80) <| (Eq.trans · (ofFn80 _).symm) <|
  (cCons (blk_of i x0 x2 arg2 harg2 arg4 harg4 ⟨1, by decide⟩ ⟨0, by decide⟩ _ _ _ _ (k0_off3_eq i ⟨1, by decide⟩) rfl)
  (cCons (blk_of i x0 x2 arg2 harg2 arg4 harg4 ⟨1, by decide⟩ ⟨1, by decide⟩ _ _ _ _ (k0_off4_eq i ⟨1, by decide⟩) rfl)
  (cCons (blk_of i x0 x2 arg2 harg2 arg4 harg4 ⟨1, by decide⟩ ⟨2, by decide⟩ _ _ _ _ (k0_off5_eq i ⟨1, by decide⟩) rfl)
  (cCons (blk_of i x0 x2 arg2 harg2 arg4 harg4 ⟨1, by decide⟩ ⟨3, by decide⟩ _ _ _ _ (k0_off6_eq i ⟨1, by decide⟩) rfl)
  (cCons (blk_of i x0 x2 arg2 harg2 arg4 harg4 ⟨1, by decide⟩ ⟨4, by decide⟩ _ _ _ _ (k0_off7_eq i ⟨1, by decide⟩) rfl)
  (cCons (blk_of i x0 x2 arg2 harg2 arg4 harg4 ⟨1, by decide⟩ ⟨5, by decide⟩ _ _ _ _ (k0_off8_eq i ⟨1, by decide⟩) rfl)
  (cCons (blk_of i x0 x2 arg2 harg2 arg4 harg4 ⟨1, by decide⟩ ⟨6, by decide⟩ _ _ _ _ (k0_off9_eq i ⟨1, by decide⟩) rfl)
  (cCons (blk_of i x0 x2 arg2 harg2 arg4 harg4 ⟨1, by decide⟩ ⟨7, by decide⟩ _ _ _ _ (k0_off10_eq i ⟨1, by decide⟩) rfl)
  (cCons (blk_of i x0 x2 arg2 harg2 arg4 harg4 ⟨1, by decide⟩ ⟨8, by decide⟩ _ _ _ _ (k0_off11_eq i ⟨1, by decide⟩) rfl)
  (cCons (blk_of i x0 x2 arg2 harg2 arg4 harg4 ⟨1, by decide⟩ ⟨9, by decide⟩ _ _ _ _ (k0_off12_eq i ⟨1, by decide⟩) rfl)
  (cCons (blk_of i x0 x2 arg2 harg2 arg4 harg4 ⟨1, by decide⟩ ⟨10, by decide⟩ _ _ _ _ (k0_off13_eq i ⟨1, by decide⟩) rfl)
  (cCons (blk_of i x0 x2 arg2 harg2 arg4 harg4 ⟨1, by decide⟩ ⟨11, by decide⟩ _ _ _ _ (k0_off14_eq i ⟨1, by decide⟩) rfl)
  (cCons (blk_of i x0 x2 arg2 harg2 arg4 harg4 ⟨1, by decide⟩ ⟨12, by decide⟩ _ _ _ _ (k0_off15_eq i ⟨1, by decide⟩) rfl)
  (cCons (blk_of i x0 x2 arg2 harg2 arg4 harg4 ⟨1, by decide⟩ ⟨13, by decide⟩ _ _ _ _ (k0_off16_eq i ⟨1, by decide⟩) rfl)
  (cCons (blk_of i x0 x2 arg2 harg2 arg4 harg4 ⟨1, by decide⟩ ⟨14, by decide⟩ _ _ _ _ (k0_off17_eq i ⟨1, by decide⟩) rfl)
  (cCons (blk_of i x0 x2 arg2 harg2 arg4 harg4 ⟨1, by decide⟩ ⟨15, by decide⟩ _ _ _ _ (k0_off18_eq i ⟨1, by decide⟩) rfl)
  (cCons (blk_of i x0 x2 arg2 harg2 arg4 harg4 ⟨1, by decide⟩ ⟨16, by decide⟩ _ _ _ _ (k0_off19_eq i ⟨1, by decide⟩) rfl)
  (cCons (blk_of i x0 x2 arg2 harg2 arg4 harg4 ⟨1, by decide⟩ ⟨17, by decide⟩ _ _ _ _ (k0_off20_eq i ⟨1, by decide⟩) rfl)
  (cCons (blk_of i x0 x2 arg2 harg2 arg4 harg4 ⟨1, by decide⟩ ⟨18, by decide⟩ _ _ _ _ (k0_off21_eq i ⟨1, by decide⟩) rfl)
  (cCons (blk_of i x0 x2 arg2 harg2 arg4 harg4 ⟨1, by decide⟩ ⟨19, by decide⟩ _ _ _ _ (k0_off22_eq i ⟨1, by decide⟩) rfl)
  (cCons (blk_of i x0 x2 arg2 harg2 arg4 harg4 ⟨1, by decide⟩ ⟨20, by decide⟩ _ _ _ _ (k0_off23_eq i ⟨1, by decide⟩) rfl)
  (cCons (blk_of i x0 x2 arg2 harg2 arg4 harg4 ⟨1, by decide⟩ ⟨21, by decide⟩ _ _ _ _ (k0_off24_eq i ⟨1, by decide⟩) rfl)
  (cCons (blk_of i x0 x2 arg2 harg2 arg4 harg4 ⟨1, by decide⟩ ⟨22, by decide⟩ _ _ _ _ (k0_off25_eq i ⟨1, by decide⟩) rfl)
  (cCons (blk_of i x0 x2 arg2 harg2 arg4 harg4 ⟨1, by decide⟩ ⟨23, by decide⟩ _ _ _ _ (k0_off26_eq i ⟨1, by decide⟩) rfl)
  (cCons (blk_of i x0 x2 arg2 harg2 arg4 harg4 ⟨1, by decide⟩ ⟨24, by decide⟩ _ _ _ _ (k0_off27_eq i ⟨1, by decide⟩) rfl)
  (cCons (blk_of i x0 x2 arg2 harg2 arg4 harg4 ⟨1, by decide⟩ ⟨25, by decide⟩ _ _ _ _ (k0_off28_eq i ⟨1, by decide⟩) rfl)
  (cCons (blk_of i x0 x2 arg2 harg2 arg4 harg4 ⟨1, by decide⟩ ⟨26, by decide⟩ _ _ _ _ (k0_off29_eq i ⟨1, by decide⟩) rfl)
  (cCons (blk_of i x0 x2 arg2 harg2 arg4 harg4 ⟨1, by decide⟩ ⟨27, by decide⟩ _ _ _ _ (k0_off30_eq i ⟨1, by decide⟩) rfl)
  (cCons (blk_of i x0 x2 arg2 harg2 arg4 harg4 ⟨1, by decide⟩ ⟨28, by decide⟩ _ _ _ _ (k0_off31_eq i ⟨1, by decide⟩) rfl)
  (cCons (blk_of i x0 x2 arg2 harg2 arg4 harg4 ⟨1, by decide⟩ ⟨29, by decide⟩ _ _ _ _ (k0_off32_eq i ⟨1, by decide⟩) rfl)
  (cCons (blk_of i x0 x2 arg2 harg2 arg4 harg4 ⟨1, by decide⟩ ⟨30, by decide⟩ _ _ _ _ (k0_off33_eq i ⟨1, by decide⟩) rfl)
  (cCons (blk_of i x0 x2 arg2 harg2 arg4 harg4 ⟨1, by decide⟩ ⟨31, by decide⟩ _ _ _ _ (k0_off34_eq i ⟨1, by decide⟩) rfl)
  (cCons (blk_of i x0 x2 arg2 harg2 arg4 harg4 ⟨1, by decide⟩ ⟨32, by decide⟩ _ _ _ _ (k0_off35_eq i ⟨1, by decide⟩) rfl)
  (cCons (blk_of i x0 x2 arg2 harg2 arg4 harg4 ⟨1, by decide⟩ ⟨33, by decide⟩ _ _ _ _ (k0_off36_eq i ⟨1, by decide⟩) rfl)
  (cCons (blk_of i x0 x2 arg2 harg2 arg4 harg4 ⟨1, by decide⟩ ⟨34, by decide⟩ _ _ _ _ (k0_off37_eq i ⟨1, by decide⟩) rfl)
  (cCons (blk_of i x0 x2 arg2 harg2 arg4 harg4 ⟨1, by decide⟩ ⟨35, by decide⟩ _ _ _ _ (k0_off38_eq i ⟨1, by decide⟩) rfl)
  (cCons (blk_of i x0 x2 arg2 harg2 arg4 harg4 ⟨1, by decide⟩ ⟨36, by decide⟩ _ _ _ _ (k0_off39_eq i ⟨1, by decide⟩) rfl)
  (cCons (blk_of i x0 x2 arg2 harg2 arg4 harg4 ⟨1, by decide⟩ ⟨37, by decide⟩ _ _ _ _ (k0_off40_eq i ⟨1, by decide⟩) rfl)
  (cCons (blk_of i x0 x2 arg2 harg2 arg4 harg4 ⟨1, by decide⟩ ⟨38, by decide⟩ _ _ _ _ (k0_off41_eq i ⟨1, by decide⟩) rfl)
  (cCons (blk_of i x0 x2 arg2 harg2 arg4 harg4 ⟨1, by decide⟩ ⟨39, by decide⟩ _ _ _ _ (k0_off42_eq i ⟨1, by decide⟩) rfl)
  (cCons (blk_of i x0 x2 arg2 harg2 arg4 harg4 ⟨1, by decide⟩ ⟨40, by decide⟩ _ _ _ _ (k0_off43_eq i ⟨1, by decide⟩) rfl)
  (cCons (blk_of i x0 x2 arg2 harg2 arg4 harg4 ⟨1, by decide⟩ ⟨41, by decide⟩ _ _ _ _ (k0_off44_eq i ⟨1, by decide⟩) rfl)
  (cCons (blk_of i x0 x2 arg2 harg2 arg4 harg4 ⟨1, by decide⟩ ⟨42, by decide⟩ _ _ _ _ (k0_off45_eq i ⟨1, by decide⟩) rfl)
  (cCons (blk_of i x0 x2 arg2 harg2 arg4 harg4 ⟨1, by decide⟩ ⟨43, by decide⟩ _ _ _ _ (k0_off46_eq i ⟨1, by decide⟩) rfl)
  (cCons (blk_of i x0 x2 arg2 harg2 arg4 harg4 ⟨1, by decide⟩ ⟨44, by decide⟩ _ _ _ _ (k0_off47_eq i ⟨1, by decide⟩) rfl)
  (cCons (blk_of i x0 x2 arg2 harg2 arg4 harg4 ⟨1, by decide⟩ ⟨45, by decide⟩ _ _ _ _ (k0_off48_eq i ⟨1, by decide⟩) rfl)
  (cCons (blk_of i x0 x2 arg2 harg2 arg4 harg4 ⟨1, by decide⟩ ⟨46, by decide⟩ _ _ _ _ (k0_off49_eq i ⟨1, by decide⟩) rfl)
  (cCons (blk_of i x0 x2 arg2 harg2 arg4 harg4 ⟨1, by decide⟩ ⟨47, by decide⟩ _ _ _ _ (k0_off50_eq i ⟨1, by decide⟩) rfl)
  (cCons (blk_of i x0 x2 arg2 harg2 arg4 harg4 ⟨1, by decide⟩ ⟨48, by decide⟩ _ _ _ _ (k0_off51_eq i ⟨1, by decide⟩) rfl)
  (cCons (blk_of i x0 x2 arg2 harg2 arg4 harg4 ⟨1, by decide⟩ ⟨49, by decide⟩ _ _ _ _ (k0_off52_eq i ⟨1, by decide⟩) rfl)
  (cCons (blk_of i x0 x2 arg2 harg2 arg4 harg4 ⟨1, by decide⟩ ⟨50, by decide⟩ _ _ _ _ (k0_off53_eq i ⟨1, by decide⟩) rfl)
  (cCons (blk_of i x0 x2 arg2 harg2 arg4 harg4 ⟨1, by decide⟩ ⟨51, by decide⟩ _ _ _ _ (k0_off54_eq i ⟨1, by decide⟩) rfl)
  (cCons (blk_of i x0 x2 arg2 harg2 arg4 harg4 ⟨1, by decide⟩ ⟨52, by decide⟩ _ _ _ _ (k0_off55_eq i ⟨1, by decide⟩) rfl)
  (cCons (blk_of i x0 x2 arg2 harg2 arg4 harg4 ⟨1, by decide⟩ ⟨53, by decide⟩ _ _ _ _ (k0_off56_eq i ⟨1, by decide⟩) rfl)
  (cCons (blk_of i x0 x2 arg2 harg2 arg4 harg4 ⟨1, by decide⟩ ⟨54, by decide⟩ _ _ _ _ (k0_off57_eq i ⟨1, by decide⟩) rfl)
  (cCons (blk_of i x0 x2 arg2 harg2 arg4 harg4 ⟨1, by decide⟩ ⟨55, by decide⟩ _ _ _ _ (k0_off58_eq i ⟨1, by decide⟩) rfl)
  (cCons (blk_of i x0 x2 arg2 harg2 arg4 harg4 ⟨1, by decide⟩ ⟨56, by decide⟩ _ _ _ _ (k0_off59_eq i ⟨1, by decide⟩) rfl)
  (cCons (blk_of i x0 x2 arg2 harg2 arg4 harg4 ⟨1, by decide⟩ ⟨57, by decide⟩ _ _ _ _ (k0_off60_eq i ⟨1, by decide⟩) rfl)
  (cCons (blk_of i x0 x2 arg2 harg2 arg4 harg4 ⟨1, by decide⟩ ⟨58, by decide⟩ _ _ _ _ (k0_off61_eq i ⟨1, by decide⟩) rfl)
  (cCons (blk_of i x0 x2 arg2 harg2 arg4 harg4 ⟨1, by decide⟩ ⟨59, by decide⟩ _ _ _ _ (k0_off62_eq i ⟨1, by decide⟩) rfl)
  (cCons (blk_of i x0 x2 arg2 harg2 arg4 harg4 ⟨1, by decide⟩ ⟨60, by decide⟩ _ _ _ _ (k0_off63_eq i ⟨1, by decide⟩) rfl)
  (cCons (blk_of i x0 x2 arg2 harg2 arg4 harg4 ⟨1, by decide⟩ ⟨61, by decide⟩ _ _ _ _ (k0_off64_eq i ⟨1, by decide⟩) rfl)
  (cCons (blk_of i x0 x2 arg2 harg2 arg4 harg4 ⟨1, by decide⟩ ⟨62, by decide⟩ _ _ _ _ (k0_off65_eq i ⟨1, by decide⟩) rfl)
  (cCons (blk_of i x0 x2 arg2 harg2 arg4 harg4 ⟨1, by decide⟩ ⟨63, by decide⟩ _ _ _ _ (k0_off66_eq i ⟨1, by decide⟩) rfl)
  (cCons (blk_of i x0 x2 arg2 harg2 arg4 harg4 ⟨1, by decide⟩ ⟨64, by decide⟩ _ _ _ _ (k0_off67_eq i ⟨1, by decide⟩) rfl)
  (cCons (blk_of i x0 x2 arg2 harg2 arg4 harg4 ⟨1, by decide⟩ ⟨65, by decide⟩ _ _ _ _ (k0_off68_eq i ⟨1, by decide⟩) rfl)
  (cCons (blk_of i x0 x2 arg2 harg2 arg4 harg4 ⟨1, by decide⟩ ⟨66, by decide⟩ _ _ _ _ (k0_off69_eq i ⟨1, by decide⟩) rfl)
  (cCons (blk_of i x0 x2 arg2 harg2 arg4 harg4 ⟨1, by decide⟩ ⟨67, by decide⟩ _ _ _ _ (k0_off70_eq i ⟨1, by decide⟩) rfl)
  (cCons (blk_of i x0 x2 arg2 harg2 arg4 harg4 ⟨1, by decide⟩ ⟨68, by decide⟩ _ _ _ _ (k0_off71_eq i ⟨1, by decide⟩) rfl)
  (cCons (blk_of i x0 x2 arg2 harg2 arg4 harg4 ⟨1, by decide⟩ ⟨69, by decide⟩ _ _ _ _ (k0_off72_eq i ⟨1, by decide⟩) rfl)
  (cCons (blk_of i x0 x2 arg2 harg2 arg4 harg4 ⟨1, by decide⟩ ⟨70, by decide⟩ _ _ _ _ (k0_off73_eq i ⟨1, by decide⟩) rfl)
  (cCons (blk_of i x0 x2 arg2 harg2 arg4 harg4 ⟨1, by decide⟩ ⟨71, by decide⟩ _ _ _ _ (k0_off74_eq i ⟨1, by decide⟩) rfl)
  (cCons (blk_of i x0 x2 arg2 harg2 arg4 harg4 ⟨1, by decide⟩ ⟨72, by decide⟩ _ _ _ _ (k0_off75_eq i ⟨1, by decide⟩) rfl)
  (cCons (blk_of i x0 x2 arg2 harg2 arg4 harg4 ⟨1, by decide⟩ ⟨73, by decide⟩ _ _ _ _ (k0_off76_eq i ⟨1, by decide⟩) rfl)
  (cCons (blk_of i x0 x2 arg2 harg2 arg4 harg4 ⟨1, by decide⟩ ⟨74, by decide⟩ _ _ _ _ (k0_off77_eq i ⟨1, by decide⟩) rfl)
  (cCons (blk_of i x0 x2 arg2 harg2 arg4 harg4 ⟨1, by decide⟩ ⟨75, by decide⟩ _ _ _ _ (k0_off78_eq i ⟨1, by decide⟩) rfl)
  (cCons (blk_of i x0 x2 arg2 harg2 arg4 harg4 ⟨1, by decide⟩ ⟨76, by decide⟩ _ _ _ _ (k0_off79_eq i ⟨1, by decide⟩) rfl)
  (cCons (blk_of i x0 x2 arg2 harg2 arg4 harg4 ⟨1, by decide⟩ ⟨77, by decide⟩ _ _ _ _ (k0_off80_eq i ⟨1, by decide⟩) rfl)
  (cCons (blk_of i x0 x2 arg2 harg2 arg4 harg4 ⟨1, by decide⟩ ⟨78, by decide⟩ _ _ _ _ (k0_off81_eq i ⟨1, by decide⟩) rfl)
  (cCons (blk_of i x0 x2 arg2 harg2 arg4 harg4 ⟨1, by decide⟩ ⟨79, by decide⟩ _ _ _ _ (k0_off82_eq i ⟨1, by decide⟩) rfl)
  cNil))))))))))))))))))))))))))))))))))))))))))))))))))))))))))))))))))))))))))))))))

set_option maxHeartbeats 4000000 in
theorem row2 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_512 c i arg2 harg2 arg4 harg4 x0 x2 = rowOf i x0 x2 2 :=
  row_of_list i x0 x2 2 _ (by exact cat80) <| (Eq.trans · (ofFn80 _).symm) <|
  (cCons (blk_of i x0 x2 arg2 harg2 arg4 harg4 ⟨2, by decide⟩ ⟨0, by decide⟩ _ _ _ _ (k0_off3_eq i ⟨2, by decide⟩) rfl)
  (cCons (blk_of i x0 x2 arg2 harg2 arg4 harg4 ⟨2, by decide⟩ ⟨1, by decide⟩ _ _ _ _ (k0_off4_eq i ⟨2, by decide⟩) rfl)
  (cCons (blk_of i x0 x2 arg2 harg2 arg4 harg4 ⟨2, by decide⟩ ⟨2, by decide⟩ _ _ _ _ (k0_off5_eq i ⟨2, by decide⟩) rfl)
  (cCons (blk_of i x0 x2 arg2 harg2 arg4 harg4 ⟨2, by decide⟩ ⟨3, by decide⟩ _ _ _ _ (k0_off6_eq i ⟨2, by decide⟩) rfl)
  (cCons (blk_of i x0 x2 arg2 harg2 arg4 harg4 ⟨2, by decide⟩ ⟨4, by decide⟩ _ _ _ _ (k0_off7_eq i ⟨2, by decide⟩) rfl)
  (cCons (blk_of i x0 x2 arg2 harg2 arg4 harg4 ⟨2, by decide⟩ ⟨5, by decide⟩ _ _ _ _ (k0_off8_eq i ⟨2, by decide⟩) rfl)
  (cCons (blk_of i x0 x2 arg2 harg2 arg4 harg4 ⟨2, by decide⟩ ⟨6, by decide⟩ _ _ _ _ (k0_off9_eq i ⟨2, by decide⟩) rfl)
  (cCons (blk_of i x0 x2 arg2 harg2 arg4 harg4 ⟨2, by decide⟩ ⟨7, by decide⟩ _ _ _ _ (k0_off10_eq i ⟨2, by decide⟩) rfl)
  (cCons (blk_of i x0 x2 arg2 harg2 arg4 harg4 ⟨2, by decide⟩ ⟨8, by decide⟩ _ _ _ _ (k0_off11_eq i ⟨2, by decide⟩) rfl)
  (cCons (blk_of i x0 x2 arg2 harg2 arg4 harg4 ⟨2, by decide⟩ ⟨9, by decide⟩ _ _ _ _ (k0_off12_eq i ⟨2, by decide⟩) rfl)
  (cCons (blk_of i x0 x2 arg2 harg2 arg4 harg4 ⟨2, by decide⟩ ⟨10, by decide⟩ _ _ _ _ (k0_off13_eq i ⟨2, by decide⟩) rfl)
  (cCons (blk_of i x0 x2 arg2 harg2 arg4 harg4 ⟨2, by decide⟩ ⟨11, by decide⟩ _ _ _ _ (k0_off14_eq i ⟨2, by decide⟩) rfl)
  (cCons (blk_of i x0 x2 arg2 harg2 arg4 harg4 ⟨2, by decide⟩ ⟨12, by decide⟩ _ _ _ _ (k0_off15_eq i ⟨2, by decide⟩) rfl)
  (cCons (blk_of i x0 x2 arg2 harg2 arg4 harg4 ⟨2, by decide⟩ ⟨13, by decide⟩ _ _ _ _ (k0_off16_eq i ⟨2, by decide⟩) rfl)
  (cCons (blk_of i x0 x2 arg2 harg2 arg4 harg4 ⟨2, by decide⟩ ⟨14, by decide⟩ _ _ _ _ (k0_off17_eq i ⟨2, by decide⟩) rfl)
  (cCons (blk_of i x0 x2 arg2 harg2 arg4 harg4 ⟨2, by decide⟩ ⟨15, by decide⟩ _ _ _ _ (k0_off18_eq i ⟨2, by decide⟩) rfl)
  (cCons (blk_of i x0 x2 arg2 harg2 arg4 harg4 ⟨2, by decide⟩ ⟨16, by decide⟩ _ _ _ _ (k0_off19_eq i ⟨2, by decide⟩) rfl)
  (cCons (blk_of i x0 x2 arg2 harg2 arg4 harg4 ⟨2, by decide⟩ ⟨17, by decide⟩ _ _ _ _ (k0_off20_eq i ⟨2, by decide⟩) rfl)
  (cCons (blk_of i x0 x2 arg2 harg2 arg4 harg4 ⟨2, by decide⟩ ⟨18, by decide⟩ _ _ _ _ (k0_off21_eq i ⟨2, by decide⟩) rfl)
  (cCons (blk_of i x0 x2 arg2 harg2 arg4 harg4 ⟨2, by decide⟩ ⟨19, by decide⟩ _ _ _ _ (k0_off22_eq i ⟨2, by decide⟩) rfl)
  (cCons (blk_of i x0 x2 arg2 harg2 arg4 harg4 ⟨2, by decide⟩ ⟨20, by decide⟩ _ _ _ _ (k0_off23_eq i ⟨2, by decide⟩) rfl)
  (cCons (blk_of i x0 x2 arg2 harg2 arg4 harg4 ⟨2, by decide⟩ ⟨21, by decide⟩ _ _ _ _ (k0_off24_eq i ⟨2, by decide⟩) rfl)
  (cCons (blk_of i x0 x2 arg2 harg2 arg4 harg4 ⟨2, by decide⟩ ⟨22, by decide⟩ _ _ _ _ (k0_off25_eq i ⟨2, by decide⟩) rfl)
  (cCons (blk_of i x0 x2 arg2 harg2 arg4 harg4 ⟨2, by decide⟩ ⟨23, by decide⟩ _ _ _ _ (k0_off26_eq i ⟨2, by decide⟩) rfl)
  (cCons (blk_of i x0 x2 arg2 harg2 arg4 harg4 ⟨2, by decide⟩ ⟨24, by decide⟩ _ _ _ _ (k0_off27_eq i ⟨2, by decide⟩) rfl)
  (cCons (blk_of i x0 x2 arg2 harg2 arg4 harg4 ⟨2, by decide⟩ ⟨25, by decide⟩ _ _ _ _ (k0_off28_eq i ⟨2, by decide⟩) rfl)
  (cCons (blk_of i x0 x2 arg2 harg2 arg4 harg4 ⟨2, by decide⟩ ⟨26, by decide⟩ _ _ _ _ (k0_off29_eq i ⟨2, by decide⟩) rfl)
  (cCons (blk_of i x0 x2 arg2 harg2 arg4 harg4 ⟨2, by decide⟩ ⟨27, by decide⟩ _ _ _ _ (k0_off30_eq i ⟨2, by decide⟩) rfl)
  (cCons (blk_of i x0 x2 arg2 harg2 arg4 harg4 ⟨2, by decide⟩ ⟨28, by decide⟩ _ _ _ _ (k0_off31_eq i ⟨2, by decide⟩) rfl)
  (cCons (blk_of i x0 x2 arg2 harg2 arg4 harg4 ⟨2, by decide⟩ ⟨29, by decide⟩ _ _ _ _ (k0_off32_eq i ⟨2, by decide⟩) rfl)
  (cCons (blk_of i x0 x2 arg2 harg2 arg4 harg4 ⟨2, by decide⟩ ⟨30, by decide⟩ _ _ _ _ (k0_off33_eq i ⟨2, by decide⟩) rfl)
  (cCons (blk_of i x0 x2 arg2 harg2 arg4 harg4 ⟨2, by decide⟩ ⟨31, by decide⟩ _ _ _ _ (k0_off34_eq i ⟨2, by decide⟩) rfl)
  (cCons (blk_of i x0 x2 arg2 harg2 arg4 harg4 ⟨2, by decide⟩ ⟨32, by decide⟩ _ _ _ _ (k0_off35_eq i ⟨2, by decide⟩) rfl)
  (cCons (blk_of i x0 x2 arg2 harg2 arg4 harg4 ⟨2, by decide⟩ ⟨33, by decide⟩ _ _ _ _ (k0_off36_eq i ⟨2, by decide⟩) rfl)
  (cCons (blk_of i x0 x2 arg2 harg2 arg4 harg4 ⟨2, by decide⟩ ⟨34, by decide⟩ _ _ _ _ (k0_off37_eq i ⟨2, by decide⟩) rfl)
  (cCons (blk_of i x0 x2 arg2 harg2 arg4 harg4 ⟨2, by decide⟩ ⟨35, by decide⟩ _ _ _ _ (k0_off38_eq i ⟨2, by decide⟩) rfl)
  (cCons (blk_of i x0 x2 arg2 harg2 arg4 harg4 ⟨2, by decide⟩ ⟨36, by decide⟩ _ _ _ _ (k0_off39_eq i ⟨2, by decide⟩) rfl)
  (cCons (blk_of i x0 x2 arg2 harg2 arg4 harg4 ⟨2, by decide⟩ ⟨37, by decide⟩ _ _ _ _ (k0_off40_eq i ⟨2, by decide⟩) rfl)
  (cCons (blk_of i x0 x2 arg2 harg2 arg4 harg4 ⟨2, by decide⟩ ⟨38, by decide⟩ _ _ _ _ (k0_off41_eq i ⟨2, by decide⟩) rfl)
  (cCons (blk_of i x0 x2 arg2 harg2 arg4 harg4 ⟨2, by decide⟩ ⟨39, by decide⟩ _ _ _ _ (k0_off42_eq i ⟨2, by decide⟩) rfl)
  (cCons (blk_of i x0 x2 arg2 harg2 arg4 harg4 ⟨2, by decide⟩ ⟨40, by decide⟩ _ _ _ _ (k0_off43_eq i ⟨2, by decide⟩) rfl)
  (cCons (blk_of i x0 x2 arg2 harg2 arg4 harg4 ⟨2, by decide⟩ ⟨41, by decide⟩ _ _ _ _ (k0_off44_eq i ⟨2, by decide⟩) rfl)
  (cCons (blk_of i x0 x2 arg2 harg2 arg4 harg4 ⟨2, by decide⟩ ⟨42, by decide⟩ _ _ _ _ (k0_off45_eq i ⟨2, by decide⟩) rfl)
  (cCons (blk_of i x0 x2 arg2 harg2 arg4 harg4 ⟨2, by decide⟩ ⟨43, by decide⟩ _ _ _ _ (k0_off46_eq i ⟨2, by decide⟩) rfl)
  (cCons (blk_of i x0 x2 arg2 harg2 arg4 harg4 ⟨2, by decide⟩ ⟨44, by decide⟩ _ _ _ _ (k0_off47_eq i ⟨2, by decide⟩) rfl)
  (cCons (blk_of i x0 x2 arg2 harg2 arg4 harg4 ⟨2, by decide⟩ ⟨45, by decide⟩ _ _ _ _ (k0_off48_eq i ⟨2, by decide⟩) rfl)
  (cCons (blk_of i x0 x2 arg2 harg2 arg4 harg4 ⟨2, by decide⟩ ⟨46, by decide⟩ _ _ _ _ (k0_off49_eq i ⟨2, by decide⟩) rfl)
  (cCons (blk_of i x0 x2 arg2 harg2 arg4 harg4 ⟨2, by decide⟩ ⟨47, by decide⟩ _ _ _ _ (k0_off50_eq i ⟨2, by decide⟩) rfl)
  (cCons (blk_of i x0 x2 arg2 harg2 arg4 harg4 ⟨2, by decide⟩ ⟨48, by decide⟩ _ _ _ _ (k0_off51_eq i ⟨2, by decide⟩) rfl)
  (cCons (blk_of i x0 x2 arg2 harg2 arg4 harg4 ⟨2, by decide⟩ ⟨49, by decide⟩ _ _ _ _ (k0_off52_eq i ⟨2, by decide⟩) rfl)
  (cCons (blk_of i x0 x2 arg2 harg2 arg4 harg4 ⟨2, by decide⟩ ⟨50, by decide⟩ _ _ _ _ (k0_off53_eq i ⟨2, by decide⟩) rfl)
  (cCons (blk_of i x0 x2 arg2 harg2 arg4 harg4 ⟨2, by decide⟩ ⟨51, by decide⟩ _ _ _ _ (k0_off54_eq i ⟨2, by decide⟩) rfl)
  (cCons (blk_of i x0 x2 arg2 harg2 arg4 harg4 ⟨2, by decide⟩ ⟨52, by decide⟩ _ _ _ _ (k0_off55_eq i ⟨2, by decide⟩) rfl)
  (cCons (blk_of i x0 x2 arg2 harg2 arg4 harg4 ⟨2, by decide⟩ ⟨53, by decide⟩ _ _ _ _ (k0_off56_eq i ⟨2, by decide⟩) rfl)
  (cCons (blk_of i x0 x2 arg2 harg2 arg4 harg4 ⟨2, by decide⟩ ⟨54, by decide⟩ _ _ _ _ (k0_off57_eq i ⟨2, by decide⟩) rfl)
  (cCons (blk_of i x0 x2 arg2 harg2 arg4 harg4 ⟨2, by decide⟩ ⟨55, by decide⟩ _ _ _ _ (k0_off58_eq i ⟨2, by decide⟩) rfl)
  (cCons (blk_of i x0 x2 arg2 harg2 arg4 harg4 ⟨2, by decide⟩ ⟨56, by decide⟩ _ _ _ _ (k0_off59_eq i ⟨2, by decide⟩) rfl)
  (cCons (blk_of i x0 x2 arg2 harg2 arg4 harg4 ⟨2, by decide⟩ ⟨57, by decide⟩ _ _ _ _ (k0_off60_eq i ⟨2, by decide⟩) rfl)
  (cCons (blk_of i x0 x2 arg2 harg2 arg4 harg4 ⟨2, by decide⟩ ⟨58, by decide⟩ _ _ _ _ (k0_off61_eq i ⟨2, by decide⟩) rfl)
  (cCons (blk_of i x0 x2 arg2 harg2 arg4 harg4 ⟨2, by decide⟩ ⟨59, by decide⟩ _ _ _ _ (k0_off62_eq i ⟨2, by decide⟩) rfl)
  (cCons (blk_of i x0 x2 arg2 harg2 arg4 harg4 ⟨2, by decide⟩ ⟨60, by decide⟩ _ _ _ _ (k0_off63_eq i ⟨2, by decide⟩) rfl)
  (cCons (blk_of i x0 x2 arg2 harg2 arg4 harg4 ⟨2, by decide⟩ ⟨61, by decide⟩ _ _ _ _ (k0_off64_eq i ⟨2, by decide⟩) rfl)
  (cCons (blk_of i x0 x2 arg2 harg2 arg4 harg4 ⟨2, by decide⟩ ⟨62, by decide⟩ _ _ _ _ (k0_off65_eq i ⟨2, by decide⟩) rfl)
  (cCons (blk_of i x0 x2 arg2 harg2 arg4 harg4 ⟨2, by decide⟩ ⟨63, by decide⟩ _ _ _ _ (k0_off66_eq i ⟨2, by decide⟩) rfl)
  (cCons (blk_of i x0 x2 arg2 harg2 arg4 harg4 ⟨2, by decide⟩ ⟨64, by decide⟩ _ _ _ _ (k0_off67_eq i ⟨2, by decide⟩) rfl)
  (cCons (blk_of i x0 x2 arg2 harg2 arg4 harg4 ⟨2, by decide⟩ ⟨65, by decide⟩ _ _ _ _ (k0_off68_eq i ⟨2, by decide⟩) rfl)
  (cCons (blk_of i x0 x2 arg2 harg2 arg4 harg4 ⟨2, by decide⟩ ⟨66, by decide⟩ _ _ _ _ (k0_off69_eq i ⟨2, by decide⟩) rfl)
  (cCons (blk_of i x0 x2 arg2 harg2 arg4 harg4 ⟨2, by decide⟩ ⟨67, by decide⟩ _ _ _ _ (k0_off70_eq i ⟨2, by decide⟩) rfl)
  (cCons (blk_of i x0 x2 arg2 harg2 arg4 harg4 ⟨2, by decide⟩ ⟨68, by decide⟩ _ _ _ _ (k0_off71_eq i ⟨2, by decide⟩) rfl)
  (cCons (blk_of i x0 x2 arg2 harg2 arg4 harg4 ⟨2, by decide⟩ ⟨69, by decide⟩ _ _ _ _ (k0_off72_eq i ⟨2, by decide⟩) rfl)
  (cCons (blk_of i x0 x2 arg2 harg2 arg4 harg4 ⟨2, by decide⟩ ⟨70, by decide⟩ _ _ _ _ (k0_off73_eq i ⟨2, by decide⟩) rfl)
  (cCons (blk_of i x0 x2 arg2 harg2 arg4 harg4 ⟨2, by decide⟩ ⟨71, by decide⟩ _ _ _ _ (k0_off74_eq i ⟨2, by decide⟩) rfl)
  (cCons (blk_of i x0 x2 arg2 harg2 arg4 harg4 ⟨2, by decide⟩ ⟨72, by decide⟩ _ _ _ _ (k0_off75_eq i ⟨2, by decide⟩) rfl)
  (cCons (blk_of i x0 x2 arg2 harg2 arg4 harg4 ⟨2, by decide⟩ ⟨73, by decide⟩ _ _ _ _ (k0_off76_eq i ⟨2, by decide⟩) rfl)
  (cCons (blk_of i x0 x2 arg2 harg2 arg4 harg4 ⟨2, by decide⟩ ⟨74, by decide⟩ _ _ _ _ (k0_off77_eq i ⟨2, by decide⟩) rfl)
  (cCons (blk_of i x0 x2 arg2 harg2 arg4 harg4 ⟨2, by decide⟩ ⟨75, by decide⟩ _ _ _ _ (k0_off78_eq i ⟨2, by decide⟩) rfl)
  (cCons (blk_of i x0 x2 arg2 harg2 arg4 harg4 ⟨2, by decide⟩ ⟨76, by decide⟩ _ _ _ _ (k0_off79_eq i ⟨2, by decide⟩) rfl)
  (cCons (blk_of i x0 x2 arg2 harg2 arg4 harg4 ⟨2, by decide⟩ ⟨77, by decide⟩ _ _ _ _ (k0_off80_eq i ⟨2, by decide⟩) rfl)
  (cCons (blk_of i x0 x2 arg2 harg2 arg4 harg4 ⟨2, by decide⟩ ⟨78, by decide⟩ _ _ _ _ (k0_off81_eq i ⟨2, by decide⟩) rfl)
  (cCons (blk_of i x0 x2 arg2 harg2 arg4 harg4 ⟨2, by decide⟩ ⟨79, by decide⟩ _ _ _ _ (k0_off82_eq i ⟨2, by decide⟩) rfl)
  cNil))))))))))))))))))))))))))))))))))))))))))))))))))))))))))))))))))))))))))))))))

set_option maxHeartbeats 4000000 in
/-- The tile the kernel stores. -/
theorem dx_runB (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) (arg8 : Memref sig .tc .vmem S512x10240 .bf16) (harg8 : arg8.IsWhole) (xs : Vec F S512x10240 .bf16) :
    runB.sl.r_677 c i arg2 harg2 arg4 harg4 arg8 harg8 x0 x2 xs = dxT i x0 x2 xs := by
  have e8 : arg8.view.readAt (Elt F) (Rect.unit (s := S512x10240) ![0, 0] S512x10240.size inb_S512x10240_S512x10240_0_0).toLoadRect (harg8.unread xs) = xs := by
    funext y
    rw [View.readAt_apply, harg8.read_unread]
    congr 1
    refine idx_ext ?_ ?_
    · show 0 + 1 * (y 0).val = (y 0).val
      omega
    · show 0 + 1 * (y 1).val = (y 1).val
      omega
  refine congrArg (fun v => truncf .bf16 v bitsLt_bf16_f32) (congrArg₂ (fun a b => matmul (F := F) dot_S512x10240_S512x10240_S512x512_1_1_0_0_n_n none a b (constant S512x512 .f32 0x00000000#32)) e8 ?_)
  refine block_of_rows i x0 x2 _ _ _ _ _ (row0 c i arg2 harg2 arg4 harg4 x0 x2) (row1 c i arg2 harg2 arg4 harg4 x0 x2) (row2 c i arg2 harg2 arg4 harg4 x0 x2) ?_
  exact row_of_list i x0 x2 3 _ (by exact cat80) <| (Eq.trans · (ofFn80 _).symm) <|
  (cCons (blk_of i x0 x2 arg2 harg2 arg4 harg4 ⟨3, by decide⟩ ⟨0, by decide⟩ _ _ _ _ (k0_off3_eq i ⟨3, by decide⟩) rfl)
  (cCons (blk_of i x0 x2 arg2 harg2 arg4 harg4 ⟨3, by decide⟩ ⟨1, by decide⟩ _ _ _ _ (k0_off4_eq i ⟨3, by decide⟩) rfl)
  (cCons (blk_of i x0 x2 arg2 harg2 arg4 harg4 ⟨3, by decide⟩ ⟨2, by decide⟩ _ _ _ _ (k0_off5_eq i ⟨3, by decide⟩) rfl)
  (cCons (blk_of i x0 x2 arg2 harg2 arg4 harg4 ⟨3, by decide⟩ ⟨3, by decide⟩ _ _ _ _ (k0_off6_eq i ⟨3, by decide⟩) rfl)
  (cCons (blk_of i x0 x2 arg2 harg2 arg4 harg4 ⟨3, by decide⟩ ⟨4, by decide⟩ _ _ _ _ (k0_off7_eq i ⟨3, by decide⟩) rfl)
  (cCons (blk_of i x0 x2 arg2 harg2 arg4 harg4 ⟨3, by decide⟩ ⟨5, by decide⟩ _ _ _ _ (k0_off8_eq i ⟨3, by decide⟩) rfl)
  (cCons (blk_of i x0 x2 arg2 harg2 arg4 harg4 ⟨3, by decide⟩ ⟨6, by decide⟩ _ _ _ _ (k0_off9_eq i ⟨3, by decide⟩) rfl)
  (cCons (blk_of i x0 x2 arg2 harg2 arg4 harg4 ⟨3, by decide⟩ ⟨7, by decide⟩ _ _ _ _ (k0_off10_eq i ⟨3, by decide⟩) rfl)
  (cCons (blk_of i x0 x2 arg2 harg2 arg4 harg4 ⟨3, by decide⟩ ⟨8, by decide⟩ _ _ _ _ (k0_off11_eq i ⟨3, by decide⟩) rfl)
  (cCons (blk_of i x0 x2 arg2 harg2 arg4 harg4 ⟨3, by decide⟩ ⟨9, by decide⟩ _ _ _ _ (k0_off12_eq i ⟨3, by decide⟩) rfl)
  (cCons (blk_of i x0 x2 arg2 harg2 arg4 harg4 ⟨3, by decide⟩ ⟨10, by decide⟩ _ _ _ _ (k0_off13_eq i ⟨3, by decide⟩) rfl)
  (cCons (blk_of i x0 x2 arg2 harg2 arg4 harg4 ⟨3, by decide⟩ ⟨11, by decide⟩ _ _ _ _ (k0_off14_eq i ⟨3, by decide⟩) rfl)
  (cCons (blk_of i x0 x2 arg2 harg2 arg4 harg4 ⟨3, by decide⟩ ⟨12, by decide⟩ _ _ _ _ (k0_off15_eq i ⟨3, by decide⟩) rfl)
  (cCons (blk_of i x0 x2 arg2 harg2 arg4 harg4 ⟨3, by decide⟩ ⟨13, by decide⟩ _ _ _ _ (k0_off16_eq i ⟨3, by decide⟩) rfl)
  (cCons (blk_of i x0 x2 arg2 harg2 arg4 harg4 ⟨3, by decide⟩ ⟨14, by decide⟩ _ _ _ _ (k0_off17_eq i ⟨3, by decide⟩) rfl)
  (cCons (blk_of i x0 x2 arg2 harg2 arg4 harg4 ⟨3, by decide⟩ ⟨15, by decide⟩ _ _ _ _ (k0_off18_eq i ⟨3, by decide⟩) rfl)
  (cCons (blk_of i x0 x2 arg2 harg2 arg4 harg4 ⟨3, by decide⟩ ⟨16, by decide⟩ _ _ _ _ (k0_off19_eq i ⟨3, by decide⟩) rfl)
  (cCons (blk_of i x0 x2 arg2 harg2 arg4 harg4 ⟨3, by decide⟩ ⟨17, by decide⟩ _ _ _ _ (k0_off20_eq i ⟨3, by decide⟩) rfl)
  (cCons (blk_of i x0 x2 arg2 harg2 arg4 harg4 ⟨3, by decide⟩ ⟨18, by decide⟩ _ _ _ _ (k0_off21_eq i ⟨3, by decide⟩) rfl)
  (cCons (blk_of i x0 x2 arg2 harg2 arg4 harg4 ⟨3, by decide⟩ ⟨19, by decide⟩ _ _ _ _ (k0_off22_eq i ⟨3, by decide⟩) rfl)
  (cCons (blk_of i x0 x2 arg2 harg2 arg4 harg4 ⟨3, by decide⟩ ⟨20, by decide⟩ _ _ _ _ (k0_off23_eq i ⟨3, by decide⟩) rfl)
  (cCons (blk_of i x0 x2 arg2 harg2 arg4 harg4 ⟨3, by decide⟩ ⟨21, by decide⟩ _ _ _ _ (k0_off24_eq i ⟨3, by decide⟩) rfl)
  (cCons (blk_of i x0 x2 arg2 harg2 arg4 harg4 ⟨3, by decide⟩ ⟨22, by decide⟩ _ _ _ _ (k0_off25_eq i ⟨3, by decide⟩) rfl)
  (cCons (blk_of i x0 x2 arg2 harg2 arg4 harg4 ⟨3, by decide⟩ ⟨23, by decide⟩ _ _ _ _ (k0_off26_eq i ⟨3, by decide⟩) rfl)
  (cCons (blk_of i x0 x2 arg2 harg2 arg4 harg4 ⟨3, by decide⟩ ⟨24, by decide⟩ _ _ _ _ (k0_off27_eq i ⟨3, by decide⟩) rfl)
  (cCons (blk_of i x0 x2 arg2 harg2 arg4 harg4 ⟨3, by decide⟩ ⟨25, by decide⟩ _ _ _ _ (k0_off28_eq i ⟨3, by decide⟩) rfl)
  (cCons (blk_of i x0 x2 arg2 harg2 arg4 harg4 ⟨3, by decide⟩ ⟨26, by decide⟩ _ _ _ _ (k0_off29_eq i ⟨3, by decide⟩) rfl)
  (cCons (blk_of i x0 x2 arg2 harg2 arg4 harg4 ⟨3, by decide⟩ ⟨27, by decide⟩ _ _ _ _ (k0_off30_eq i ⟨3, by decide⟩) rfl)
  (cCons (blk_of i x0 x2 arg2 harg2 arg4 harg4 ⟨3, by decide⟩ ⟨28, by decide⟩ _ _ _ _ (k0_off31_eq i ⟨3, by decide⟩) rfl)
  (cCons (blk_of i x0 x2 arg2 harg2 arg4 harg4 ⟨3, by decide⟩ ⟨29, by decide⟩ _ _ _ _ (k0_off32_eq i ⟨3, by decide⟩) rfl)
  (cCons (blk_of i x0 x2 arg2 harg2 arg4 harg4 ⟨3, by decide⟩ ⟨30, by decide⟩ _ _ _ _ (k0_off33_eq i ⟨3, by decide⟩) rfl)
  (cCons (blk_of i x0 x2 arg2 harg2 arg4 harg4 ⟨3, by decide⟩ ⟨31, by decide⟩ _ _ _ _ (k0_off34_eq i ⟨3, by decide⟩) rfl)
  (cCons (blk_of i x0 x2 arg2 harg2 arg4 harg4 ⟨3, by decide⟩ ⟨32, by decide⟩ _ _ _ _ (k0_off35_eq i ⟨3, by decide⟩) rfl)
  (cCons (blk_of i x0 x2 arg2 harg2 arg4 harg4 ⟨3, by decide⟩ ⟨33, by decide⟩ _ _ _ _ (k0_off36_eq i ⟨3, by decide⟩) rfl)
  (cCons (blk_of i x0 x2 arg2 harg2 arg4 harg4 ⟨3, by decide⟩ ⟨34, by decide⟩ _ _ _ _ (k0_off37_eq i ⟨3, by decide⟩) rfl)
  (cCons (blk_of i x0 x2 arg2 harg2 arg4 harg4 ⟨3, by decide⟩ ⟨35, by decide⟩ _ _ _ _ (k0_off38_eq i ⟨3, by decide⟩) rfl)
  (cCons (blk_of i x0 x2 arg2 harg2 arg4 harg4 ⟨3, by decide⟩ ⟨36, by decide⟩ _ _ _ _ (k0_off39_eq i ⟨3, by decide⟩) rfl)
  (cCons (blk_of i x0 x2 arg2 harg2 arg4 harg4 ⟨3, by decide⟩ ⟨37, by decide⟩ _ _ _ _ (k0_off40_eq i ⟨3, by decide⟩) rfl)
  (cCons (blk_of i x0 x2 arg2 harg2 arg4 harg4 ⟨3, by decide⟩ ⟨38, by decide⟩ _ _ _ _ (k0_off41_eq i ⟨3, by decide⟩) rfl)
  (cCons (blk_of i x0 x2 arg2 harg2 arg4 harg4 ⟨3, by decide⟩ ⟨39, by decide⟩ _ _ _ _ (k0_off42_eq i ⟨3, by decide⟩) rfl)
  (cCons (blk_of i x0 x2 arg2 harg2 arg4 harg4 ⟨3, by decide⟩ ⟨40, by decide⟩ _ _ _ _ (k0_off43_eq i ⟨3, by decide⟩) rfl)
  (cCons (blk_of i x0 x2 arg2 harg2 arg4 harg4 ⟨3, by decide⟩ ⟨41, by decide⟩ _ _ _ _ (k0_off44_eq i ⟨3, by decide⟩) rfl)
  (cCons (blk_of i x0 x2 arg2 harg2 arg4 harg4 ⟨3, by decide⟩ ⟨42, by decide⟩ _ _ _ _ (k0_off45_eq i ⟨3, by decide⟩) rfl)
  (cCons (blk_of i x0 x2 arg2 harg2 arg4 harg4 ⟨3, by decide⟩ ⟨43, by decide⟩ _ _ _ _ (k0_off46_eq i ⟨3, by decide⟩) rfl)
  (cCons (blk_of i x0 x2 arg2 harg2 arg4 harg4 ⟨3, by decide⟩ ⟨44, by decide⟩ _ _ _ _ (k0_off47_eq i ⟨3, by decide⟩) rfl)
  (cCons (blk_of i x0 x2 arg2 harg2 arg4 harg4 ⟨3, by decide⟩ ⟨45, by decide⟩ _ _ _ _ (k0_off48_eq i ⟨3, by decide⟩) rfl)
  (cCons (blk_of i x0 x2 arg2 harg2 arg4 harg4 ⟨3, by decide⟩ ⟨46, by decide⟩ _ _ _ _ (k0_off49_eq i ⟨3, by decide⟩) rfl)
  (cCons (blk_of i x0 x2 arg2 harg2 arg4 harg4 ⟨3, by decide⟩ ⟨47, by decide⟩ _ _ _ _ (k0_off50_eq i ⟨3, by decide⟩) rfl)
  (cCons (blk_of i x0 x2 arg2 harg2 arg4 harg4 ⟨3, by decide⟩ ⟨48, by decide⟩ _ _ _ _ (k0_off51_eq i ⟨3, by decide⟩) rfl)
  (cCons (blk_of i x0 x2 arg2 harg2 arg4 harg4 ⟨3, by decide⟩ ⟨49, by decide⟩ _ _ _ _ (k0_off52_eq i ⟨3, by decide⟩) rfl)
  (cCons (blk_of i x0 x2 arg2 harg2 arg4 harg4 ⟨3, by decide⟩ ⟨50, by decide⟩ _ _ _ _ (k0_off53_eq i ⟨3, by decide⟩) rfl)
  (cCons (blk_of i x0 x2 arg2 harg2 arg4 harg4 ⟨3, by decide⟩ ⟨51, by decide⟩ _ _ _ _ (k0_off54_eq i ⟨3, by decide⟩) rfl)
  (cCons (blk_of i x0 x2 arg2 harg2 arg4 harg4 ⟨3, by decide⟩ ⟨52, by decide⟩ _ _ _ _ (k0_off55_eq i ⟨3, by decide⟩) rfl)
  (cCons (blk_of i x0 x2 arg2 harg2 arg4 harg4 ⟨3, by decide⟩ ⟨53, by decide⟩ _ _ _ _ (k0_off56_eq i ⟨3, by decide⟩) rfl)
  (cCons (blk_of i x0 x2 arg2 harg2 arg4 harg4 ⟨3, by decide⟩ ⟨54, by decide⟩ _ _ _ _ (k0_off57_eq i ⟨3, by decide⟩) rfl)
  (cCons (blk_of i x0 x2 arg2 harg2 arg4 harg4 ⟨3, by decide⟩ ⟨55, by decide⟩ _ _ _ _ (k0_off58_eq i ⟨3, by decide⟩) rfl)
  (cCons (blk_of i x0 x2 arg2 harg2 arg4 harg4 ⟨3, by decide⟩ ⟨56, by decide⟩ _ _ _ _ (k0_off59_eq i ⟨3, by decide⟩) rfl)
  (cCons (blk_of i x0 x2 arg2 harg2 arg4 harg4 ⟨3, by decide⟩ ⟨57, by decide⟩ _ _ _ _ (k0_off60_eq i ⟨3, by decide⟩) rfl)
  (cCons (blk_of i x0 x2 arg2 harg2 arg4 harg4 ⟨3, by decide⟩ ⟨58, by decide⟩ _ _ _ _ (k0_off61_eq i ⟨3, by decide⟩) rfl)
  (cCons (blk_of i x0 x2 arg2 harg2 arg4 harg4 ⟨3, by decide⟩ ⟨59, by decide⟩ _ _ _ _ (k0_off62_eq i ⟨3, by decide⟩) rfl)
  (cCons (blk_of i x0 x2 arg2 harg2 arg4 harg4 ⟨3, by decide⟩ ⟨60, by decide⟩ _ _ _ _ (k0_off63_eq i ⟨3, by decide⟩) rfl)
  (cCons (blk_of i x0 x2 arg2 harg2 arg4 harg4 ⟨3, by decide⟩ ⟨61, by decide⟩ _ _ _ _ (k0_off64_eq i ⟨3, by decide⟩) rfl)
  (cCons (blk_of i x0 x2 arg2 harg2 arg4 harg4 ⟨3, by decide⟩ ⟨62, by decide⟩ _ _ _ _ (k0_off65_eq i ⟨3, by decide⟩) rfl)
  (cCons (blk_of i x0 x2 arg2 harg2 arg4 harg4 ⟨3, by decide⟩ ⟨63, by decide⟩ _ _ _ _ (k0_off66_eq i ⟨3, by decide⟩) rfl)
  (cCons (blk_of i x0 x2 arg2 harg2 arg4 harg4 ⟨3, by decide⟩ ⟨64, by decide⟩ _ _ _ _ (k0_off67_eq i ⟨3, by decide⟩) rfl)
  (cCons (blk_of i x0 x2 arg2 harg2 arg4 harg4 ⟨3, by decide⟩ ⟨65, by decide⟩ _ _ _ _ (k0_off68_eq i ⟨3, by decide⟩) rfl)
  (cCons (blk_of i x0 x2 arg2 harg2 arg4 harg4 ⟨3, by decide⟩ ⟨66, by decide⟩ _ _ _ _ (k0_off69_eq i ⟨3, by decide⟩) rfl)
  (cCons (blk_of i x0 x2 arg2 harg2 arg4 harg4 ⟨3, by decide⟩ ⟨67, by decide⟩ _ _ _ _ (k0_off70_eq i ⟨3, by decide⟩) rfl)
  (cCons (blk_of i x0 x2 arg2 harg2 arg4 harg4 ⟨3, by decide⟩ ⟨68, by decide⟩ _ _ _ _ (k0_off71_eq i ⟨3, by decide⟩) rfl)
  (cCons (blk_of i x0 x2 arg2 harg2 arg4 harg4 ⟨3, by decide⟩ ⟨69, by decide⟩ _ _ _ _ (k0_off72_eq i ⟨3, by decide⟩) rfl)
  (cCons (blk_of i x0 x2 arg2 harg2 arg4 harg4 ⟨3, by decide⟩ ⟨70, by decide⟩ _ _ _ _ (k0_off73_eq i ⟨3, by decide⟩) rfl)
  (cCons (blk_of i x0 x2 arg2 harg2 arg4 harg4 ⟨3, by decide⟩ ⟨71, by decide⟩ _ _ _ _ (k0_off74_eq i ⟨3, by decide⟩) rfl)
  (cCons (blk_of i x0 x2 arg2 harg2 arg4 harg4 ⟨3, by decide⟩ ⟨72, by decide⟩ _ _ _ _ (k0_off75_eq i ⟨3, by decide⟩) rfl)
  (cCons (blk_of i x0 x2 arg2 harg2 arg4 harg4 ⟨3, by decide⟩ ⟨73, by decide⟩ _ _ _ _ (k0_off76_eq i ⟨3, by decide⟩) rfl)
  (cCons (blk_of i x0 x2 arg2 harg2 arg4 harg4 ⟨3, by decide⟩ ⟨74, by decide⟩ _ _ _ _ (k0_off77_eq i ⟨3, by decide⟩) rfl)
  (cCons (blk_of i x0 x2 arg2 harg2 arg4 harg4 ⟨3, by decide⟩ ⟨75, by decide⟩ _ _ _ _ (k0_off78_eq i ⟨3, by decide⟩) rfl)
  (cCons (blk_of i x0 x2 arg2 harg2 arg4 harg4 ⟨3, by decide⟩ ⟨76, by decide⟩ _ _ _ _ (k0_off79_eq i ⟨3, by decide⟩) rfl)
  (cCons (blk_of i x0 x2 arg2 harg2 arg4 harg4 ⟨3, by decide⟩ ⟨77, by decide⟩ _ _ _ _ (k0_off80_eq i ⟨3, by decide⟩) rfl)
  (cCons (blk_of i x0 x2 arg2 harg2 arg4 harg4 ⟨3, by decide⟩ ⟨78, by decide⟩ _ _ _ _ (k0_off81_eq i ⟨3, by decide⟩) rfl)
  (cCons (blk_of i x0 x2 arg2 harg2 arg4 harg4 ⟨3, by decide⟩ ⟨79, by decide⟩ _ _ _ _ (k0_off82_eq i ⟨3, by decide⟩) rfl)
  cNil))))))))))))))))))))))))))))))))))))))))))))))))))))))))))))))))))))))))))))))))

end Cert.Kernel.Dgrad

end
-- ==== Proof.Kern.Rows.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import proofs.«01_k».proof.Proof.Kern.RunA
public import proofs.«01_k».proof.Proof.Kern.Weights
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem trips1 : k0_t1_loop.trips = 8 := by decide
theorem trips2 : k0_t2_loop.trips = 80 := by decide

/-! One trip of the outer loop leaves in each buffer what its 80 tiles and its one strip of scales wrote. -/

theorem tripO_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x10240.Idx) :
    arg6.view.read (Elt F) (arg6.view.writes (Elt F) f (tripO Variants.none c none i arg2 harg2 arg3 harg3 arg4 harg4 arg5 harg5 arg6 harg6 arg7 harg7 arg8 harg8 hc0 (harg3.unread x1) k1).1) y
      = if (y 0).val / 64 = k1.val then codes x1 y else arg6.view.read (Elt F) f y := by
  unfold tripO
  refine (st_codes _ _ _ i arg2 harg2 arg3 harg3 arg4 harg4 arg5 harg5 arg6 harg6 arg7 harg7 arg8 harg8 hc0 k1 _ x1 _ f y 80 (by rw [trips2])).trans ?_
  have h1 := lt1 y
  by_cases h : (y 0).val / 64 = k1.val
  · rw [if_pos ⟨h, by omega⟩, if_pos h]
  · rw [if_neg (fun h' => h h'.1), if_neg h]

theorem tripO_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x10240.Idx) :
    arg8.view.read (Elt F) (arg8.view.writes (Elt F) f (tripO Variants.none c none i arg2 harg2 arg3 harg3 arg4 harg4 arg5 harg5 arg6 harg6 arg7 harg7 arg8 harg8 hc0 (harg3.unread x1) k1).2.2.1) y
      = if (y 0).val / 64 = k1.val then wide x1 y else arg8.view.read (Elt F) f y := by
  unfold tripO
  refine (st_wide _ _ _ i arg2 harg2 arg3 harg3 arg4 harg4 arg5 harg5 arg6 harg6 arg7 harg7 arg8 harg8 hc0 k1 _ x1 _ f y 80 (by rw [trips2])).trans ?_
  have h1 := lt1 y
  by_cases h : (y 0).val / 64 = k1.val
  · rw [if_pos ⟨h, by omega⟩, if_pos h]
  · rw [if_neg (fun h' => h h'.1), if_neg h]

theorem tripO_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x80.Idx) :
    arg7.view.read (Elt F) (arg7.view.writes (Elt F) f (tripO Variants.none c none i arg2 harg2 arg3 harg3 arg4 harg4 arg5 harg5 arg6 harg6 arg7 harg7 arg8 harg8 hc0 (harg3.unread x1) k1).2.1) y
      = if (y 0).val / 64 = k1.val then scales x1 y else arg7.view.read (Elt F) f y := by
  have h0 := lt0 y
  have h1 := lt1 y
  unfold tripO
  by_cases h : (y 0).val / 64 = k1.val
  · rw [if_pos h]
    refine (View.read_writes_cons_unit_of_mem arg7.view f _ _ [] y (ix2 ⟨(y 0).val % 64, Nat.mod_lt _ (by omega)⟩ ⟨(y 1).val, h1⟩) (k0_off2_eq k1) ?_).trans ?_
    · intro a
      fin_cases a
      · show (y 0).val = 64 * k1.val + (y 0).val % 64
        omega
      · show (y 1).val = 0 + (y 1).val
        omega
    · refine (extractStridedSlice_apply (t := S64x80) ![0, 0] _ slices_S64x128_o0_0_S64x80 _ (ix2 ⟨(y 0).val % 64, Nat.mod_lt _ (by omega)⟩ ⟨(y 1).val, by omega⟩) ?_).trans ?_
      · intro a
        fin_cases a
        · show (y 0).val % 64 = 0 + (y 0).val % 64
          omega
        · show (y 1).val = 0 + (y 1).val
          omega
      · refine (st_scale _ _ _ i arg2 harg2 arg3 harg3 arg4 harg4 arg5 harg5 arg6 harg6 arg7 harg7 arg8 harg8 hc0 k1 _ x1 _ _ 80 (by rw [trips2])).trans ?_
        rw [dif_pos ⟨h1, h1⟩]
        unfold scales
        have e : (⟨k1.val, lt_t1 k1⟩ : Fin 8) = ⟨(y 0).val / 64, by omega⟩ := Fin.ext h.symm
        rw [e]

  · rw [if_neg h]
    refine View.read_writes_cons_unit_of_not_mem arg7.view f _ _ [] y (k0_off2_eq k1) 0 ?_
    show (y 0).val < 64 * k1.val ∨ 64 * k1.val + 64 ≤ (y 0).val
    omega

/-! After `k` trips the first `64 k` rows are written. -/

theorem pieces_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x10240.Idx) : ∀ k : ℕ, k ≤ k0_t1_loop.trips →
    arg6.view.read (Elt F) (arg6.view.writes (Elt F) f (piecesO Variants.none c none i arg2 harg2 arg3 harg3 arg4 harg4 arg5 harg5 arg6 harg6 arg7 harg7 arg8 harg8 hc0 (harg3.unread x1) k).1) y
      = if (y 0).val / 64 < k then codes x1 y else arg6.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_codes, pieces_codes c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg6.view.read (Elt F) (arg6.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).1) = codes x1 := by
  funext y
  refine (pieces_codes c i arg2 harg2 arg3 harg3 arg4 harg4 arg5 harg5 arg6 harg6 arg7 harg7 arg8 harg8 hc0 x1 f y 8 (by rw [trips1])).trans (if_pos ?_)
  have := lt0 y
  omega

theorem pieces_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x10240.Idx) : ∀ k : ℕ, k ≤ k0_t1_loop.trips →
    arg8.view.read (Elt F) (arg8.view.writes (Elt F) f (piecesO Variants.none c none i arg2 harg2 arg3 harg3 arg4 harg4 arg5 harg5 arg6 harg6 arg7 harg7 arg8 harg8 hc0 (harg3.unread x1) k).2.2) y
      = if (y 0).val / 64 < k then wide x1 y else arg8.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_wide, pieces_wide c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg8.view.read (Elt F) (arg8.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).2.2) = wide x1 := by
  funext y
  refine (pieces_wide c i arg2 harg2 arg3 harg3 arg4 harg4 arg5 harg5 arg6 harg6 arg7 harg7 arg8 harg8 hc0 x1 f y 8 (by rw [trips1])).trans (if_pos ?_)
  have := lt0 y
  omega

theorem pieces_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x80.Idx) : ∀ k : ℕ, k ≤ k0_t1_loop.trips →
    arg7.view.read (Elt F) (arg7.view.writes (Elt F) f (piecesO Variants.none c none i arg2 harg2 arg3 harg3 arg4 harg4 arg5 harg5 arg6 harg6 arg7 harg7 arg8 harg8 hc0 (harg3.unread x1) k).2.1) y
      = if (y 0).val / 64 < k then scales x1 y else arg7.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_scales, pieces_scales c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg7.view.read (Elt F) (arg7.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).2.1) = scales x1 := by
  funext y
  refine (pieces_scales c i arg2 harg2 arg3 harg3 arg4 harg4 arg5 harg5 arg6 harg6 arg7 harg7 arg8 harg8 hc0 x1 f y 8 (by rw [trips1])).trans (if_pos ?_)
  have := lt0 y
  omega

set_option maxHeartbeats 4000000 in
/-- The tile the kernel stores at the first point of a row. -/
theorem dx_runA (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x0 : Vec F S56x80 .f32) (x1 : Vec F S512x10240 .bf16) (x2 : Vec F S512x10240 .fp8e4m3) (xs : Vec F S512x10240 .bf16) :
    runA.sl.r_677 c i arg2 harg2 arg3 harg3 arg4 harg4 arg5 harg5 arg6 harg6 arg7 harg7 arg8 harg8 hc0 x0 x1 x2 xs = dxT i x0 x2 (wide x1) := by
  have e8 : runA.sl.v2888 c i arg2 harg2 arg3 harg3 arg4 harg4 arg5 harg5 arg6 harg6 arg7 harg7 arg8 harg8 hc0 x1 xs = wide x1 := by
    funext y
    unfold runA.sl.v2888
    rw [View.readAt_apply]
    refine (congrFun (all_wide c i arg2 harg2 arg3 harg3 arg4 harg4 arg5 harg5 arg6 harg6 arg7 harg7 arg8 harg8 hc0 x1 (harg8.unread xs)) _).trans ?_
    congr 1
    refine idx_ext ?_ ?_
    · show 0 + 1 * (y 0).val = (y 0).val
      omega
    · show 0 + 1 * (y 1).val = (y 1).val
      omega
  refine congrArg (fun v => truncf .bf16 v bitsLt_bf16_f32) (congrArg₂ (fun a b => matmul (F := F) dot_S512x10240_S512x10240_S512x512_1_1_0_0_n_n none a b (constant S512x512 .f32 0x00000000#32)) e8 ?_)
  refine block_of_rows i x0 x2 _ _ _ _ _ (row0 c i arg2 harg2 arg4 harg4 x0 x2) (row1 c i arg2 harg2 arg4 harg4 x0 x2) (row2 c i arg2 harg2 arg4 harg4 x0 x2) ?_
  exact row_of_list i x0 x2 3 _ (by exact cat80) <| (Eq.trans · (ofFn80 _).symm) <|
  (cCons (blk_of i x0 x2 arg2 harg2 arg4 harg4 ⟨3, by decide⟩ ⟨0, by decide⟩ _ _ _ _ (k0_off3_eq i ⟨3, by decide⟩) rfl)
  (cCons (blk_of i x0 x2 arg2 harg2 arg4 harg4 ⟨3, by decide⟩ ⟨1, by decide⟩ _ _ _ _ (k0_off4_eq i ⟨3, by decide⟩) rfl)
  (cCons (blk_of i x0 x2 arg2 harg2 arg4 harg4 ⟨3, by decide⟩ ⟨2, by decide⟩ _ _ _ _ (k0_off5_eq i ⟨3, by decide⟩) rfl)
  (cCons (blk_of i x0 x2 arg2 harg2 arg4 harg4 ⟨3, by decide⟩ ⟨3, by decide⟩ _ _ _ _ (k0_off6_eq i ⟨3, by decide⟩) rfl)
  (cCons (blk_of i x0 x2 arg2 harg2 arg4 harg4 ⟨3, by decide⟩ ⟨4, by decide⟩ _ _ _ _ (k0_off7_eq i ⟨3, by decide⟩) rfl)
  (cCons (blk_of i x0 x2 arg2 harg2 arg4 harg4 ⟨3, by decide⟩ ⟨5, by decide⟩ _ _ _ _ (k0_off8_eq i ⟨3, by decide⟩) rfl)
  (cCons (blk_of i x0 x2 arg2 harg2 arg4 harg4 ⟨3, by decide⟩ ⟨6, by decide⟩ _ _ _ _ (k0_off9_eq i ⟨3, by decide⟩) rfl)
  (cCons (blk_of i x0 x2 arg2 harg2 arg4 harg4 ⟨3, by decide⟩ ⟨7, by decide⟩ _ _ _ _ (k0_off10_eq i ⟨3, by decide⟩) rfl)
  (cCons (blk_of i x0 x2 arg2 harg2 arg4 harg4 ⟨3, by decide⟩ ⟨8, by decide⟩ _ _ _ _ (k0_off11_eq i ⟨3, by decide⟩) rfl)
  (cCons (blk_of i x0 x2 arg2 harg2 arg4 harg4 ⟨3, by decide⟩ ⟨9, by decide⟩ _ _ _ _ (k0_off12_eq i ⟨3, by decide⟩) rfl)
  (cCons (blk_of i x0 x2 arg2 harg2 arg4 harg4 ⟨3, by decide⟩ ⟨10, by decide⟩ _ _ _ _ (k0_off13_eq i ⟨3, by decide⟩) rfl)
  (cCons (blk_of i x0 x2 arg2 harg2 arg4 harg4 ⟨3, by decide⟩ ⟨11, by decide⟩ _ _ _ _ (k0_off14_eq i ⟨3, by decide⟩) rfl)
  (cCons (blk_of i x0 x2 arg2 harg2 arg4 harg4 ⟨3, by decide⟩ ⟨12, by decide⟩ _ _ _ _ (k0_off15_eq i ⟨3, by decide⟩) rfl)
  (cCons (blk_of i x0 x2 arg2 harg2 arg4 harg4 ⟨3, by decide⟩ ⟨13, by decide⟩ _ _ _ _ (k0_off16_eq i ⟨3, by decide⟩) rfl)
  (cCons (blk_of i x0 x2 arg2 harg2 arg4 harg4 ⟨3, by decide⟩ ⟨14, by decide⟩ _ _ _ _ (k0_off17_eq i ⟨3, by decide⟩) rfl)
  (cCons (blk_of i x0 x2 arg2 harg2 arg4 harg4 ⟨3, by decide⟩ ⟨15, by decide⟩ _ _ _ _ (k0_off18_eq i ⟨3, by decide⟩) rfl)
  (cCons (blk_of i x0 x2 arg2 harg2 arg4 harg4 ⟨3, by decide⟩ ⟨16, by decide⟩ _ _ _ _ (k0_off19_eq i ⟨3, by decide⟩) rfl)
  (cCons (blk_of i x0 x2 arg2 harg2 arg4 harg4 ⟨3, by decide⟩ ⟨17, by decide⟩ _ _ _ _ (k0_off20_eq i ⟨3, by decide⟩) rfl)
  (cCons (blk_of i x0 x2 arg2 harg2 arg4 harg4 ⟨3, by decide⟩ ⟨18, by decide⟩ _ _ _ _ (k0_off21_eq i ⟨3, by decide⟩) rfl)
  (cCons (blk_of i x0 x2 arg2 harg2 arg4 harg4 ⟨3, by decide⟩ ⟨19, by decide⟩ _ _ _ _ (k0_off22_eq i ⟨3, by decide⟩) rfl)
  (cCons (blk_of i x0 x2 arg2 harg2 arg4 harg4 ⟨3, by decide⟩ ⟨20, by decide⟩ _ _ _ _ (k0_off23_eq i ⟨3, by decide⟩) rfl)
  (cCons (blk_of i x0 x2 arg2 harg2 arg4 harg4 ⟨3, by decide⟩ ⟨21, by decide⟩ _ _ _ _ (k0_off24_eq i ⟨3, by decide⟩) rfl)
  (cCons (blk_of i x0 x2 arg2 harg2 arg4 harg4 ⟨3, by decide⟩ ⟨22, by decide⟩ _ _ _ _ (k0_off25_eq i ⟨3, by decide⟩) rfl)
  (cCons (blk_of i x0 x2 arg2 harg2 arg4 harg4 ⟨3, by decide⟩ ⟨23, by decide⟩ _ _ _ _ (k0_off26_eq i ⟨3, by decide⟩) rfl)
  (cCons (blk_of i x0 x2 arg2 harg2 arg4 harg4 ⟨3, by decide⟩ ⟨24, by decide⟩ _ _ _ _ (k0_off27_eq i ⟨3, by decide⟩) rfl)
  (cCons (blk_of i x0 x2 arg2 harg2 arg4 harg4 ⟨3, by decide⟩ ⟨25, by decide⟩ _ _ _ _ (k0_off28_eq i ⟨3, by decide⟩) rfl)
  (cCons (blk_of i x0 x2 arg2 harg2 arg4 harg4 ⟨3, by decide⟩ ⟨26, by decide⟩ _ _ _ _ (k0_off29_eq i ⟨3, by decide⟩) rfl)
  (cCons (blk_of i x0 x2 arg2 harg2 arg4 harg4 ⟨3, by decide⟩ ⟨27, by decide⟩ _ _ _ _ (k0_off30_eq i ⟨3, by decide⟩) rfl)
  (cCons (blk_of i x0 x2 arg2 harg2 arg4 harg4 ⟨3, by decide⟩ ⟨28, by decide⟩ _ _ _ _ (k0_off31_eq i ⟨3, by decide⟩) rfl)
  (cCons (blk_of i x0 x2 arg2 harg2 arg4 harg4 ⟨3, by decide⟩ ⟨29, by decide⟩ _ _ _ _ (k0_off32_eq i ⟨3, by decide⟩) rfl)
  (cCons (blk_of i x0 x2 arg2 harg2 arg4 harg4 ⟨3, by decide⟩ ⟨30, by decide⟩ _ _ _ _ (k0_off33_eq i ⟨3, by decide⟩) rfl)
  (cCons (blk_of i x0 x2 arg2 harg2 arg4 harg4 ⟨3, by decide⟩ ⟨31, by decide⟩ _ _ _ _ (k0_off34_eq i ⟨3, by decide⟩) rfl)
  (cCons (blk_of i x0 x2 arg2 harg2 arg4 harg4 ⟨3, by decide⟩ ⟨32, by decide⟩ _ _ _ _ (k0_off35_eq i ⟨3, by decide⟩) rfl)
  (cCons (blk_of i x0 x2 arg2 harg2 arg4 harg4 ⟨3, by decide⟩ ⟨33, by decide⟩ _ _ _ _ (k0_off36_eq i ⟨3, by decide⟩) rfl)
  (cCons (blk_of i x0 x2 arg2 harg2 arg4 harg4 ⟨3, by decide⟩ ⟨34, by decide⟩ _ _ _ _ (k0_off37_eq i ⟨3, by decide⟩) rfl)
  (cCons (blk_of i x0 x2 arg2 harg2 arg4 harg4 ⟨3, by decide⟩ ⟨35, by decide⟩ _ _ _ _ (k0_off38_eq i ⟨3, by decide⟩) rfl)
  (cCons (blk_of i x0 x2 arg2 harg2 arg4 harg4 ⟨3, by decide⟩ ⟨36, by decide⟩ _ _ _ _ (k0_off39_eq i ⟨3, by decide⟩) rfl)
  (cCons (blk_of i x0 x2 arg2 harg2 arg4 harg4 ⟨3, by decide⟩ ⟨37, by decide⟩ _ _ _ _ (k0_off40_eq i ⟨3, by decide⟩) rfl)
  (cCons (blk_of i x0 x2 arg2 harg2 arg4 harg4 ⟨3, by decide⟩ ⟨38, by decide⟩ _ _ _ _ (k0_off41_eq i ⟨3, by decide⟩) rfl)
  (cCons (blk_of i x0 x2 arg2 harg2 arg4 harg4 ⟨3, by decide⟩ ⟨39, by decide⟩ _ _ _ _ (k0_off42_eq i ⟨3, by decide⟩) rfl)
  (cCons (blk_of i x0 x2 arg2 harg2 arg4 harg4 ⟨3, by decide⟩ ⟨40, by decide⟩ _ _ _ _ (k0_off43_eq i ⟨3, by decide⟩) rfl)
  (cCons (blk_of i x0 x2 arg2 harg2 arg4 harg4 ⟨3, by decide⟩ ⟨41, by decide⟩ _ _ _ _ (k0_off44_eq i ⟨3, by decide⟩) rfl)
  (cCons (blk_of i x0 x2 arg2 harg2 arg4 harg4 ⟨3, by decide⟩ ⟨42, by decide⟩ _ _ _ _ (k0_off45_eq i ⟨3, by decide⟩) rfl)
  (cCons (blk_of i x0 x2 arg2 harg2 arg4 harg4 ⟨3, by decide⟩ ⟨43, by decide⟩ _ _ _ _ (k0_off46_eq i ⟨3, by decide⟩) rfl)
  (cCons (blk_of i x0 x2 arg2 harg2 arg4 harg4 ⟨3, by decide⟩ ⟨44, by decide⟩ _ _ _ _ (k0_off47_eq i ⟨3, by decide⟩) rfl)
  (cCons (blk_of i x0 x2 arg2 harg2 arg4 harg4 ⟨3, by decide⟩ ⟨45, by decide⟩ _ _ _ _ (k0_off48_eq i ⟨3, by decide⟩) rfl)
  (cCons (blk_of i x0 x2 arg2 harg2 arg4 harg4 ⟨3, by decide⟩ ⟨46, by decide⟩ _ _ _ _ (k0_off49_eq i ⟨3, by decide⟩) rfl)
  (cCons (blk_of i x0 x2 arg2 harg2 arg4 harg4 ⟨3, by decide⟩ ⟨47, by decide⟩ _ _ _ _ (k0_off50_eq i ⟨3, by decide⟩) rfl)
  (cCons (blk_of i x0 x2 arg2 harg2 arg4 harg4 ⟨3, by decide⟩ ⟨48, by decide⟩ _ _ _ _ (k0_off51_eq i ⟨3, by decide⟩) rfl)
  (cCons (blk_of i x0 x2 arg2 harg2 arg4 harg4 ⟨3, by decide⟩ ⟨49, by decide⟩ _ _ _ _ (k0_off52_eq i ⟨3, by decide⟩) rfl)
  (cCons (blk_of i x0 x2 arg2 harg2 arg4 harg4 ⟨3, by decide⟩ ⟨50, by decide⟩ _ _ _ _ (k0_off53_eq i ⟨3, by decide⟩) rfl)
  (cCons (blk_of i x0 x2 arg2 harg2 arg4 harg4 ⟨3, by decide⟩ ⟨51, by decide⟩ _ _ _ _ (k0_off54_eq i ⟨3, by decide⟩) rfl)
  (cCons (blk_of i x0 x2 arg2 harg2 arg4 harg4 ⟨3, by decide⟩ ⟨52, by decide⟩ _ _ _ _ (k0_off55_eq i ⟨3, by decide⟩) rfl)
  (cCons (blk_of i x0 x2 arg2 harg2 arg4 harg4 ⟨3, by decide⟩ ⟨53, by decide⟩ _ _ _ _ (k0_off56_eq i ⟨3, by decide⟩) rfl)
  (cCons (blk_of i x0 x2 arg2 harg2 arg4 harg4 ⟨3, by decide⟩ ⟨54, by decide⟩ _ _ _ _ (k0_off57_eq i ⟨3, by decide⟩) rfl)
  (cCons (blk_of i x0 x2 arg2 harg2 arg4 harg4 ⟨3, by decide⟩ ⟨55, by decide⟩ _ _ _ _ (k0_off58_eq i ⟨3, by decide⟩) rfl)
  (cCons (blk_of i x0 x2 arg2 harg2 arg4 harg4 ⟨3, by decide⟩ ⟨56, by decide⟩ _ _ _ _ (k0_off59_eq i ⟨3, by decide⟩) rfl)
  (cCons (blk_of i x0 x2 arg2 harg2 arg4 harg4 ⟨3, by decide⟩ ⟨57, by decide⟩ _ _ _ _ (k0_off60_eq i ⟨3, by decide⟩) rfl)
  (cCons (blk_of i x0 x2 arg2 harg2 arg4 harg4 ⟨3, by decide⟩ ⟨58, by decide⟩ _ _ _ _ (k0_off61_eq i ⟨3, by decide⟩) rfl)
  (cCons (blk_of i x0 x2 arg2 harg2 arg4 harg4 ⟨3, by decide⟩ ⟨59, by decide⟩ _ _ _ _ (k0_off62_eq i ⟨3, by decide⟩) rfl)
  (cCons (blk_of i x0 x2 arg2 harg2 arg4 harg4 ⟨3, by decide⟩ ⟨60, by decide⟩ _ _ _ _ (k0_off63_eq i ⟨3, by decide⟩) rfl)
  (cCons (blk_of i x0 x2 arg2 harg2 arg4 harg4 ⟨3, by decide⟩ ⟨61, by decide⟩ _ _ _ _ (k0_off64_eq i ⟨3, by decide⟩) rfl)
  (cCons (blk_of i x0 x2 arg2 harg2 arg4 harg4 ⟨3, by decide⟩ ⟨62, by decide⟩ _ _ _ _ (k0_off65_eq i ⟨3, by decide⟩) rfl)
  (cCons (blk_of i x0 x2 arg2 harg2 arg4 harg4 ⟨3, by decide⟩ ⟨63, by decide⟩ _ _ _ _ (k0_off66_eq i ⟨3, by decide⟩) rfl)
  (cCons (blk_of i x0 x2 arg2 harg2 arg4 harg4 ⟨3, by decide⟩ ⟨64, by decide⟩ _ _ _ _ (k0_off67_eq i ⟨3, by decide⟩) rfl)
  (cCons (blk_of i x0 x2 arg2 harg2 arg4 harg4 ⟨3, by decide⟩ ⟨65, by decide⟩ _ _ _ _ (k0_off68_eq i ⟨3, by decide⟩) rfl)
  (cCons (blk_of i x0 x2 arg2 harg2 arg4 harg4 ⟨3, by decide⟩ ⟨66, by decide⟩ _ _ _ _ (k0_off69_eq i ⟨3, by decide⟩) rfl)
  (cCons (blk_of i x0 x2 arg2 harg2 arg4 harg4 ⟨3, by decide⟩ ⟨67, by decide⟩ _ _ _ _ (k0_off70_eq i ⟨3, by decide⟩) rfl)
  (cCons (blk_of i x0 x2 arg2 harg2 arg4 harg4 ⟨3, by decide⟩ ⟨68, by decide⟩ _ _ _ _ (k0_off71_eq i ⟨3, by decide⟩) rfl)
  (cCons (blk_of i x0 x2 arg2 harg2 arg4 harg4 ⟨3, by decide⟩ ⟨69, by decide⟩ _ _ _ _ (k0_off72_eq i ⟨3, by decide⟩) rfl)
  (cCons (blk_of i x0 x2 arg2 harg2 arg4 harg4 ⟨3, by decide⟩ ⟨70, by decide⟩ _ _ _ _ (k0_off73_eq i ⟨3, by decide⟩) rfl)
  (cCons (blk_of i x0 x2 arg2 harg2 arg4 harg4 ⟨3, by decide⟩ ⟨71, by decide⟩ _ _ _ _ (k0_off74_eq i ⟨3, by decide⟩) rfl)
  (cCons (blk_of i x0 x2 arg2 harg2 arg4 harg4 ⟨3, by decide⟩ ⟨72, by decide⟩ _ _ _ _ (k0_off75_eq i ⟨3, by decide⟩) rfl)
  (cCons (blk_of i x0 x2 arg2 harg2 arg4 harg4 ⟨3, by decide⟩ ⟨73, by decide⟩ _ _ _ _ (k0_off76_eq i ⟨3, by decide⟩) rfl)
  (cCons (blk_of i x0 x2 arg2 harg2 arg4 harg4 ⟨3, by decide⟩ ⟨74, by decide⟩ _ _ _ _ (k0_off77_eq i ⟨3, by decide⟩) rfl)
  (cCons (blk_of i x0 x2 arg2 harg2 arg4 harg4 ⟨3, by decide⟩ ⟨75, by decide⟩ _ _ _ _ (k0_off78_eq i ⟨3, by decide⟩) rfl)
  (cCons (blk_of i x0 x2 arg2 harg2 arg4 harg4 ⟨3, by decide⟩ ⟨76, by decide⟩ _ _ _ _ (k0_off79_eq i ⟨3, by decide⟩) rfl)
  (cCons (blk_of i x0 x2 arg2 harg2 arg4 harg4 ⟨3, by decide⟩ ⟨77, by decide⟩ _ _ _ _ (k0_off80_eq i ⟨3, by decide⟩) rfl)
  (cCons (blk_of i x0 x2 arg2 harg2 arg4 harg4 ⟨3, by decide⟩ ⟨78, by decide⟩ _ _ _ _ (k0_off81_eq i ⟨3, by decide⟩) rfl)
  (cCons (blk_of i x0 x2 arg2 harg2 arg4 harg4 ⟨3, by decide⟩ ⟨79, by decide⟩ _ _ _ _ (k0_off82_eq i ⟨3, by decide⟩) rfl)
  cNil))))))))))))))))))))))))))))))))))))))))))))))))))))))))))))))))))))))))))))))))

end Cert.Kernel.Dgrad

end
-- ==== Proof.Kern.Data.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import proofs.«01_k».proof.Proof.Kern.Rows
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Dgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (Dat Cfg Window BodyObligation cellOf)

variable (m : (ℓ : Loc nD τ sig) → Buf (Elt F) ℓ) (ρ : Dev nD → PrngReg)

/-! ## The grid, point by point -/

theorem N672 (t : Fin cfg0.N) : t.val < 672 := Nat.lt_of_lt_of_eq t.isLt N_0

/-- The quantising branch is taken at the first point of each row. -/
theorem hcond : ∀ t : Fin cfg0.N, k0_cond1 (grid0.coords t) = 1#1 ↔ t.val % 14 = 0 :=
  (fun t => by
    have ht : t.val < 672 := Nat.lt_of_lt_of_eq t.isLt N_0
    have e1 : (grid0.coords t 1).val = t.val / 1 % 14 := Pipeline.Grid.coords_val t 1 (by decide) rfl
    simp only [k0_cond1, e1]
    word_cmp
   : ∀ t : Fin grid0.N, k0_cond1 (grid0.coords t) = 1#1 ↔ t.val % 14 = 0)

theorem idle_4 (t : Fin cfg0.N) : idle0 4 (grid0.coords t) = !decide (t.val % 14 = 0) := by
  show (!(k0_cond1 (grid0.coords t) == 1#1)) = _
  congr 1
  rw [Bool.eq_iff_iff, beq_iff_eq, decide_eq_true_iff]
  exact hcond t
theorem idle_5 (t : Fin cfg0.N) : idle0 5 (grid0.coords t) = !decide (t.val % 14 = 0) := idle_4 t

/-- The block of dy at point `t`, -/
def dyBlk (c : Dev nD) (t : Fin cfg0.N) : Vec F S512x10240 .bf16 := iblk m c 1 t

theorem idx1 : ∀ t : Fin grid0.N, win0_1.index t 0 = t.val / 14 ∧ win0_1.index t 1 = 0 := by decide +kernel

/-- which is rows `512 (t / 14) …` of dy, -/
theorem dyBlk_apply (c : Dev nD) (t : Fin cfg0.N) (y : S512x10240.Idx) :
    dyBlk m c t y = V m c main_v0 (ix2 ⟨512 * (t.val / 14) + (y 0).val, by have := N672 t; have := lt0 y; omega⟩ ⟨(y 1).val, lt1 y⟩ : S24576x10240.Idx) := by
  show V m c main_v0 ((win0_1.rect t).emb y) = _
  congr 1
  refine idx_ext ?_ ?_
  · show win0_1.index t 0 * 512 + 1 * (y 0).val = 512 * (t.val / 14) + (y 0).val
    rw [(idx1 t).1]; omega
  · show win0_1.index t 1 * 10240 + 1 * (y 1).val = (y 1).val
    rw [(idx1 t).2]; omega

/-- and the same along a row of the grid. -/
theorem dyBlk_congr (c : Dev nD) (t u : Fin cfg0.N) (h : t.val / 14 = u.val / 14) : dyBlk m c t = dyBlk m c u := by
  funext y
  rw [dyBlk_apply, dyBlk_apply]
  congr 1
  exact idx_ext (by show 512 * (t.val / 14) + (y 0).val = 512 * (u.val / 14) + (y 0).val; rw [h]) rfl
theorem dyBlk_prev (c : Dev nD) (t : Fin cfg0.N) (h0 : ¬ t.val % 14 = 0) :
    dyBlk m c ⟨t.val - 1, by omega⟩ = dyBlk m c t :=
  dyBlk_congr m c _ _ (by show (t.val - 1) / 14 = t.val / 14; omega)

/-! ## The buffers the pipeline passes -/

abbrev ms0_0 (t : Fin cfg0.N) : Memref sig .tc .smem S56x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x10240 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x10240 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x10240 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x80 .f32 := win0_5.stage (cfg0.slots t 5)
abbrev hs0_5 (t : Fin cfg0.N) : (ms0_5 t).IsWhole := hstage0_5 ((cfg0.slots t 5).cast nbuf0_5)
abbrev scM0_0 : Memref sig .tc .vmem S512x10240 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- Between points the scratch holds the widened block of the row the last point was in. -/
def PhiS (c : Dev nD) : (n : ℕ) → n ≤ cfg0.N → sProp 𝕄
  | 0, _ => Pipeline.ΦA spec0 c
  | n + 1, hn => iprop(iprop(owns (c : Thread nD τ) scM0_0 fullShare (wide (dyBlk m c ⟨n, hn⟩))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (wide (dyBlk m c ⟨n, hn⟩))) ∗ (∃ r, prngReg c r)) := rfl
theorem PhiS_pos (c : Dev nD) (n : ℕ) (h : n ≤ cfg0.N) (hz : n ≠ 0) :
    PhiS m c n h = iprop(iprop(owns (c : Thread nD τ) scM0_0 fullShare (wide (dyBlk m c ⟨n - 1, by omega⟩))) ∗ (∃ r, prngReg c r)) := by
  cases n with
  | zero => exact absurd rfl hz
  | succ n => rfl

/-- What the body leaves in each buffer: the inputs as they were, the product's tile, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxT (grid0.coords t) (iblk m c 0 t) (iblk m c 2 t) (wide (dyBlk m c t))
    | ⟨4, _⟩ => codes (dyBlk m c t)
    | ⟨5, _⟩ => scales (dyBlk m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = dxT (grid0.coords t) (iblk m c 0 t) (iblk m c 2 t) (wide (dyBlk m c t)) := by dsimp only [dats]
theorem after0_4 (c : Dev nD) (t : Fin cfg0.N) : (dats m 0 c).after 4 t = codes (dyBlk m c t) := by dsimp only [dats]
theorem after0_5 (c : Dev nD) (t : Fin cfg0.N) : (dats m 0 c).after 5 t = scales (dyBlk m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The points where the codes and the scales are not stored -/

theorem fresh0_4 (n : ℕ) (h : n ≤ cfg0.N) : cfg0.fresh 4 n = decide (n % 14 = 0) :=
  cfg0.fresh_tab 4 (fun n => decide (n % 14 = 0)) rfl (fun t => by
    show decide ((t.val + 1) % 14 = 0) = ((cfg0.win 4).flush t || (idle0 4 (grid0.coords t) && decide (t.val % 14 = 0)))
    rw [idle_4]
    by_cases h13 : t.val % 14 = 13
    · rw [(flush0_4 t).mpr h13, decide_eq_true (by omega)]; rfl
    · rw [Bool.eq_false_iff.mpr (fun hf => h13 ((flush0_4 t).mp hf)), decide_eq_false (by omega)]
      by_cases h0 : t.val % 14 = 0 <;> simp [h0]) n h

/-- Where the body stores nothing into output 4, the buffer holds what the row's first point left, -/
theorem before0_4 (c : Dev nD) (t : Fin cfg0.N) (h0 : ¬ t.val % 14 = 0) (d) : (dats m 0 c).before 4 t d = (dats m 0 c).after 4 t := by
  rw [(dats m 0 c).before_out_traj 4 rfl (fun _ _ => rfl) (fun u hu _ hf => ?_) t.val t rfl d,
    fresh0_4 _ (Nat.le_of_lt t.isLt), decide_eq_false h0, after0_4, after0_4, dyBlk_prev m c t h0]
  · rfl
  · rw [fresh0_4 _ (Nat.le_of_lt u.isLt)] at hf
    rw [after0_4, after0_4, dyBlk_prev m c u (of_decide_eq_false hf)]

/-- and is handed back so; -/
theorem leave_4 (c : Dev nD) (t : Fin cfg0.N) (h0 : ¬ t.val % 14 = 0) (d) :
    owns (c : Thread nD τ) (ms0_4 t) fullShare ((dats m 0 c).before 4 t d) ⊢ (dats m 0 c).leavesExact 4 t := by
  by_cases hf : (cfg0.win 4).flush t = true
  · rw [before0_4 m c t h0]
    unfold Dat.leavesExact
    rw [show cfg0.idle 4 (cfg0.grid.coords t) = true from by rw [show cfg0.idle 4 (cfg0.grid.coords t) = idle0 4 (grid0.coords t) from rfl, idle_4]; simp [h0], hf]
  · rw [(dats m 0 c).leavesExact_idle 4 t (by rw [show cfg0.idle 4 (cfg0.grid.coords t) = idle0 4 (grid0.coords t) from rfl, idle_4]; simp [h0]) (Bool.eq_false_iff.mpr hf)]
    iintro H
    iexists d
    iexact H

/-- elsewhere it is left at what the point computes. -/
theorem live_4 (c : Dev nD) (t : Fin cfg0.N) (h0 : t.val % 14 = 0) :
    (dats m 0 c).leavesExact 4 t = owns (c : Thread nD τ) (ms0_4 t) fullShare (codes (dyBlk m c t)) := by
  unfold Dat.leavesExact
  rw [show cfg0.idle 4 (cfg0.grid.coords t) = false from by rw [show cfg0.idle 4 (cfg0.grid.coords t) = idle0 4 (grid0.coords t) from rfl, idle_4]; simp [h0], after0_4]

theorem fresh0_5 (n : ℕ) (h : n ≤ cfg0.N) : cfg0.fresh 5 n = decide (n % 14 = 0) :=
  cfg0.fresh_tab 5 (fun n => decide (n % 14 = 0)) rfl (fun t => by
    show decide ((t.val + 1) % 14 = 0) = ((cfg0.win 5).flush t || (idle0 5 (grid0.coords t) && decide (t.val % 14 = 0)))
    rw [idle_5]
    by_cases h13 : t.val % 14 = 13
    · rw [(flush0_5 t).mpr h13, decide_eq_true (by omega)]; rfl
    · rw [Bool.eq_false_iff.mpr (fun hf => h13 ((flush0_5 t).mp hf)), decide_eq_false (by omega)]
      by_cases h0 : t.val % 14 = 0 <;> simp [h0]) n h

/-- Where the body stores nothing into output 5, the buffer holds what the row's first point left, -/
theorem before0_5 (c : Dev nD) (t : Fin cfg0.N) (h0 : ¬ t.val % 14 = 0) (d) : (dats m 0 c).before 5 t d = (dats m 0 c).after 5 t := by
  rw [(dats m 0 c).before_out_traj 5 rfl (fun _ _ => rfl) (fun u hu _ hf => ?_) t.val t rfl d,
    fresh0_5 _ (Nat.le_of_lt t.isLt), decide_eq_false h0, after0_5, after0_5, dyBlk_prev m c t h0]
  · rfl
  · rw [fresh0_5 _ (Nat.le_of_lt u.isLt)] at hf
    rw [after0_5, after0_5, dyBlk_prev m c u (of_decide_eq_false hf)]

/-- and is handed back so; -/
theorem leave_5 (c : Dev nD) (t : Fin cfg0.N) (h0 : ¬ t.val % 14 = 0) (d) :
    owns (c : Thread nD τ) (ms0_5 t) fullShare ((dats m 0 c).before 5 t d) ⊢ (dats m 0 c).leavesExact 5 t := by
  by_cases hf : (cfg0.win 5).flush t = true
  · rw [before0_5 m c t h0]
    unfold Dat.leavesExact
    rw [show cfg0.idle 5 (cfg0.grid.coords t) = true from by rw [show cfg0.idle 5 (cfg0.grid.coords t) = idle0 5 (grid0.coords t) from rfl, idle_5]; simp [h0], hf]
  · rw [(dats m 0 c).leavesExact_idle 5 t (by rw [show cfg0.idle 5 (cfg0.grid.coords t) = idle0 5 (grid0.coords t) from rfl, idle_5]; simp [h0]) (Bool.eq_false_iff.mpr hf)]
    iintro H
    iexists d
    iexact H

/-- elsewhere it is left at what the point computes. -/
theorem live_5 (c : Dev nD) (t : Fin cfg0.N) (h0 : t.val % 14 = 0) :
    (dats m 0 c).leavesExact 5 t = owns (c : Thread nD τ) (ms0_5 t) fullShare (scales (dyBlk m c t)) := by
  unfold Dat.leavesExact
  rw [show cfg0.idle 5 (cfg0.grid.coords t) = false from by rw [show cfg0.idle 5 (cfg0.grid.coords t) = idle0 5 (grid0.coords t) from rfl, idle_5]; simp [h0], after0_5]

/-! ## The body at a point -/

/-- One store through the whole buffer leaves what was stored. -/
theorem read_whole_piece (v : View sig .tc .vmem S512x512 .bf16) (f) (inb) (w : S512x512.Idx → Elt F .bf16) :
    v.read (Elt F) (v.writes (Elt F) f [(⟨Rect.unit (s := S512x512) ![0, 0] ![512, 512] inb, w⟩ : View.Piece (Elt F) S512x512 .bf16)]) = w := by
  funext y
  refine View.read_writes_cons_unit_of_mem v f inb w [] y y rfl ?_
  intro a
  fin_cases a
  · show (y 0).val = 0 + (y 0).val
    omega
  · show (y 1).val = 0 + (y 1).val
    omega

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t)

set_option maxHeartbeats 3200000 in
/-- The body at any point: the quantising case at the first point of a row, the other elsewhere, where the
    scratch holds the row's widened block and the codes and scales stay as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  rw [show iblk m c 1 t = dyBlk m c t from rfl]
  by_cases h0 : t.val % 14 = 0
  · rw [live_4 m c t h0, live_5 m c t h0]
    by_cases hz : t.val = 0
    · rw [PhiS_castSucc m c t, PhiS_zero m c _ _ hz, PhiA0_eq]
      iintro ⟨⟨⟨%xs, HS0⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (iblk m c 0 t) (dyBlk m c t) (iblk m c 2 t) xs).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact all_wide c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (read_whole_piece _ _ _ _).trans (dx_runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) _ _ _ _)
      isplitl [H4]
      · unfold owns; iexists _; isplitr
        swap; · iexact H4
        ipureintro; exact all_codes c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
      unfold owns; iexists _; isplitr
      swap; · iexact H5
      ipureintro; exact all_scales c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (iblk m c 0 t) (dyBlk m c t) (iblk m c 2 t) (wide (dyBlk m c ⟨t.val - 1, by omega⟩))).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact all_wide c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (read_whole_piece _ _ _ _).trans (dx_runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) _ _ _ _)
      isplitl [H4]
      · unfold owns; iexists _; isplitr
        swap; · iexact H4
        ipureintro; exact all_codes c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
      unfold owns; iexists _; isplitr
      swap; · iexact H5
      ipureintro; exact all_scales c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
  · have hz : t.val ≠ 0 := fun h => h0 (by rw [h])
    rw [PhiS_castSucc m c t, PhiS_pos m c _ _ hz, dyBlk_prev m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond t).mp h)) (iblk m c 0 t) (iblk m c 2 t) (wide (dyBlk m c t))).2 Set.univ _)
    isplitl [H0]; · iexact H0
    isplitl [H2]; · iexact H2
    isplitl [H3]; · iexists _; iexact H3
    isplitl [HS0]; · iexact HS0
    iintro ⟨H0, H2, ⟨%e3, H3⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (read_whole_piece _ _ _ _).trans (dx_runB c (grid0.coords t) _ _ _ _ _ _ _ _ _)
    isplitl [H4]
    · iapply (leave_4 m c t h0 d4)
      iexact H4
    iapply (leave_5 m c t h0 d5)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 672 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Dgrad

end
-- ==== Proof.Ideal.RowLoop.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one trip of the row loop holds: the gradient block `arg3` it reads, and the three buffers it
    stores into. -/
abbrev TripRes (c : Dev nD) (arg3 : Memref sig .tc .vmem S512x10240 .bf16) (arg6 : Memref sig .tc .vmem S512x10240 .fp8e4m3) (arg7 : Memref sig .tc .vmem S512x80 .f32) (arg8 : Memref sig .tc .vmem S512x10240 .bf16)
    (X3 : BufTy.Contents (Elt F) arg3.view.ty) (f6 : BufTy.Contents (Elt F) arg6.view.ty) (f7 : BufTy.Contents (Elt F) arg7.view.ty) (f8 : BufTy.Contents (Elt F) arg8.view.ty) : sProp 𝕄 :=
  iprop((arg3.view.loc (c : Thread nD τ) ↦[arg3.view.set]{fullShare} X3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- One trip of the row loop: the pieces it writes are what the run of its body finds. -/
@[irreducible] def tripO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (k : Fin k0_t1_loop.trips) :
    Σ' (L6 : List (View.Piece (Elt F) S512x10240 .fp8e4m3)) (L7 : List (View.Piece (Elt F) S512x80 .f32)), { L8 : List (View.Piece (Elt F) S512x10240 .bf16) // ∀ (E : Set ℕ) (f6 : BufTy.Contents (Elt F) arg6.view.ty) (f7 : BufTy.Contents (Elt F) arg7.view.ty) (f8 : BufTy.Contents (Elt F) arg8.view.ty),
      TripRes (F := F) c arg3 arg6 arg7 arg8 X3 f6 f7 f8
      ⊢ wp frame (wpE (defs₀ (F := F)) 𝒱 (c : Thread nD τ) bd) E (k0_t1_body (F := F) i arg2 harg2 arg3 harg3 arg4 harg4 arg5 harg5 arg6 harg6 arg7 harg7 arg8 harg8 k0_h1 k ())
          (fun _ => TripRes (F := F) c arg3 arg6 arg7 arg8 X3 (arg6.view.writes (Elt F) f6 L6) (arg7.view.writes (Elt F) f7 L7) (arg8.view.writes (Elt F) f8 L8)) } := by
  have hk : k.val < 8 := Nat.lt_of_lt_of_le k.isLt k0_t1_abs.2.1
  refine ⟨?_, ?_, ?_, fun E f6 f7 f8 => ?run⟩
  case run =>
    unfold k0_t1_body
    iintro ⟨HR3, HW6, HW7, HW8⟩
    sl_exec
    sl_step
    isplitl [HR3]; · iexact HR3
    isplitl [HW6]; · iexact HW6
    isplitl [HW7]; · iexact HW7
    iexact HW8

/-- The pieces of the trips before trip `k`, last first, per buffer. -/
def piecesO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) : ℕ → List (View.Piece (Elt F) S512x10240 .fp8e4m3) × List (View.Piece (Elt F) S512x80 .f32) × List (View.Piece (Elt F) S512x10240 .bf16)
  | 0 => ([], [], [])
  | k + 1 =>
    if h : k < k0_t1_loop.trips then
      ((tripO (F := F) 𝒱 c bd i arg2 harg2 arg3 harg3 arg4 harg4 arg5 harg5 arg6 harg6 arg7 harg7 arg8 harg8 k0_h1 X3 ⟨k, h⟩).1 ++ (piecesO 𝒱 c bd i arg2 harg2 arg3 harg3 arg4 harg4 arg5 harg5 arg6 harg6 arg7 harg7 arg8 harg8 k0_h1 X3 k).1,
       (tripO (F := F) 𝒱 c bd i arg2 harg2 arg3 harg3 arg4 harg4 arg5 harg5 arg6 harg6 arg7 harg7 arg8 harg8 k0_h1 X3 ⟨k, h⟩).2.1 ++ (piecesO 𝒱 c bd i arg2 harg2 arg3 harg3 arg4 harg4 arg5 harg5 arg6 harg6 arg7 harg7 arg8 harg8 k0_h1 X3 k).2.1,
       (tripO (F := F) 𝒱 c bd i arg2 harg2 arg3 harg3 arg4 harg4 arg5 harg5 arg6 harg6 arg7 harg7 arg8 harg8 k0_h1 X3 ⟨k, h⟩).2.2.1 ++ (piecesO 𝒱 c bd i arg2 harg2 arg3 harg3 arg4 harg4 arg5 harg5 arg6 harg6 arg7 harg7 arg8 harg8 k0_h1 X3 k).2.2)
    else piecesO 𝒱 c bd i arg2 harg2 arg3 harg3 arg4 harg4 arg5 harg5 arg6 harg6 arg7 harg7 arg8 harg8 k0_h1 X3 k

theorem piecesO_succ (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (k : Fin k0_t1_loop.trips) :
    piecesO (F := F) 𝒱 c bd i arg2 harg2 arg3 harg3 arg4 harg4 arg5 harg5 arg6 harg6 arg7 harg7 arg8 harg8 k0_h1 X3 (k.val + 1)
      = ((tripO (F := F) 𝒱 c bd i arg2 harg2 arg3 harg3 arg4 harg4 arg5 harg5 arg6 harg6 arg7 harg7 arg8 harg8 k0_h1 X3 k).1 ++ (piecesO (F := F) 𝒱 c bd i arg2 harg2 arg3 harg3 arg4 harg4 arg5 harg5 arg6 harg6 arg7 harg7 arg8 harg8 k0_h1 X3 k.val).1,
         (tripO (F := F) 𝒱 c bd i arg2 harg2 arg3 harg3 arg4 harg4 arg5 harg5 arg6 harg6 arg7 harg7 arg8 harg8 k0_h1 X3 k).2.1 ++ (piecesO (F := F) 𝒱 c bd i arg2 harg2 arg3 harg3 arg4 harg4 arg5 harg5 arg6 harg6 arg7 harg7 arg8 harg8 k0_h1 X3 k.val).2.1,
         (tripO (F := F) 𝒱 c bd i arg2 harg2 arg3 harg3 arg4 harg4 arg5 harg5 arg6 harg6 arg7 harg7 arg8 harg8 k0_h1 X3 k).2.2.1 ++ (piecesO (F := F) 𝒱 c bd i arg2 harg2 arg3 harg3 arg4 harg4 arg5 harg5 arg6 harg6 arg7 harg7 arg8 harg8 k0_h1 X3 k.val).2.2) := by
  rw [piecesO.eq_2]; exact dif_pos k.isLt

/-- The invariant of the row loop before trip `k`: each buffer stored into holds the pieces of the trips
    before `k` over what it held at entry. -/
abbrev invO (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (G6 : BufTy.Contents (Elt F) arg6.view.ty) (G7 : BufTy.Contents (Elt F) arg7.view.ty) (G8 : BufTy.Contents (Elt F) arg8.view.ty) (k : ℕ) (_ : Unit) : sProp 𝕄 :=
  iprop((arg3.view.loc (c : Thread nD τ) ↦[arg3.view.set]{fullShare} X3)
    ∗ (∃ f, (arg6.view.loc (c : Thread nD τ) ↦[arg6.view.set]{fullShare} f) ∗ ⌜f = arg6.view.writes (Elt F) G6 (piecesO (F := F) 𝒱 c bd i arg2 harg2 arg3 harg3 arg4 harg4 arg5 harg5 arg6 harg6 arg7 harg7 arg8 harg8 k0_h1 X3 k).1⌝)
    ∗ (∃ f, (arg7.view.loc (c : Thread nD τ) ↦[arg7.view.set]{fullShare} f) ∗ ⌜f = arg7.view.writes (Elt F) G7 (piecesO (F := F) 𝒱 c bd i arg2 harg2 arg3 harg3 arg4 harg4 arg5 harg5 arg6 harg6 arg7 harg7 arg8 harg8 k0_h1 X3 k).2.1⌝)
    ∗ (∃ f, (arg8.view.loc (c : Thread nD τ) ↦[arg8.view.set]{fullShare} f) ∗ ⌜f = arg8.view.writes (Elt F) G8 (piecesO (F := F) 𝒱 c bd i arg2 harg2 arg3 harg3 arg4 harg4 arg5 harg5 arg6 harg6 arg7 harg7 arg8 harg8 k0_h1 X3 k).2.2⌝))

set_option warn.classDefReducibility false in
/-- The row loop by its invariant. -/
@[sl_loop] def loopInvO (𝒱 : Variants) (c : Dev nD) (bd : Option 𝒱.V) (E : Set ℕ) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (X3 : BufTy.Contents (Elt F) arg3.view.ty) (G6 : BufTy.Contents (Elt F) arg6.view.ty) (G7 : BufTy.Contents (Elt F) arg7.view.ty) (G8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 k0_h1 where
  inv := invO (F := F) 𝒱 c bd i arg2 harg2 arg3 harg3 arg4 harg4 arg5 harg5 arg6 harg6 arg7 harg7 arg8 harg8 k0_h1 X3 G6 G7 G8
  step k acc := by
    iintro ⟨HR3, ⟨%f6, HW6, %h6⟩, ⟨%f7, HW7, %h7⟩, ⟨%f8, HW8, %h8⟩⟩
    iapply (wp_wand_r Idealize.ShloMosaic.frame (wpE (defs₀ (F := F)) 𝒱 (c : Thread nD τ) bd) E)
    isplitl [HR3 HW6 HW7 HW8]
    · iapply ((tripO (F := F) 𝒱 c bd i arg2 harg2 arg3 harg3 arg4 harg4 arg5 harg5 arg6 harg6 arg7 harg7 arg8 harg8 k0_h1 X3 k).2.2.2 E f6 f7 f8)
      isplitl [HR3]; · iexact HR3
      isplitl [HW6]; · iexact HW6
      isplitl [HW7]; · iexact HW7
      iexact HW8
    · iintro %yld ⟨HR3, HW6, HW7, HW8⟩
      isplitl [HR3]; · iexact HR3
      simp only [piecesO_succ]
      isplitl [HW6]
      · iexists _; isplitl [HW6]; · iexact HW6
        ipureintro; rw [h6, ← View.writes_append]
      isplitl [HW7]
      · iexists _; isplitl [HW7]; · iexact HW7
        ipureintro; rw [h7, ← View.writes_append]
      iexists _; isplitl [HW8]; · iexact HW8
      ipureintro; rw [h8, ← View.writes_append]

end Cert.KernelIdeal.Dgrad

end
-- ==== Proof.Ideal.RunA.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import proofs.«01_k».proof.Proof.Ideal.RowLoop
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 100000000 in
noncomputable def runA (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1)
    (x0 : Vec F S56x80 .f32) (x1 : Vec F S512x10240 .bf16) (x2 : Vec F S512x10240 .fp8e4m3) (xs : Vec F S512x10240 .bf16) :
    Σ' (L3 : List (View.Piece (Elt F) S512x512 .bf16)) (L6 : List (View.Piece (Elt F) S512x10240 .fp8e4m3)) (L7 : List (View.Piece (Elt F) S512x80 .f32)), { L8 : List (View.Piece (Elt F) S512x10240 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0_fp8_dgrad i arg2 harg2 arg3 harg3 arg4 harg4 arg5 harg5 arg6 harg6 arg7 harg7 arg8 harg8) K } := by
  refine ⟨?_, ?_, ?_, ?_, fun E K => ?run⟩
  case run =>
    simp only [cc0_fp8_dgrad_eq_skeleton]; unfold cc0_fp8_dgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS0

end Cert.KernelIdeal.Dgrad

end
-- ==== Proof.Ideal.RunB.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 100000000 in
noncomputable def runB (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : ¬ k0_cond1 i = 1#1)
    (x0 : Vec F S56x80 .f32) (x2 : Vec F S512x10240 .fp8e4m3) (xs : Vec F S512x10240 .bf16) :
    { L3 : List (View.Piece (Elt F) S512x512 .bf16) //
      ∀ (E : Set ℕ) (K : PUnit → sProp 𝕄),
        iprop(owns (c : Thread nD τ) arg2 fullShare x0 ∗ owns (c : Thread nD τ) arg4 fullShare x2 ∗ (∃ d, owns (c : Thread nD τ) arg5 fullShare d) ∗ owns (c : Thread nD τ) arg8 fullShare xs
            ∗ (iprop(owns (c : Thread nD τ) arg2 fullShare x0 ∗ owns (c : Thread nD τ) arg4 fullShare x2 ∗ (∃ f, arg5.view.loc (c : Thread nD τ) ↦[arg5.view.set]{fullShare} arg5.view.writes (Elt F) f L3) ∗ owns (c : Thread nD τ) arg8 fullShare xs) -∗ K ⟨⟩))
          ⊢ wp frame (wpE (defs₀ (F := F)) Variants.none c none) E (cc0_fp8_dgrad i arg2 harg2 arg3 harg3 arg4 harg4 arg5 harg5 arg6 harg6 arg7 harg7 arg8 harg8) K } := by
  refine ⟨?_, fun E K => ?run⟩
  case run =>
    simp only [cc0_fp8_dgrad_eq_skeleton]; unfold cc0_fp8_dgrad_skel
    unfold owns
    iintro ⟨⟨%f0, %hf0, H0⟩, ⟨%f2, %hf2, H2⟩, ⟨%d3, %f3, -, H3⟩, ⟨%fs0, %hfs0, HS0⟩, Hk⟩
    obtain rfl := harg2.eq_unread hf0; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H2]
    · iexists _; isplitr; · ipureintro; exact harg4.read_unread _
      iexact H2
    isplitl [H3]; · iexists _; iexact H3
    iexists _; isplitr; · ipureintro; exact harg8.read_unread _
    iexact HS0

end Cert.KernelIdeal.Dgrad

end
-- ==== Proof.Ideal.Tiles.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import proofs.«01_k».proof.Proof.Ideal.RunA
public import Idealize.ShloMosaic.Lib.WritesUnit
public import Idealize.ShloMosaic.Lib.ValueIdxCore
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The coordinates of a rank-2 index are below the extents. -/
theorem lt0 {a b : ℕ} (y : (⟨2, ![a, b]⟩ : Shape).Idx) : (y 0).val < a := (y 0).isLt
theorem lt1 {a b : ℕ} (y : (⟨2, ![a, b]⟩ : Shape).Idx) : (y 1).val < b := (y 1).isLt

/-- Two rank-2 indices with the same coordinates are equal. -/
theorem idx_ext {a b : ℕ} {y z : (⟨2, ![a, b]⟩ : Shape).Idx} (h0 : (y 0).val = (z 0).val) (h1 : (y 1).val = (z 1).val) : y = z :=
  funext fun d => Fin.ext (by fin_cases d; exacts [h0, h1])

/-! ## One 64-by-128 tile -/

/-- The codes of one tile, -/
def codeT (v : Vec F S64x128 .bf16) : FVec F S64x128 .fp8e4m3 := k0_pay10 (k0_pay1 v) (k0_pay2 v) (k0_pay3 v) (k0_pay4 v) (k0_pay5 v)
/-- what they stand for, -/
def wideT (v : Vec F S64x128 .bf16) : FVec F S64x128 .bf16 := k0_pay11 (k0_pay1 v) (k0_pay2 v) (k0_pay3 v) (k0_pay4 v) (k0_pay5 v)
/-- and the scale of each row of the tile, the same in every lane. -/
def scaleT (v : Vec F S64x128 .bf16) : FVec F S64x128 .f32 := k0_pay9 (k0_pay2 v) (k0_pay3 v) (k0_pay4 v) (k0_pay5 v)

/-- Tile `(a, b)` of a 512-by-10240 block. -/
def tile (x : Vec F S512x10240 .bf16) (a : Fin 8) (b : Fin 80) : Vec F S64x128 .bf16 := fun y =>
  x (ix2 ⟨64 * a.val + (y 0).val, by have := lt0 y; omega⟩ ⟨128 * b.val + (y 1).val, by have := lt1 y; omega⟩)

/-- The tile an element of the block lies in, and its place there. -/
def ta (y : S512x10240.Idx) : Fin 8 := ⟨(y 0).val / 64, by have := lt0 y; omega⟩
def tb (y : S512x10240.Idx) : Fin 80 := ⟨(y 1).val / 128, by have := lt1 y; omega⟩
def tl (y : S512x10240.Idx) : S64x128.Idx := ix2 ⟨(y 0).val % 64, Nat.mod_lt _ (by omega)⟩ ⟨(y 1).val % 128, Nat.mod_lt _ (by omega)⟩

/-- The codes of a 512-by-10240 block, what they stand for, and its scales. -/
def codes (x : Vec F S512x10240 .bf16) : Vec F S512x10240 .fp8e4m3 := fun y => codeT (tile x (ta y) (tb y)) (tl y)
def wide (x : Vec F S512x10240 .bf16) : Vec F S512x10240 .bf16 := fun y => wideT (tile x (ta y) (tb y)) (tl y)
def scales (x : Vec F S512x10240 .bf16) : Vec F S512x80 .f32 := fun y =>
  scaleT (tile x ⟨(y 0).val / 64, by have := lt0 y; omega⟩ ⟨(y 1).val, lt1 y⟩)
    (ix2 ⟨(y 0).val % 64, Nat.mod_lt _ (by omega)⟩ ⟨(y 1).val, by have := lt1 y; omega⟩)

/-! ## One trip of the tile loop -/

theorem lt_t1 (k : Fin k0_t1_loop.trips) : k.val < 8 := Nat.lt_of_lt_of_le k.isLt k0_t1_abs.2.1
theorem lt_t2 (k : Fin k0_t2_loop.trips) : k.val < 80 := Nat.lt_of_lt_of_le k.isLt k0_t2_abs.2.1

/-- The tile a trip loads. -/
theorem rd_tile (arg3 : Memref sig .tc .vmem S512x10240 .bf16) (harg3 : arg3.IsWhole) (x1 : Vec F S512x10240 .bf16)
    (k1 : Fin k0_t1_loop.trips) (k2 : Fin k0_t2_loop.trips) (inb) :
    arg3.view.readAt (Elt F) (Rect.unit (s := S512x10240) (k0_off1 k1 k2) S64x128.size inb).toLoadRect (harg3.unread x1)
      = tile x1 ⟨k1.val, lt_t1 k1⟩ ⟨k2.val, lt_t2 k2⟩ := by
  funext y
  rw [View.readAt_apply, harg3.read_unread]
  unfold tile
  congr 1
  have h0 : k0_off1 k1 k2 0 = 64 * k1.val := by rw [k0_off1_eq]; rfl
  have h1 : k0_off1 k1 k2 1 = 128 * k2.val := by rw [k0_off1_eq]; rfl
  refine idx_ext ?_ ?_
  · show k0_off1 k1 k2 0 + 1 * (y 0).val = 64 * k1.val + (y 0).val
    omega
  · show k0_off1 k1 k2 1 + 1 * (y 1).val = 128 * k2.val + (y 1).val
    omega

theorem tripR_eq (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (k2 : Fin k0_t2_loop.trips) (acc : FVec F S64x128 .f32) :
    tripR_k0_t2 (F := F) 𝒱 c bd i arg2 harg2 arg3 harg3 arg4 harg4 arg5 harg5 arg6 harg6 arg7 harg7 arg8 harg8 k0_h1 k1 v (harg3.unread x1) k2 acc
      = select (cmpi .eq (iota .tc S64x128 32 [1] iota_S64x128_d1_w32) (broadcast S64x128 (Scf.iv 0#32 1#32 k2.val)))
          (scaleT (tile x1 ⟨k1.val, lt_t1 k1⟩ ⟨k2.val, lt_t2 k2⟩)) acc := by
  rw [← rd_tile arg3 harg3 x1 k1 k2 (k0_off1_inb i k1 k2 k0_h1)]
  unfold tripR_k0_t2 trip_k0_t2
  rfl

theorem tripL_eq (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (k2 : Fin k0_t2_loop.trips) (acc : FVec F S64x128 .f32) :
    tripL_k0_t2 (F := F) 𝒱 c bd i arg2 harg2 arg3 harg3 arg4 harg4 arg5 harg5 arg6 harg6 arg7 harg7 arg8 harg8 k0_h1 k1 v (harg3.unread x1) k2 acc
      = ([⟨Rect.unit (s := S512x10240) (k0_off1 k1 k2) S64x128.size (k0_off1_inb i k1 k2 k0_h1), codeT (tile x1 ⟨k1.val, lt_t1 k1⟩ ⟨k2.val, lt_t2 k2⟩)⟩],
         [⟨Rect.unit (s := S512x10240) (k0_off1 k1 k2) S64x128.size (k0_off1_inb i k1 k2 k0_h1), wideT (tile x1 ⟨k1.val, lt_t1 k1⟩ ⟨k2.val, lt_t2 k2⟩)⟩]) := by
  rw [← rd_tile arg3 harg3 x1 k1 k2 (k0_off1_inb i k1 k2 k0_h1)]
  unfold tripL_k0_t2 trip_k0_t2
  rfl

/-! ## The tile loop -/

/-- A tile's store, read back: the tile's element inside it, what was there elsewhere. -/
theorem read_tile {e : EltTy} (v : View sig .tc .vmem S512x10240 e) (f : v.ty.Contents (Elt F)) (L : List (View.Piece (Elt F) S512x10240 e))
    (k1 : Fin k0_t1_loop.trips) (k2 : Fin k0_t2_loop.trips) (inb) (w : S64x128.Idx → Elt F e) (y : S512x10240.Idx) :
    v.read (Elt F) (v.writes (Elt F) f ((⟨Rect.unit (s := S512x10240) (k0_off1 k1 k2) S64x128.size inb, w⟩ : View.Piece (Elt F) S512x10240 e) :: L)) y
      = if (y 0).val / 64 = k1.val ∧ (y 1).val / 128 = k2.val then w (tl y) else v.read (Elt F) (v.writes (Elt F) f L) y := by
  split
  · rename_i h
    refine View.read_writes_cons_unit_of_mem v f inb w L y (tl y) (k0_off1_eq k1 k2) ?_
    intro a
    fin_cases a
    · show (y 0).val = 64 * k1.val + (y 0).val % 64
      omega
    · show (y 1).val = 128 * k2.val + (y 1).val % 128
      omega
  · rename_i h
    by_cases h0 : (y 0).val / 64 = k1.val
    · have h1 : ¬ (y 1).val / 128 = k2.val := fun h1 => h ⟨h0, h1⟩
      refine View.read_writes_cons_unit_of_not_mem v f inb w L y (k0_off1_eq k1 k2) 1 ?_
      show (y 1).val < 128 * k2.val ∨ 128 * k2.val + 128 ≤ (y 1).val
      omega
    · refine View.read_writes_cons_unit_of_not_mem v f inb w L y (k0_off1_eq k1 k2) 0 ?_
      show (y 0).val < 64 * k1.val ∨ 64 * k1.val + 64 ≤ (y 0).val
      omega

theorem st_codes (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (f : arg6.view.ty.Contents (Elt F)) (y : S512x10240.Idx) : ∀ k : ℕ, k ≤ k0_t2_loop.trips →
    arg6.view.read (Elt F) (arg6.view.writes (Elt F) f (st_k0_t2 (F := F) 𝒱 c bd i arg2 harg2 arg3 harg3 arg4 harg4 arg5 harg5 arg6 harg6 arg7 harg7 arg8 harg8 k0_h1 k1 v (harg3.unread x1) init k).2.1) y
      = if (y 0).val / 64 = k1.val ∧ (y 1).val / 128 < k then codes x1 y else arg6.view.read (Elt F) f y
  | 0, _ => by rw [if_neg (by omega)]; rfl
  | k + 1, hk => by
    have hk' : k < k0_t2_loop.trips := hk
    rw [show k + 1 = (⟨k, hk'⟩ : Fin k0_t2_loop.trips).val + 1 from rfl, st_k0_t2_succ, tripL_eq]
    dsimp only [List.cons_append, List.nil_append]
    rw [read_tile, st_codes _ _ _ i arg2 harg2 arg3 harg3 arg4 harg4 arg5 harg5 arg6 harg6 arg7 harg7 arg8 harg8 k0_h1 k1 v x1 init f y k (by omega)]
    by_cases h0 : (y 0).val / 64 = k1.val
    · by_cases h1 : (y 1).val / 128 = k
      · rw [if_pos ⟨h0, h1⟩, if_pos ⟨h0, by omega⟩]
        unfold codes
        rw [show ta y = ⟨k1.val, lt_t1 k1⟩ from Fin.ext h0, show tb y = ⟨k, lt_t2 ⟨k, hk'⟩⟩ from Fin.ext h1]
      · rw [if_neg (fun h => h1 h.2)]
        by_cases h2 : (y 1).val / 128 < k
        · rw [if_pos ⟨h0, h2⟩, if_pos ⟨h0, by omega⟩]
        · rw [if_neg (fun h => h2 h.2), if_neg (fun h => by omega)]
    · rw [if_neg (fun h => h0 h.1), if_neg (fun h => h0 h.1), if_neg (fun h => h0 h.1)]

theorem st_wide (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (f : arg8.view.ty.Contents (Elt F)) (y : S512x10240.Idx) : ∀ k : ℕ, k ≤ k0_t2_loop.trips →
    arg8.view.read (Elt F) (arg8.view.writes (Elt F) f (st_k0_t2 (F := F) 𝒱 c bd i arg2 harg2 arg3 harg3 arg4 harg4 arg5 harg5 arg6 harg6 arg7 harg7 arg8 harg8 k0_h1 k1 v (harg3.unread x1) init k).2.2) y
      = if (y 0).val / 64 = k1.val ∧ (y 1).val / 128 < k then wide x1 y else arg8.view.read (Elt F) f y
  | 0, _ => by rw [if_neg (by omega)]; rfl
  | k + 1, hk => by
    have hk' : k < k0_t2_loop.trips := hk
    rw [show k + 1 = (⟨k, hk'⟩ : Fin k0_t2_loop.trips).val + 1 from rfl, st_k0_t2_succ, tripL_eq]
    dsimp only [List.cons_append, List.nil_append]
    rw [read_tile, st_wide _ _ _ i arg2 harg2 arg3 harg3 arg4 harg4 arg5 harg5 arg6 harg6 arg7 harg7 arg8 harg8 k0_h1 k1 v x1 init f y k (by omega)]
    by_cases h0 : (y 0).val / 64 = k1.val
    · by_cases h1 : (y 1).val / 128 = k
      · rw [if_pos ⟨h0, h1⟩, if_pos ⟨h0, by omega⟩]
        unfold wide
        rw [show ta y = ⟨k1.val, lt_t1 k1⟩ from Fin.ext h0, show tb y = ⟨k, lt_t2 ⟨k, hk'⟩⟩ from Fin.ext h1]
      · rw [if_neg (fun h => h1 h.2)]
        by_cases h2 : (y 1).val / 128 < k
        · rw [if_pos ⟨h0, h2⟩, if_pos ⟨h0, by omega⟩]
        · rw [if_neg (fun h => h2 h.2), if_neg (fun h => by omega)]
    · rw [if_neg (fun h => h0 h.1), if_neg (fun h => h0 h.1), if_neg (fun h => h0 h.1)]

theorem select_lane (k : ℕ) (hk : k < 80) (a b : FVec F S64x128 .f32) (y : S64x128.Idx) :
    select (cmpi .eq (iota .tc S64x128 32 [1] iota_S64x128_d1_w32) (broadcast S64x128 (Scf.iv 0#32 1#32 k))) a b y
      = if (y 1).val = k then a y else b y := by
  have hy := lt1 y
  have e : Scf.iv 0#32 1#32 k = BitVec.ofNat 32 k := by simp [Scf.iv]
  show Scalar.select (IntOp.cmpi .eq (iota .tc S64x128 32 [1] iota_S64x128_d1_w32 y) (Scf.iv 0#32 1#32 k)) (a y) (b y) = _
  have ei : iota .tc S64x128 32 [1] iota_S64x128_d1_w32 y = BitVec.ofNat 32 (y 1).val := by
    show BitVec.ofNat 32 (List.foldl (fun n a => n * S64x128.size a + (y a).val) 0 [1]) = _
    simp
  rw [e, ei]
  have hc : IntOp.cmpi .eq (BitVec.ofNat 32 (y 1).val) (BitVec.ofNat 32 k) = BitVec.ofBool (decide ((y 1).val = k)) := by
    by_cases h : (y 1).val = k
    · rw [h]; simp [IntOp.cmpi]
    · have hne : ¬ (BitVec.ofNat 32 (y 1).val = BitVec.ofNat 32 k) := fun h' => h (by
        have := congrArg BitVec.toNat h'
        simp only [BitVec.toNat_ofNat] at this
        omega)
      rw [IntOp.cmpi, beq_eq_false_iff_ne.mpr hne, decide_eq_false h]
  rw [hc]
  by_cases h : (y 1).val = k
  · rw [if_pos h]; simp [h, Scalar.select]
  · rw [if_neg h]; simp [h, Scalar.select]

theorem st_scale (𝒱 : Variants) (c : Dev nD) (bd : Option 𝒱.V) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (k0_h1 : k0_cond1 i = 1#1) (k1 : Fin k0_t1_loop.trips) (v : BitVec 32) (x1 : Vec F S512x10240 .bf16) (init : FVec F S64x128 .f32)
    (y : S64x128.Idx) : ∀ k : ℕ, k ≤ k0_t2_loop.trips →
    (st_k0_t2 (F := F) 𝒱 c bd i arg2 harg2 arg3 harg3 arg4 harg4 arg5 harg5 arg6 harg6 arg7 harg7 arg8 harg8 k0_h1 k1 v (harg3.unread x1) init k).1 y
      = if h : (y 1).val < k ∧ (y 1).val < 80 then scaleT (tile x1 ⟨k1.val, lt_t1 k1⟩ ⟨(y 1).val, h.2⟩) y else init y
  | 0, _ => by rw [dif_neg (by omega)]; rfl
  | k + 1, hk => by
    have hk' : k < k0_t2_loop.trips := hk
    have h80 : k < 80 := lt_t2 ⟨k, hk'⟩
    rw [show k + 1 = (⟨k, hk'⟩ : Fin k0_t2_loop.trips).val + 1 from rfl, st_k0_t2_succ, tripR_eq]
    dsimp only
    rw [select_lane _ h80, st_scale _ _ _ i arg2 harg2 arg3 harg3 arg4 harg4 arg5 harg5 arg6 harg6 arg7 harg7 arg8 harg8 k0_h1 k1 v x1 init y k (by omega)]
    by_cases h1 : (y 1).val = k
    · rw [if_pos h1, dif_pos ⟨by omega, by omega⟩]
      congr 2
      exact Fin.ext h1.symm
    · rw [if_neg h1]
      by_cases h2 : (y 1).val < k
      · rw [dif_pos ⟨h2, by omega⟩, dif_pos ⟨by omega, by omega⟩]
      · rw [dif_neg (fun h => h2 h.1), dif_neg (fun h => by omega)]

end Cert.KernelIdeal.Dgrad

end
-- ==== Proof.Ideal.Weights.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import proofs.«01_k».proof.Proof.Ideal.RunB
public import proofs.«01_k».proof.Proof.Ideal.Tiles
public import Idealize.ShloMosaic.Lib.Pipeline.Value
public import Idealize.ShloMosaic.Lib.ValueIdxCore
public import Idealize.ShloMosaic.Lib.StableHlo.Run
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem lt_i1 (i : grid0.Coords) : (i 1).val < 14 := (i 1).isLt

/-- The scale word of each element of weight block `i 1`: one word per 128-by-128 square, -/
def wscale (i : grid0.Coords) (x0 : Vec F S56x80 .f32) : FVec F S512x10240 .f32 := fun y =>
  x0 (ix2 ⟨4 * (i 1).val + (y 0).val / 128, by have := lt0 y; have := lt_i1 i; omega⟩ ⟨(y 1).val / 128, by have := lt1 y; omega⟩)

/-- and the weight block it widens. -/
def wdq (i : grid0.Coords) (x0 : Vec F S56x80 .f32) (x2 : Vec F S512x10240 .fp8e4m3) : FVec F S512x10240 .bf16 :=
  mulf (extf .bf16 x2 bitsLt_fp8e4m3_bf16) (truncf .bf16 (wscale i x0) bitsLt_bf16_f32)

/-- One 512-by-512 tile of the product. -/
def dxT (i : grid0.Coords) (x0 : Vec F S56x80 .f32) (x2 : Vec F S512x10240 .fp8e4m3) (xs : Vec F S512x10240 .bf16) : FVec F S512x512 .bf16 :=
  truncf .bf16 (matmul (F := F) dot_S512x10240_S512x10240_S512x512_1_1_0_0_n_n none xs (wdq i x0 x2) (constant S512x512 .f32 0x00000000#32)) bitsLt_bf16_f32

/-- The square `(nb, g)` of the widened block, and its rows `128 nb …`. -/
def blk (i : grid0.Coords) (x0 : Vec F S56x80 .f32) (x2 : Vec F S512x10240 .fp8e4m3) (nb : Fin 4) (g : Fin 80) : FVec F S128x128 .bf16 := fun y =>
  wdq i x0 x2 (ix2 ⟨128 * nb.val + (y 0).val, by have := lt0 y; omega⟩ ⟨128 * g.val + (y 1).val, by have := lt1 y; omega⟩)
def rowOf (i : grid0.Coords) (x0 : Vec F S56x80 .f32) (x2 : Vec F S512x10240 .fp8e4m3) (nb : Fin 4) : FVec F S128x10240 .bf16 := fun y =>
  wdq i x0 x2 (ix2 ⟨128 * nb.val + (y 0).val, by have := lt0 y; omega⟩ ⟨(y 1).val, lt1 y⟩)

/-- What the kernel computes for one square is that square. -/
theorem blk_of (i : grid0.Coords) (x0 : Vec F S56x80 .f32) (x2 : Vec F S512x10240 .fp8e4m3)
    (arg2 : Memref sig .tc .smem S56x80 .f32) (harg2 : arg2.IsWhole) (arg4 : Memref sig .tc .vmem S512x10240 .fp8e4m3) (harg4 : arg4.IsWhole)
    (nb : Fin 4) (g : Fin 80) (off : Fin 2 → ℕ) (inb) (off' : Fin 2 → ℕ) (inb')
    (h : off = ![4 * (i 1).val + nb.val, g.val]) (h' : off' = ![128 * nb.val, 128 * g.val]) :
    mulf (extf .bf16 (arg4.view.readAt (Elt F) (Rect.unit (s := S512x10240) off' S128x128.size inb').toLoadRect (harg4.unread x2)) bitsLt_fp8e4m3_bf16)
        (truncf .bf16 (broadcast S128x128 (arg2.view.readAt (Elt F) (Rect.unit (s := S56x80) off S1x1.size inb).toLoadRect (harg2.unread x0) (Shape.Idx.first (Nat.lt_of_lt_of_eq Nat.zero_lt_one numel1_S1x1.symm)))) bitsLt_bf16_f32)
      = blk i x0 x2 nb g := by
  subst h h'
  have e1 : arg4.view.readAt (Elt F) (Rect.unit (s := S512x10240) ![128 * nb.val, 128 * g.val] S128x128.size inb').toLoadRect (harg4.unread x2)
      = fun y : S128x128.Idx => x2 (ix2 ⟨128 * nb.val + (y 0).val, by have := lt0 y; omega⟩ ⟨128 * g.val + (y 1).val, by have := lt1 y; omega⟩) := by
    funext y
    rw [View.readAt_apply, harg4.read_unread]
    congr 1
    refine idx_ext ?_ ?_
    · show 128 * nb.val + 1 * (y 0).val = 128 * nb.val + (y 0).val
      omega
    · show 128 * g.val + 1 * (y 1).val = 128 * g.val + (y 1).val
      omega
  have e2 : arg2.view.readAt (Elt F) (Rect.unit (s := S56x80) ![4 * (i 1).val + nb.val, g.val] S1x1.size inb).toLoadRect (harg2.unread x0) (Shape.Idx.first (Nat.lt_of_lt_of_eq Nat.zero_lt_one numel1_S1x1.symm))
      = x0 (ix2 ⟨4 * (i 1).val + nb.val, by have := lt_i1 i; omega⟩ ⟨g.val, by omega⟩) := by
    rw [View.readAt_apply, harg2.read_unread]
    congr 1
    refine idx_ext ?_ ?_
    · show 4 * (i 1).val + nb.val + 1 * 0 = 4 * (i 1).val + nb.val
      omega
    · show g.val + 1 * 0 = g.val
      omega
  rw [e1, e2]
  funext y
  have h0 := lt0 y
  have h1 := lt1 y
  have e3 : wscale i x0 (ix2 ⟨128 * nb.val + (y 0).val, by omega⟩ ⟨128 * g.val + (y 1).val, by omega⟩)
      = x0 (ix2 ⟨4 * (i 1).val + nb.val, by have := lt_i1 i; omega⟩ ⟨g.val, by omega⟩) := by
    unfold wscale
    congr 1
    refine idx_ext ?_ ?_
    · show 4 * (i 1).val + (128 * nb.val + (y 0).val) / 128 = 4 * (i 1).val + nb.val
      omega
    · show (128 * g.val + (y 1).val) / 128 = g.val
      omega
  unfold blk wdq
  show FloatOps.mulf _ _ = FloatOps.mulf _ _
  congr 1
  show FloatOps.truncf _ _ _ = FloatOps.truncf _ _ _
  rw [e3]
  rfl

/-- A list of 80 by its elements. -/
theorem ofFn80 {α : Type} (f : Fin 80 → α) : List.ofFn f = [f ⟨0, by decide⟩, f ⟨1, by decide⟩, f ⟨2, by decide⟩, f ⟨3, by decide⟩, f ⟨4, by decide⟩, f ⟨5, by decide⟩, f ⟨6, by decide⟩, f ⟨7, by decide⟩, f ⟨8, by decide⟩, f ⟨9, by decide⟩, f ⟨10, by decide⟩, f ⟨11, by decide⟩, f ⟨12, by decide⟩, f ⟨13, by decide⟩, f ⟨14, by decide⟩, f ⟨15, by decide⟩, f ⟨16, by decide⟩, f ⟨17, by decide⟩, f ⟨18, by decide⟩, f ⟨19, by decide⟩, f ⟨20, by decide⟩, f ⟨21, by decide⟩, f ⟨22, by decide⟩, f ⟨23, by decide⟩, f ⟨24, by decide⟩, f ⟨25, by decide⟩, f ⟨26, by decide⟩, f ⟨27, by decide⟩, f ⟨28, by decide⟩, f ⟨29, by decide⟩, f ⟨30, by decide⟩, f ⟨31, by decide⟩, f ⟨32, by decide⟩, f ⟨33, by decide⟩, f ⟨34, by decide⟩, f ⟨35, by decide⟩, f ⟨36, by decide⟩, f ⟨37, by decide⟩, f ⟨38, by decide⟩, f ⟨39, by decide⟩, f ⟨40, by decide⟩, f ⟨41, by decide⟩, f ⟨42, by decide⟩, f ⟨43, by decide⟩, f ⟨44, by decide⟩, f ⟨45, by decide⟩, f ⟨46, by decide⟩, f ⟨47, by decide⟩, f ⟨48, by decide⟩, f ⟨49, by decide⟩, f ⟨50, by decide⟩, f ⟨51, by decide⟩, f ⟨52, by decide⟩, f ⟨53, by decide⟩, f ⟨54, by decide⟩, f ⟨55, by decide⟩, f ⟨56, by decide⟩, f ⟨57, by decide⟩, f ⟨58, by decide⟩, f ⟨59, by decide⟩, f ⟨60, by decide⟩, f ⟨61, by decide⟩, f ⟨62, by decide⟩, f ⟨63, by decide⟩, f ⟨64, by decide⟩, f ⟨65, by decide⟩, f ⟨66, by decide⟩, f ⟨67, by decide⟩, f ⟨68, by decide⟩, f ⟨69, by decide⟩, f ⟨70, by decide⟩, f ⟨71, by decide⟩, f ⟨72, by decide⟩, f ⟨73, by decide⟩, f ⟨74, by decide⟩, f ⟨75, by decide⟩, f ⟨76, by decide⟩, f ⟨77, by decide⟩, f ⟨78, by decide⟩, f ⟨79, by decide⟩] := rfl

/-- Eighty squares fill a band. -/
theorem cat80 : Shape.Concatenates [S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128, S128x128] S128x10240 1 :=
  concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x10240_d1

theorem cCons {a b : FVec F S128x128 .bf16} {l l' : List ((s : Shape) × (s.Idx → Elt F .bf16))} (h : a = b) (hl : l = l') :
    (⟨S128x128, a⟩ : (s : Shape) × (s.Idx → Elt F .bf16)) :: l = ⟨S128x128, b⟩ :: l' := by rw [h, hl]
theorem cNil : ([] : List ((s : Shape) × (s.Idx → Elt F .bf16))) = [] := rfl

/-- Eighty squares side by side are the 128 rows they lie in. -/
theorem row_of_list (i : grid0.Coords) (x0 : Vec F S56x80 .f32) (x2 : Vec F S512x10240 .fp8e4m3) (nb : Fin 4)
    (l : List ((s : Shape) × (s.Idx → Elt F .bf16))) (h : Shape.Concatenates (l.map (·.1)) S128x10240 1)
    (hl : l = List.ofFn fun g : Fin 80 => (⟨S128x128, blk i x0 x2 nb g⟩ : (s : Shape) × (s.Idx → Elt F .bf16))) :
    concatenate S128x10240 1 l h = rowOf i x0 x2 nb := by
  subst hl
  funext y
  have h0 := lt0 y
  have h1 := lt1 y
  rw [concatenate_ofFn_apply (s₁ := S128x128) 1 (fun g => blk i x0 x2 nb g) h rfl 128 rfl y ⟨(y 1).val / 128, by omega⟩ rfl
    (ix2 ⟨(y 0).val, h0⟩ ⟨(y 1).val % 128, Nat.mod_lt _ (by omega)⟩) rfl (by
      intro b hb
      fin_cases b
      · rfl
      · exact absurd rfl hb)]
  unfold blk rowOf
  congr 1
  refine idx_ext rfl ?_
  show 128 * ((y 1).val / 128) + (y 1).val % 128 = (y 1).val
  omega

/-- Four bands of rows, one under the other, are the block. -/
theorem block_of_rows (i : grid0.Coords) (x0 : Vec F S56x80 .f32) (x2 : Vec F S512x10240 .fp8e4m3)
    (a0 a1 a2 a3 : FVec F S128x10240 .bf16) (h)
    (h0 : a0 = rowOf i x0 x2 0) (h1 : a1 = rowOf i x0 x2 1) (h2 : a2 = rowOf i x0 x2 2) (h3 : a3 = rowOf i x0 x2 3) :
    concatenate S512x10240 0 [⟨S128x10240, a0⟩, ⟨S128x10240, a1⟩, ⟨S128x10240, a2⟩, ⟨S128x10240, a3⟩] h = wdq i x0 x2 := by
  subst h0 h1 h2 h3
  funext y
  have hy0 := lt0 y
  have hy1 := lt1 y
  refine (concatenate_ofFn_apply (s₁ := S128x10240) 0 (fun nb : Fin 4 => rowOf i x0 x2 nb) h rfl 128 rfl y ⟨(y 0).val / 128, by omega⟩ rfl
    (ix2 ⟨(y 0).val % 128, Nat.mod_lt _ (by omega)⟩ ⟨(y 1).val, hy1⟩) rfl (by
      intro b hb
      fin_cases b
      · exact absurd rfl hb
      · rfl)).trans ?_
  unfold rowOf
  congr 1
  refine idx_ext ?_ rfl
  show 128 * ((y 0).val / 128) + (y 0).val % 128 = (y 0).val
  omega

set_option maxHeartbeats 4000000 in
theorem row0 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_167 c i arg2 harg2 arg4 harg4 x0 x2 = rowOf i x0 x2 0 :=
  row_of_list i x0 x2 0 _ (by exact cat80) <| (Eq.trans · (ofFn80 _).symm) <|
  (cCons (blk_of i x0 x2 arg2 harg2 arg4 harg4 ⟨0, by decide⟩ ⟨0, by decide⟩ _ _ _ _ (k0_off3_eq i ⟨0, by decide⟩) rfl)
  (cCons (blk_of i x0 x2 arg2 harg2 arg4 harg4 ⟨0, by decide⟩ ⟨1, by decide⟩ _ _ _ _ (k0_off4_eq i ⟨0, by decide⟩) rfl)
  (cCons (blk_of i x0 x2 arg2 harg2 arg4 harg4 ⟨0, by decide⟩ ⟨2, by decide⟩ _ _ _ _ (k0_off5_eq i ⟨0, by decide⟩) rfl)
  (cCons (blk_of i x0 x2 arg2 harg2 arg4 harg4 ⟨0, by decide⟩ ⟨3, by decide⟩ _ _ _ _ (k0_off6_eq i ⟨0, by decide⟩) rfl)
  (cCons (blk_of i x0 x2 arg2 harg2 arg4 harg4 ⟨0, by decide⟩ ⟨4, by decide⟩ _ _ _ _ (k0_off7_eq i ⟨0, by decide⟩) rfl)
  (cCons (blk_of i x0 x2 arg2 harg2 arg4 harg4 ⟨0, by decide⟩ ⟨5, by decide⟩ _ _ _ _ (k0_off8_eq i ⟨0, by decide⟩) rfl)
  (cCons (blk_of i x0 x2 arg2 harg2 arg4 harg4 ⟨0, by decide⟩ ⟨6, by decide⟩ _ _ _ _ (k0_off9_eq i ⟨0, by decide⟩) rfl)
  (cCons (blk_of i x0 x2 arg2 harg2 arg4 harg4 ⟨0, by decide⟩ ⟨7, by decide⟩ _ _ _ _ (k0_off10_eq i ⟨0, by decide⟩) rfl)
  (cCons (blk_of i x0 x2 arg2 harg2 arg4 harg4 ⟨0, by decide⟩ ⟨8, by decide⟩ _ _ _ _ (k0_off11_eq i ⟨0, by decide⟩) rfl)
  (cCons (blk_of i x0 x2 arg2 harg2 arg4 harg4 ⟨0, by decide⟩ ⟨9, by decide⟩ _ _ _ _ (k0_off12_eq i ⟨0, by decide⟩) rfl)
  (cCons (blk_of i x0 x2 arg2 harg2 arg4 harg4 ⟨0, by decide⟩ ⟨10, by decide⟩ _ _ _ _ (k0_off13_eq i ⟨0, by decide⟩) rfl)
  (cCons (blk_of i x0 x2 arg2 harg2 arg4 harg4 ⟨0, by decide⟩ ⟨11, by decide⟩ _ _ _ _ (k0_off14_eq i ⟨0, by decide⟩) rfl)
  (cCons (blk_of i x0 x2 arg2 harg2 arg4 harg4 ⟨0, by decide⟩ ⟨12, by decide⟩ _ _ _ _ (k0_off15_eq i ⟨0, by decide⟩) rfl)
  (cCons (blk_of i x0 x2 arg2 harg2 arg4 harg4 ⟨0, by decide⟩ ⟨13, by decide⟩ _ _ _ _ (k0_off16_eq i ⟨0, by decide⟩) rfl)
  (cCons (blk_of i x0 x2 arg2 harg2 arg4 harg4 ⟨0, by decide⟩ ⟨14, by decide⟩ _ _ _ _ (k0_off17_eq i ⟨0, by decide⟩) rfl)
  (cCons (blk_of i x0 x2 arg2 harg2 arg4 harg4 ⟨0, by decide⟩ ⟨15, by decide⟩ _ _ _ _ (k0_off18_eq i ⟨0, by decide⟩) rfl)
  (cCons (blk_of i x0 x2 arg2 harg2 arg4 harg4 ⟨0, by decide⟩ ⟨16, by decide⟩ _ _ _ _ (k0_off19_eq i ⟨0, by decide⟩) rfl)
  (cCons (blk_of i x0 x2 arg2 harg2 arg4 harg4 ⟨0, by decide⟩ ⟨17, by decide⟩ _ _ _ _ (k0_off20_eq i ⟨0, by decide⟩) rfl)
  (cCons (blk_of i x0 x2 arg2 harg2 arg4 harg4 ⟨0, by decide⟩ ⟨18, by decide⟩ _ _ _ _ (k0_off21_eq i ⟨0, by decide⟩) rfl)
  (cCons (blk_of i x0 x2 arg2 harg2 arg4 harg4 ⟨0, by decide⟩ ⟨19, by decide⟩ _ _ _ _ (k0_off22_eq i ⟨0, by decide⟩) rfl)
  (cCons (blk_of i x0 x2 arg2 harg2 arg4 harg4 ⟨0, by decide⟩ ⟨20, by decide⟩ _ _ _ _ (k0_off23_eq i ⟨0, by decide⟩) rfl)
  (cCons (blk_of i x0 x2 arg2 harg2 arg4 harg4 ⟨0, by decide⟩ ⟨21, by decide⟩ _ _ _ _ (k0_off24_eq i ⟨0, by decide⟩) rfl)
  (cCons (blk_of i x0 x2 arg2 harg2 arg4 harg4 ⟨0, by decide⟩ ⟨22, by decide⟩ _ _ _ _ (k0_off25_eq i ⟨0, by decide⟩) rfl)
  (cCons (blk_of i x0 x2 arg2 harg2 arg4 harg4 ⟨0, by decide⟩ ⟨23, by decide⟩ _ _ _ _ (k0_off26_eq i ⟨0, by decide⟩) rfl)
  (cCons (blk_of i x0 x2 arg2 harg2 arg4 harg4 ⟨0, by decide⟩ ⟨24, by decide⟩ _ _ _ _ (k0_off27_eq i ⟨0, by decide⟩) rfl)
  (cCons (blk_of i x0 x2 arg2 harg2 arg4 harg4 ⟨0, by decide⟩ ⟨25, by decide⟩ _ _ _ _ (k0_off28_eq i ⟨0, by decide⟩) rfl)
  (cCons (blk_of i x0 x2 arg2 harg2 arg4 harg4 ⟨0, by decide⟩ ⟨26, by decide⟩ _ _ _ _ (k0_off29_eq i ⟨0, by decide⟩) rfl)
  (cCons (blk_of i x0 x2 arg2 harg2 arg4 harg4 ⟨0, by decide⟩ ⟨27, by decide⟩ _ _ _ _ (k0_off30_eq i ⟨0, by decide⟩) rfl)
  (cCons (blk_of i x0 x2 arg2 harg2 arg4 harg4 ⟨0, by decide⟩ ⟨28, by decide⟩ _ _ _ _ (k0_off31_eq i ⟨0, by decide⟩) rfl)
  (cCons (blk_of i x0 x2 arg2 harg2 arg4 harg4 ⟨0, by decide⟩ ⟨29, by decide⟩ _ _ _ _ (k0_off32_eq i ⟨0, by decide⟩) rfl)
  (cCons (blk_of i x0 x2 arg2 harg2 arg4 harg4 ⟨0, by decide⟩ ⟨30, by decide⟩ _ _ _ _ (k0_off33_eq i ⟨0, by decide⟩) rfl)
  (cCons (blk_of i x0 x2 arg2 harg2 arg4 harg4 ⟨0, by decide⟩ ⟨31, by decide⟩ _ _ _ _ (k0_off34_eq i ⟨0, by decide⟩) rfl)
  (cCons (blk_of i x0 x2 arg2 harg2 arg4 harg4 ⟨0, by decide⟩ ⟨32, by decide⟩ _ _ _ _ (k0_off35_eq i ⟨0, by decide⟩) rfl)
  (cCons (blk_of i x0 x2 arg2 harg2 arg4 harg4 ⟨0, by decide⟩ ⟨33, by decide⟩ _ _ _ _ (k0_off36_eq i ⟨0, by decide⟩) rfl)
  (cCons (blk_of i x0 x2 arg2 harg2 arg4 harg4 ⟨0, by decide⟩ ⟨34, by decide⟩ _ _ _ _ (k0_off37_eq i ⟨0, by decide⟩) rfl)
  (cCons (blk_of i x0 x2 arg2 harg2 arg4 harg4 ⟨0, by decide⟩ ⟨35, by decide⟩ _ _ _ _ (k0_off38_eq i ⟨0, by decide⟩) rfl)
  (cCons (blk_of i x0 x2 arg2 harg2 arg4 harg4 ⟨0, by decide⟩ ⟨36, by decide⟩ _ _ _ _ (k0_off39_eq i ⟨0, by decide⟩) rfl)
  (cCons (blk_of i x0 x2 arg2 harg2 arg4 harg4 ⟨0, by decide⟩ ⟨37, by decide⟩ _ _ _ _ (k0_off40_eq i ⟨0, by decide⟩) rfl)
  (cCons (blk_of i x0 x2 arg2 harg2 arg4 harg4 ⟨0, by decide⟩ ⟨38, by decide⟩ _ _ _ _ (k0_off41_eq i ⟨0, by decide⟩) rfl)
  (cCons (blk_of i x0 x2 arg2 harg2 arg4 harg4 ⟨0, by decide⟩ ⟨39, by decide⟩ _ _ _ _ (k0_off42_eq i ⟨0, by decide⟩) rfl)
  (cCons (blk_of i x0 x2 arg2 harg2 arg4 harg4 ⟨0, by decide⟩ ⟨40, by decide⟩ _ _ _ _ (k0_off43_eq i ⟨0, by decide⟩) rfl)
  (cCons (blk_of i x0 x2 arg2 harg2 arg4 harg4 ⟨0, by decide⟩ ⟨41, by decide⟩ _ _ _ _ (k0_off44_eq i ⟨0, by decide⟩) rfl)
  (cCons (blk_of i x0 x2 arg2 harg2 arg4 harg4 ⟨0, by decide⟩ ⟨42, by decide⟩ _ _ _ _ (k0_off45_eq i ⟨0, by decide⟩) rfl)
  (cCons (blk_of i x0 x2 arg2 harg2 arg4 harg4 ⟨0, by decide⟩ ⟨43, by decide⟩ _ _ _ _ (k0_off46_eq i ⟨0, by decide⟩) rfl)
  (cCons (blk_of i x0 x2 arg2 harg2 arg4 harg4 ⟨0, by decide⟩ ⟨44, by decide⟩ _ _ _ _ (k0_off47_eq i ⟨0, by decide⟩) rfl)
  (cCons (blk_of i x0 x2 arg2 harg2 arg4 harg4 ⟨0, by decide⟩ ⟨45, by decide⟩ _ _ _ _ (k0_off48_eq i ⟨0, by decide⟩) rfl)
  (cCons (blk_of i x0 x2 arg2 harg2 arg4 harg4 ⟨0, by decide⟩ ⟨46, by decide⟩ _ _ _ _ (k0_off49_eq i ⟨0, by decide⟩) rfl)
  (cCons (blk_of i x0 x2 arg2 harg2 arg4 harg4 ⟨0, by decide⟩ ⟨47, by decide⟩ _ _ _ _ (k0_off50_eq i ⟨0, by decide⟩) rfl)
  (cCons (blk_of i x0 x2 arg2 harg2 arg4 harg4 ⟨0, by decide⟩ ⟨48, by decide⟩ _ _ _ _ (k0_off51_eq i ⟨0, by decide⟩) rfl)
  (cCons (blk_of i x0 x2 arg2 harg2 arg4 harg4 ⟨0, by decide⟩ ⟨49, by decide⟩ _ _ _ _ (k0_off52_eq i ⟨0, by decide⟩) rfl)
  (cCons (blk_of i x0 x2 arg2 harg2 arg4 harg4 ⟨0, by decide⟩ ⟨50, by decide⟩ _ _ _ _ (k0_off53_eq i ⟨0, by decide⟩) rfl)
  (cCons (blk_of i x0 x2 arg2 harg2 arg4 harg4 ⟨0, by decide⟩ ⟨51, by decide⟩ _ _ _ _ (k0_off54_eq i ⟨0, by decide⟩) rfl)
  (cCons (blk_of i x0 x2 arg2 harg2 arg4 harg4 ⟨0, by decide⟩ ⟨52, by decide⟩ _ _ _ _ (k0_off55_eq i ⟨0, by decide⟩) rfl)
  (cCons (blk_of i x0 x2 arg2 harg2 arg4 harg4 ⟨0, by decide⟩ ⟨53, by decide⟩ _ _ _ _ (k0_off56_eq i ⟨0, by decide⟩) rfl)
  (cCons (blk_of i x0 x2 arg2 harg2 arg4 harg4 ⟨0, by decide⟩ ⟨54, by decide⟩ _ _ _ _ (k0_off57_eq i ⟨0, by decide⟩) rfl)
  (cCons (blk_of i x0 x2 arg2 harg2 arg4 harg4 ⟨0, by decide⟩ ⟨55, by decide⟩ _ _ _ _ (k0_off58_eq i ⟨0, by decide⟩) rfl)
  (cCons (blk_of i x0 x2 arg2 harg2 arg4 harg4 ⟨0, by decide⟩ ⟨56, by decide⟩ _ _ _ _ (k0_off59_eq i ⟨0, by decide⟩) rfl)
  (cCons (blk_of i x0 x2 arg2 harg2 arg4 harg4 ⟨0, by decide⟩ ⟨57, by decide⟩ _ _ _ _ (k0_off60_eq i ⟨0, by decide⟩) rfl)
  (cCons (blk_of i x0 x2 arg2 harg2 arg4 harg4 ⟨0, by decide⟩ ⟨58, by decide⟩ _ _ _ _ (k0_off61_eq i ⟨0, by decide⟩) rfl)
  (cCons (blk_of i x0 x2 arg2 harg2 arg4 harg4 ⟨0, by decide⟩ ⟨59, by decide⟩ _ _ _ _ (k0_off62_eq i ⟨0, by decide⟩) rfl)
  (cCons (blk_of i x0 x2 arg2 harg2 arg4 harg4 ⟨0, by decide⟩ ⟨60, by decide⟩ _ _ _ _ (k0_off63_eq i ⟨0, by decide⟩) rfl)
  (cCons (blk_of i x0 x2 arg2 harg2 arg4 harg4 ⟨0, by decide⟩ ⟨61, by decide⟩ _ _ _ _ (k0_off64_eq i ⟨0, by decide⟩) rfl)
  (cCons (blk_of i x0 x2 arg2 harg2 arg4 harg4 ⟨0, by decide⟩ ⟨62, by decide⟩ _ _ _ _ (k0_off65_eq i ⟨0, by decide⟩) rfl)
  (cCons (blk_of i x0 x2 arg2 harg2 arg4 harg4 ⟨0, by decide⟩ ⟨63, by decide⟩ _ _ _ _ (k0_off66_eq i ⟨0, by decide⟩) rfl)
  (cCons (blk_of i x0 x2 arg2 harg2 arg4 harg4 ⟨0, by decide⟩ ⟨64, by decide⟩ _ _ _ _ (k0_off67_eq i ⟨0, by decide⟩) rfl)
  (cCons (blk_of i x0 x2 arg2 harg2 arg4 harg4 ⟨0, by decide⟩ ⟨65, by decide⟩ _ _ _ _ (k0_off68_eq i ⟨0, by decide⟩) rfl)
  (cCons (blk_of i x0 x2 arg2 harg2 arg4 harg4 ⟨0, by decide⟩ ⟨66, by decide⟩ _ _ _ _ (k0_off69_eq i ⟨0, by decide⟩) rfl)
  (cCons (blk_of i x0 x2 arg2 harg2 arg4 harg4 ⟨0, by decide⟩ ⟨67, by decide⟩ _ _ _ _ (k0_off70_eq i ⟨0, by decide⟩) rfl)
  (cCons (blk_of i x0 x2 arg2 harg2 arg4 harg4 ⟨0, by decide⟩ ⟨68, by decide⟩ _ _ _ _ (k0_off71_eq i ⟨0, by decide⟩) rfl)
  (cCons (blk_of i x0 x2 arg2 harg2 arg4 harg4 ⟨0, by decide⟩ ⟨69, by decide⟩ _ _ _ _ (k0_off72_eq i ⟨0, by decide⟩) rfl)
  (cCons (blk_of i x0 x2 arg2 harg2 arg4 harg4 ⟨0, by decide⟩ ⟨70, by decide⟩ _ _ _ _ (k0_off73_eq i ⟨0, by decide⟩) rfl)
  (cCons (blk_of i x0 x2 arg2 harg2 arg4 harg4 ⟨0, by decide⟩ ⟨71, by decide⟩ _ _ _ _ (k0_off74_eq i ⟨0, by decide⟩) rfl)
  (cCons (blk_of i x0 x2 arg2 harg2 arg4 harg4 ⟨0, by decide⟩ ⟨72, by decide⟩ _ _ _ _ (k0_off75_eq i ⟨0, by decide⟩) rfl)
  (cCons (blk_of i x0 x2 arg2 harg2 arg4 harg4 ⟨0, by decide⟩ ⟨73, by decide⟩ _ _ _ _ (k0_off76_eq i ⟨0, by decide⟩) rfl)
  (cCons (blk_of i x0 x2 arg2 harg2 arg4 harg4 ⟨0, by decide⟩ ⟨74, by decide⟩ _ _ _ _ (k0_off77_eq i ⟨0, by decide⟩) rfl)
  (cCons (blk_of i x0 x2 arg2 harg2 arg4 harg4 ⟨0, by decide⟩ ⟨75, by decide⟩ _ _ _ _ (k0_off78_eq i ⟨0, by decide⟩) rfl)
  (cCons (blk_of i x0 x2 arg2 harg2 arg4 harg4 ⟨0, by decide⟩ ⟨76, by decide⟩ _ _ _ _ (k0_off79_eq i ⟨0, by decide⟩) rfl)
  (cCons (blk_of i x0 x2 arg2 harg2 arg4 harg4 ⟨0, by decide⟩ ⟨77, by decide⟩ _ _ _ _ (k0_off80_eq i ⟨0, by decide⟩) rfl)
  (cCons (blk_of i x0 x2 arg2 harg2 arg4 harg4 ⟨0, by decide⟩ ⟨78, by decide⟩ _ _ _ _ (k0_off81_eq i ⟨0, by decide⟩) rfl)
  (cCons (blk_of i x0 x2 arg2 harg2 arg4 harg4 ⟨0, by decide⟩ ⟨79, by decide⟩ _ _ _ _ (k0_off82_eq i ⟨0, by decide⟩) rfl)
  cNil))))))))))))))))))))))))))))))))))))))))))))))))))))))))))))))))))))))))))))))))

set_option maxHeartbeats 4000000 in
theorem row1 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_341 c i arg2 harg2 arg4 harg4 x0 x2 = rowOf i x0 x2 1 :=
  row_of_list i x0 x2 1 _ (by exact cat80) <| (Eq.trans · (ofFn80 _).symm) <|
  (cCons (blk_of i x0 x2 arg2 harg2 arg4 harg4 ⟨1, by decide⟩ ⟨0, by decide⟩ _ _ _ _ (k0_off3_eq i ⟨1, by decide⟩) rfl)
  (cCons (blk_of i x0 x2 arg2 harg2 arg4 harg4 ⟨1, by decide⟩ ⟨1, by decide⟩ _ _ _ _ (k0_off4_eq i ⟨1, by decide⟩) rfl)
  (cCons (blk_of i x0 x2 arg2 harg2 arg4 harg4 ⟨1, by decide⟩ ⟨2, by decide⟩ _ _ _ _ (k0_off5_eq i ⟨1, by decide⟩) rfl)
  (cCons (blk_of i x0 x2 arg2 harg2 arg4 harg4 ⟨1, by decide⟩ ⟨3, by decide⟩ _ _ _ _ (k0_off6_eq i ⟨1, by decide⟩) rfl)
  (cCons (blk_of i x0 x2 arg2 harg2 arg4 harg4 ⟨1, by decide⟩ ⟨4, by decide⟩ _ _ _ _ (k0_off7_eq i ⟨1, by decide⟩) rfl)
  (cCons (blk_of i x0 x2 arg2 harg2 arg4 harg4 ⟨1, by decide⟩ ⟨5, by decide⟩ _ _ _ _ (k0_off8_eq i ⟨1, by decide⟩) rfl)
  (cCons (blk_of i x0 x2 arg2 harg2 arg4 harg4 ⟨1, by decide⟩ ⟨6, by decide⟩ _ _ _ _ (k0_off9_eq i ⟨1, by decide⟩) rfl)
  (cCons (blk_of i x0 x2 arg2 harg2 arg4 harg4 ⟨1, by decide⟩ ⟨7, by decide⟩ _ _ _ _ (k0_off10_eq i ⟨1, by decide⟩) rfl)
  (cCons (blk_of i x0 x2 arg2 harg2 arg4 harg4 ⟨1, by decide⟩ ⟨8, by decide⟩ _ _ _ _ (k0_off11_eq i ⟨1, by decide⟩) rfl)
  (cCons (blk_of i x0 x2 arg2 harg2 arg4 harg4 ⟨1, by decide⟩ ⟨9, by decide⟩ _ _ _ _ (k0_off12_eq i ⟨1, by decide⟩) rfl)
  (cCons (blk_of i x0 x2 arg2 harg2 arg4 harg4 ⟨1, by decide⟩ ⟨10, by decide⟩ _ _ _ _ (k0_off13_eq i ⟨1, by decide⟩) rfl)
  (cCons (blk_of i x0 x2 arg2 harg2 arg4 harg4 ⟨1, by decide⟩ ⟨11, by decide⟩ _ _ _ _ (k0_off14_eq i ⟨1, by decide⟩) rfl)
  (cCons (blk_of i x0 x2 arg2 harg2 arg4 harg4 ⟨1, by decide⟩ ⟨12, by decide⟩ _ _ _ _ (k0_off15_eq i ⟨1, by decide⟩) rfl)
  (cCons (blk_of i x0 x2 arg2 harg2 arg4 harg4 ⟨1, by decide⟩ ⟨13, by decide⟩ _ _ _ _ (k0_off16_eq i ⟨1, by decide⟩) rfl)
  (cCons (blk_of i x0 x2 arg2 harg2 arg4 harg4 ⟨1, by decide⟩ ⟨14, by decide⟩ _ _ _ _ (k0_off17_eq i ⟨1, by decide⟩) rfl)
  (cCons (blk_of i x0 x2 arg2 harg2 arg4 harg4 ⟨1, by decide⟩ ⟨15, by decide⟩ _ _ _ _ (k0_off18_eq i ⟨1, by decide⟩) rfl)
  (cCons (blk_of i x0 x2 arg2 harg2 arg4 harg4 ⟨1, by decide⟩ ⟨16, by decide⟩ _ _ _ _ (k0_off19_eq i ⟨1, by decide⟩) rfl)
  (cCons (blk_of i x0 x2 arg2 harg2 arg4 harg4 ⟨1, by decide⟩ ⟨17, by decide⟩ _ _ _ _ (k0_off20_eq i ⟨1, by decide⟩) rfl)
  (cCons (blk_of i x0 x2 arg2 harg2 arg4 harg4 ⟨1, by decide⟩ ⟨18, by decide⟩ _ _ _ _ (k0_off21_eq i ⟨1, by decide⟩) rfl)
  (cCons (blk_of i x0 x2 arg2 harg2 arg4 harg4 ⟨1, by decide⟩ ⟨19, by decide⟩ _ _ _ _ (k0_off22_eq i ⟨1, by decide⟩) rfl)
  (cCons (blk_of i x0 x2 arg2 harg2 arg4 harg4 ⟨1, by decide⟩ ⟨20, by decide⟩ _ _ _ _ (k0_off23_eq i ⟨1, by decide⟩) rfl)
  (cCons (blk_of i x0 x2 arg2 harg2 arg4 harg4 ⟨1, by decide⟩ ⟨21, by decide⟩ _ _ _ _ (k0_off24_eq i ⟨1, by decide⟩) rfl)
  (cCons (blk_of i x0 x2 arg2 harg2 arg4 harg4 ⟨1, by decide⟩ ⟨22, by decide⟩ _ _ _ _ (k0_off25_eq i ⟨1, by decide⟩) rfl)
  (cCons (blk_of i x0 x2 arg2 harg2 arg4 harg4 ⟨1, by decide⟩ ⟨23, by decide⟩ _ _ _ _ (k0_off26_eq i ⟨1, by decide⟩) rfl)
  (cCons (blk_of i x0 x2 arg2 harg2 arg4 harg4 ⟨1, by decide⟩ ⟨24, by decide⟩ _ _ _ _ (k0_off27_eq i ⟨1, by decide⟩) rfl)
  (cCons (blk_of i x0 x2 arg2 harg2 arg4 harg4 ⟨1, by decide⟩ ⟨25, by decide⟩ _ _ _ _ (k0_off28_eq i ⟨1, by decide⟩) rfl)
  (cCons (blk_of i x0 x2 arg2 harg2 arg4 harg4 ⟨1, by decide⟩ ⟨26, by decide⟩ _ _ _ _ (k0_off29_eq i ⟨1, by decide⟩) rfl)
  (cCons (blk_of i x0 x2 arg2 harg2 arg4 harg4 ⟨1, by decide⟩ ⟨27, by decide⟩ _ _ _ _ (k0_off30_eq i ⟨1, by decide⟩) rfl)
  (cCons (blk_of i x0 x2 arg2 harg2 arg4 harg4 ⟨1, by decide⟩ ⟨28, by decide⟩ _ _ _ _ (k0_off31_eq i ⟨1, by decide⟩) rfl)
  (cCons (blk_of i x0 x2 arg2 harg2 arg4 harg4 ⟨1, by decide⟩ ⟨29, by decide⟩ _ _ _ _ (k0_off32_eq i ⟨1, by decide⟩) rfl)
  (cCons (blk_of i x0 x2 arg2 harg2 arg4 harg4 ⟨1, by decide⟩ ⟨30, by decide⟩ _ _ _ _ (k0_off33_eq i ⟨1, by decide⟩) rfl)
  (cCons (blk_of i x0 x2 arg2 harg2 arg4 harg4 ⟨1, by decide⟩ ⟨31, by decide⟩ _ _ _ _ (k0_off34_eq i ⟨1, by decide⟩) rfl)
  (cCons (blk_of i x0 x2 arg2 harg2 arg4 harg4 ⟨1, by decide⟩ ⟨32, by decide⟩ _ _ _ _ (k0_off35_eq i ⟨1, by decide⟩) rfl)
  (cCons (blk_of i x0 x2 arg2 harg2 arg4 harg4 ⟨1, by decide⟩ ⟨33, by decide⟩ _ _ _ _ (k0_off36_eq i ⟨1, by decide⟩) rfl)
  (cCons (blk_of i x0 x2 arg2 harg2 arg4 harg4 ⟨1, by decide⟩ ⟨34, by decide⟩ _ _ _ _ (k0_off37_eq i ⟨1, by decide⟩) rfl)
  (cCons (blk_of i x0 x2 arg2 harg2 arg4 harg4 ⟨1, by decide⟩ ⟨35, by decide⟩ _ _ _ _ (k0_off38_eq i ⟨1, by decide⟩) rfl)
  (cCons (blk_of i x0 x2 arg2 harg2 arg4 harg4 ⟨1, by decide⟩ ⟨36, by decide⟩ _ _ _ _ (k0_off39_eq i ⟨1, by decide⟩) rfl)
  (cCons (blk_of i x0 x2 arg2 harg2 arg4 harg4 ⟨1, by decide⟩ ⟨37, by decide⟩ _ _ _ _ (k0_off40_eq i ⟨1, by decide⟩) rfl)
  (cCons (blk_of i x0 x2 arg2 harg2 arg4 harg4 ⟨1, by decide⟩ ⟨38, by decide⟩ _ _ _ _ (k0_off41_eq i ⟨1, by decide⟩) rfl)
  (cCons (blk_of i x0 x2 arg2 harg2 arg4 harg4 ⟨1, by decide⟩ ⟨39, by decide⟩ _ _ _ _ (k0_off42_eq i ⟨1, by decide⟩) rfl)
  (cCons (blk_of i x0 x2 arg2 harg2 arg4 harg4 ⟨1, by decide⟩ ⟨40, by decide⟩ _ _ _ _ (k0_off43_eq i ⟨1, by decide⟩) rfl)
  (cCons (blk_of i x0 x2 arg2 harg2 arg4 harg4 ⟨1, by decide⟩ ⟨41, by decide⟩ _ _ _ _ (k0_off44_eq i ⟨1, by decide⟩) rfl)
  (cCons (blk_of i x0 x2 arg2 harg2 arg4 harg4 ⟨1, by decide⟩ ⟨42, by decide⟩ _ _ _ _ (k0_off45_eq i ⟨1, by decide⟩) rfl)
  (cCons (blk_of i x0 x2 arg2 harg2 arg4 harg4 ⟨1, by decide⟩ ⟨43, by decide⟩ _ _ _ _ (k0_off46_eq i ⟨1, by decide⟩) rfl)
  (cCons (blk_of i x0 x2 arg2 harg2 arg4 harg4 ⟨1, by decide⟩ ⟨44, by decide⟩ _ _ _ _ (k0_off47_eq i ⟨1, by decide⟩) rfl)
  (cCons (blk_of i x0 x2 arg2 harg2 arg4 harg4 ⟨1, by decide⟩ ⟨45, by decide⟩ _ _ _ _ (k0_off48_eq i ⟨1, by decide⟩) rfl)
  (cCons (blk_of i x0 x2 arg2 harg2 arg4 harg4 ⟨1, by decide⟩ ⟨46, by decide⟩ _ _ _ _ (k0_off49_eq i ⟨1, by decide⟩) rfl)
  (cCons (blk_of i x0 x2 arg2 harg2 arg4 harg4 ⟨1, by decide⟩ ⟨47, by decide⟩ _ _ _ _ (k0_off50_eq i ⟨1, by decide⟩) rfl)
  (cCons (blk_of i x0 x2 arg2 harg2 arg4 harg4 ⟨1, by decide⟩ ⟨48, by decide⟩ _ _ _ _ (k0_off51_eq i ⟨1, by decide⟩) rfl)
  (cCons (blk_of i x0 x2 arg2 harg2 arg4 harg4 ⟨1, by decide⟩ ⟨49, by decide⟩ _ _ _ _ (k0_off52_eq i ⟨1, by decide⟩) rfl)
  (cCons (blk_of i x0 x2 arg2 harg2 arg4 harg4 ⟨1, by decide⟩ ⟨50, by decide⟩ _ _ _ _ (k0_off53_eq i ⟨1, by decide⟩) rfl)
  (cCons (blk_of i x0 x2 arg2 harg2 arg4 harg4 ⟨1, by decide⟩ ⟨51, by decide⟩ _ _ _ _ (k0_off54_eq i ⟨1, by decide⟩) rfl)
  (cCons (blk_of i x0 x2 arg2 harg2 arg4 harg4 ⟨1, by decide⟩ ⟨52, by decide⟩ _ _ _ _ (k0_off55_eq i ⟨1, by decide⟩) rfl)
  (cCons (blk_of i x0 x2 arg2 harg2 arg4 harg4 ⟨1, by decide⟩ ⟨53, by decide⟩ _ _ _ _ (k0_off56_eq i ⟨1, by decide⟩) rfl)
  (cCons (blk_of i x0 x2 arg2 harg2 arg4 harg4 ⟨1, by decide⟩ ⟨54, by decide⟩ _ _ _ _ (k0_off57_eq i ⟨1, by decide⟩) rfl)
  (cCons (blk_of i x0 x2 arg2 harg2 arg4 harg4 ⟨1, by decide⟩ ⟨55, by decide⟩ _ _ _ _ (k0_off58_eq i ⟨1, by decide⟩) rfl)
  (cCons (blk_of i x0 x2 arg2 harg2 arg4 harg4 ⟨1, by decide⟩ ⟨56, by decide⟩ _ _ _ _ (k0_off59_eq i ⟨1, by decide⟩) rfl)
  (cCons (blk_of i x0 x2 arg2 harg2 arg4 harg4 ⟨1, by decide⟩ ⟨57, by decide⟩ _ _ _ _ (k0_off60_eq i ⟨1, by decide⟩) rfl)
  (cCons (blk_of i x0 x2 arg2 harg2 arg4 harg4 ⟨1, by decide⟩ ⟨58, by decide⟩ _ _ _ _ (k0_off61_eq i ⟨1, by decide⟩) rfl)
  (cCons (blk_of i x0 x2 arg2 harg2 arg4 harg4 ⟨1, by decide⟩ ⟨59, by decide⟩ _ _ _ _ (k0_off62_eq i ⟨1, by decide⟩) rfl)
  (cCons (blk_of i x0 x2 arg2 harg2 arg4 harg4 ⟨1, by decide⟩ ⟨60, by decide⟩ _ _ _ _ (k0_off63_eq i ⟨1, by decide⟩) rfl)
  (cCons (blk_of i x0 x2 arg2 harg2 arg4 harg4 ⟨1, by decide⟩ ⟨61, by decide⟩ _ _ _ _ (k0_off64_eq i ⟨1, by decide⟩) rfl)
  (cCons (blk_of i x0 x2 arg2 harg2 arg4 harg4 ⟨1, by decide⟩ ⟨62, by decide⟩ _ _ _ _ (k0_off65_eq i ⟨1, by decide⟩) rfl)
  (cCons (blk_of i x0 x2 arg2 harg2 arg4 harg4 ⟨1, by decide⟩ ⟨63, by decide⟩ _ _ _ _ (k0_off66_eq i ⟨1, by decide⟩) rfl)
  (cCons (blk_of i x0 x2 arg2 harg2 arg4 harg4 ⟨1, by decide⟩ ⟨64, by decide⟩ _ _ _ _ (k0_off67_eq i ⟨1, by decide⟩) rfl)
  (cCons (blk_of i x0 x2 arg2 harg2 arg4 harg4 ⟨1, by decide⟩ ⟨65, by decide⟩ _ _ _ _ (k0_off68_eq i ⟨1, by decide⟩) rfl)
  (cCons (blk_of i x0 x2 arg2 harg2 arg4 harg4 ⟨1, by decide⟩ ⟨66, by decide⟩ _ _ _ _ (k0_off69_eq i ⟨1, by decide⟩) rfl)
  (cCons (blk_of i x0 x2 arg2 harg2 arg4 harg4 ⟨1, by decide⟩ ⟨67, by decide⟩ _ _ _ _ (k0_off70_eq i ⟨1, by decide⟩) rfl)
  (cCons (blk_of i x0 x2 arg2 harg2 arg4 harg4 ⟨1, by decide⟩ ⟨68, by decide⟩ _ _ _ _ (k0_off71_eq i ⟨1, by decide⟩) rfl)
  (cCons (blk_of i x0 x2 arg2 harg2 arg4 harg4 ⟨1, by decide⟩ ⟨69, by decide⟩ _ _ _ _ (k0_off72_eq i ⟨1, by decide⟩) rfl)
  (cCons (blk_of i x0 x2 arg2 harg2 arg4 harg4 ⟨1, by decide⟩ ⟨70, by decide⟩ _ _ _ _ (k0_off73_eq i ⟨1, by decide⟩) rfl)
  (cCons (blk_of i x0 x2 arg2 harg2 arg4 harg4 ⟨1, by decide⟩ ⟨71, by decide⟩ _ _ _ _ (k0_off74_eq i ⟨1, by decide⟩) rfl)
  (cCons (blk_of i x0 x2 arg2 harg2 arg4 harg4 ⟨1, by decide⟩ ⟨72, by decide⟩ _ _ _ _ (k0_off75_eq i ⟨1, by decide⟩) rfl)
  (cCons (blk_of i x0 x2 arg2 harg2 arg4 harg4 ⟨1, by decide⟩ ⟨73, by decide⟩ _ _ _ _ (k0_off76_eq i ⟨1, by decide⟩) rfl)
  (cCons (blk_of i x0 x2 arg2 harg2 arg4 harg4 ⟨1, by decide⟩ ⟨74, by decide⟩ _ _ _ _ (k0_off77_eq i ⟨1, by decide⟩) rfl)
  (cCons (blk_of i x0 x2 arg2 harg2 arg4 harg4 ⟨1, by decide⟩ ⟨75, by decide⟩ _ _ _ _ (k0_off78_eq i ⟨1, by decide⟩) rfl)
  (cCons (blk_of i x0 x2 arg2 harg2 arg4 harg4 ⟨1, by decide⟩ ⟨76, by decide⟩ _ _ _ _ (k0_off79_eq i ⟨1, by decide⟩) rfl)
  (cCons (blk_of i x0 x2 arg2 harg2 arg4 harg4 ⟨1, by decide⟩ ⟨77, by decide⟩ _ _ _ _ (k0_off80_eq i ⟨1, by decide⟩) rfl)
  (cCons (blk_of i x0 x2 arg2 harg2 arg4 harg4 ⟨1, by decide⟩ ⟨78, by decide⟩ _ _ _ _ (k0_off81_eq i ⟨1, by decide⟩) rfl)
  (cCons (blk_of i x0 x2 arg2 harg2 arg4 harg4 ⟨1, by decide⟩ ⟨79, by decide⟩ _ _ _ _ (k0_off82_eq i ⟨1, by decide⟩) rfl)
  cNil))))))))))))))))))))))))))))))))))))))))))))))))))))))))))))))))))))))))))))))))

set_option maxHeartbeats 4000000 in
theorem row2 (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) : runB.sl.r_512 c i arg2 harg2 arg4 harg4 x0 x2 = rowOf i x0 x2 2 :=
  row_of_list i x0 x2 2 _ (by exact cat80) <| (Eq.trans · (ofFn80 _).symm) <|
  (cCons (blk_of i x0 x2 arg2 harg2 arg4 harg4 ⟨2, by decide⟩ ⟨0, by decide⟩ _ _ _ _ (k0_off3_eq i ⟨2, by decide⟩) rfl)
  (cCons (blk_of i x0 x2 arg2 harg2 arg4 harg4 ⟨2, by decide⟩ ⟨1, by decide⟩ _ _ _ _ (k0_off4_eq i ⟨2, by decide⟩) rfl)
  (cCons (blk_of i x0 x2 arg2 harg2 arg4 harg4 ⟨2, by decide⟩ ⟨2, by decide⟩ _ _ _ _ (k0_off5_eq i ⟨2, by decide⟩) rfl)
  (cCons (blk_of i x0 x2 arg2 harg2 arg4 harg4 ⟨2, by decide⟩ ⟨3, by decide⟩ _ _ _ _ (k0_off6_eq i ⟨2, by decide⟩) rfl)
  (cCons (blk_of i x0 x2 arg2 harg2 arg4 harg4 ⟨2, by decide⟩ ⟨4, by decide⟩ _ _ _ _ (k0_off7_eq i ⟨2, by decide⟩) rfl)
  (cCons (blk_of i x0 x2 arg2 harg2 arg4 harg4 ⟨2, by decide⟩ ⟨5, by decide⟩ _ _ _ _ (k0_off8_eq i ⟨2, by decide⟩) rfl)
  (cCons (blk_of i x0 x2 arg2 harg2 arg4 harg4 ⟨2, by decide⟩ ⟨6, by decide⟩ _ _ _ _ (k0_off9_eq i ⟨2, by decide⟩) rfl)
  (cCons (blk_of i x0 x2 arg2 harg2 arg4 harg4 ⟨2, by decide⟩ ⟨7, by decide⟩ _ _ _ _ (k0_off10_eq i ⟨2, by decide⟩) rfl)
  (cCons (blk_of i x0 x2 arg2 harg2 arg4 harg4 ⟨2, by decide⟩ ⟨8, by decide⟩ _ _ _ _ (k0_off11_eq i ⟨2, by decide⟩) rfl)
  (cCons (blk_of i x0 x2 arg2 harg2 arg4 harg4 ⟨2, by decide⟩ ⟨9, by decide⟩ _ _ _ _ (k0_off12_eq i ⟨2, by decide⟩) rfl)
  (cCons (blk_of i x0 x2 arg2 harg2 arg4 harg4 ⟨2, by decide⟩ ⟨10, by decide⟩ _ _ _ _ (k0_off13_eq i ⟨2, by decide⟩) rfl)
  (cCons (blk_of i x0 x2 arg2 harg2 arg4 harg4 ⟨2, by decide⟩ ⟨11, by decide⟩ _ _ _ _ (k0_off14_eq i ⟨2, by decide⟩) rfl)
  (cCons (blk_of i x0 x2 arg2 harg2 arg4 harg4 ⟨2, by decide⟩ ⟨12, by decide⟩ _ _ _ _ (k0_off15_eq i ⟨2, by decide⟩) rfl)
  (cCons (blk_of i x0 x2 arg2 harg2 arg4 harg4 ⟨2, by decide⟩ ⟨13, by decide⟩ _ _ _ _ (k0_off16_eq i ⟨2, by decide⟩) rfl)
  (cCons (blk_of i x0 x2 arg2 harg2 arg4 harg4 ⟨2, by decide⟩ ⟨14, by decide⟩ _ _ _ _ (k0_off17_eq i ⟨2, by decide⟩) rfl)
  (cCons (blk_of i x0 x2 arg2 harg2 arg4 harg4 ⟨2, by decide⟩ ⟨15, by decide⟩ _ _ _ _ (k0_off18_eq i ⟨2, by decide⟩) rfl)
  (cCons (blk_of i x0 x2 arg2 harg2 arg4 harg4 ⟨2, by decide⟩ ⟨16, by decide⟩ _ _ _ _ (k0_off19_eq i ⟨2, by decide⟩) rfl)
  (cCons (blk_of i x0 x2 arg2 harg2 arg4 harg4 ⟨2, by decide⟩ ⟨17, by decide⟩ _ _ _ _ (k0_off20_eq i ⟨2, by decide⟩) rfl)
  (cCons (blk_of i x0 x2 arg2 harg2 arg4 harg4 ⟨2, by decide⟩ ⟨18, by decide⟩ _ _ _ _ (k0_off21_eq i ⟨2, by decide⟩) rfl)
  (cCons (blk_of i x0 x2 arg2 harg2 arg4 harg4 ⟨2, by decide⟩ ⟨19, by decide⟩ _ _ _ _ (k0_off22_eq i ⟨2, by decide⟩) rfl)
  (cCons (blk_of i x0 x2 arg2 harg2 arg4 harg4 ⟨2, by decide⟩ ⟨20, by decide⟩ _ _ _ _ (k0_off23_eq i ⟨2, by decide⟩) rfl)
  (cCons (blk_of i x0 x2 arg2 harg2 arg4 harg4 ⟨2, by decide⟩ ⟨21, by decide⟩ _ _ _ _ (k0_off24_eq i ⟨2, by decide⟩) rfl)
  (cCons (blk_of i x0 x2 arg2 harg2 arg4 harg4 ⟨2, by decide⟩ ⟨22, by decide⟩ _ _ _ _ (k0_off25_eq i ⟨2, by decide⟩) rfl)
  (cCons (blk_of i x0 x2 arg2 harg2 arg4 harg4 ⟨2, by decide⟩ ⟨23, by decide⟩ _ _ _ _ (k0_off26_eq i ⟨2, by decide⟩) rfl)
  (cCons (blk_of i x0 x2 arg2 harg2 arg4 harg4 ⟨2, by decide⟩ ⟨24, by decide⟩ _ _ _ _ (k0_off27_eq i ⟨2, by decide⟩) rfl)
  (cCons (blk_of i x0 x2 arg2 harg2 arg4 harg4 ⟨2, by decide⟩ ⟨25, by decide⟩ _ _ _ _ (k0_off28_eq i ⟨2, by decide⟩) rfl)
  (cCons (blk_of i x0 x2 arg2 harg2 arg4 harg4 ⟨2, by decide⟩ ⟨26, by decide⟩ _ _ _ _ (k0_off29_eq i ⟨2, by decide⟩) rfl)
  (cCons (blk_of i x0 x2 arg2 harg2 arg4 harg4 ⟨2, by decide⟩ ⟨27, by decide⟩ _ _ _ _ (k0_off30_eq i ⟨2, by decide⟩) rfl)
  (cCons (blk_of i x0 x2 arg2 harg2 arg4 harg4 ⟨2, by decide⟩ ⟨28, by decide⟩ _ _ _ _ (k0_off31_eq i ⟨2, by decide⟩) rfl)
  (cCons (blk_of i x0 x2 arg2 harg2 arg4 harg4 ⟨2, by decide⟩ ⟨29, by decide⟩ _ _ _ _ (k0_off32_eq i ⟨2, by decide⟩) rfl)
  (cCons (blk_of i x0 x2 arg2 harg2 arg4 harg4 ⟨2, by decide⟩ ⟨30, by decide⟩ _ _ _ _ (k0_off33_eq i ⟨2, by decide⟩) rfl)
  (cCons (blk_of i x0 x2 arg2 harg2 arg4 harg4 ⟨2, by decide⟩ ⟨31, by decide⟩ _ _ _ _ (k0_off34_eq i ⟨2, by decide⟩) rfl)
  (cCons (blk_of i x0 x2 arg2 harg2 arg4 harg4 ⟨2, by decide⟩ ⟨32, by decide⟩ _ _ _ _ (k0_off35_eq i ⟨2, by decide⟩) rfl)
  (cCons (blk_of i x0 x2 arg2 harg2 arg4 harg4 ⟨2, by decide⟩ ⟨33, by decide⟩ _ _ _ _ (k0_off36_eq i ⟨2, by decide⟩) rfl)
  (cCons (blk_of i x0 x2 arg2 harg2 arg4 harg4 ⟨2, by decide⟩ ⟨34, by decide⟩ _ _ _ _ (k0_off37_eq i ⟨2, by decide⟩) rfl)
  (cCons (blk_of i x0 x2 arg2 harg2 arg4 harg4 ⟨2, by decide⟩ ⟨35, by decide⟩ _ _ _ _ (k0_off38_eq i ⟨2, by decide⟩) rfl)
  (cCons (blk_of i x0 x2 arg2 harg2 arg4 harg4 ⟨2, by decide⟩ ⟨36, by decide⟩ _ _ _ _ (k0_off39_eq i ⟨2, by decide⟩) rfl)
  (cCons (blk_of i x0 x2 arg2 harg2 arg4 harg4 ⟨2, by decide⟩ ⟨37, by decide⟩ _ _ _ _ (k0_off40_eq i ⟨2, by decide⟩) rfl)
  (cCons (blk_of i x0 x2 arg2 harg2 arg4 harg4 ⟨2, by decide⟩ ⟨38, by decide⟩ _ _ _ _ (k0_off41_eq i ⟨2, by decide⟩) rfl)
  (cCons (blk_of i x0 x2 arg2 harg2 arg4 harg4 ⟨2, by decide⟩ ⟨39, by decide⟩ _ _ _ _ (k0_off42_eq i ⟨2, by decide⟩) rfl)
  (cCons (blk_of i x0 x2 arg2 harg2 arg4 harg4 ⟨2, by decide⟩ ⟨40, by decide⟩ _ _ _ _ (k0_off43_eq i ⟨2, by decide⟩) rfl)
  (cCons (blk_of i x0 x2 arg2 harg2 arg4 harg4 ⟨2, by decide⟩ ⟨41, by decide⟩ _ _ _ _ (k0_off44_eq i ⟨2, by decide⟩) rfl)
  (cCons (blk_of i x0 x2 arg2 harg2 arg4 harg4 ⟨2, by decide⟩ ⟨42, by decide⟩ _ _ _ _ (k0_off45_eq i ⟨2, by decide⟩) rfl)
  (cCons (blk_of i x0 x2 arg2 harg2 arg4 harg4 ⟨2, by decide⟩ ⟨43, by decide⟩ _ _ _ _ (k0_off46_eq i ⟨2, by decide⟩) rfl)
  (cCons (blk_of i x0 x2 arg2 harg2 arg4 harg4 ⟨2, by decide⟩ ⟨44, by decide⟩ _ _ _ _ (k0_off47_eq i ⟨2, by decide⟩) rfl)
  (cCons (blk_of i x0 x2 arg2 harg2 arg4 harg4 ⟨2, by decide⟩ ⟨45, by decide⟩ _ _ _ _ (k0_off48_eq i ⟨2, by decide⟩) rfl)
  (cCons (blk_of i x0 x2 arg2 harg2 arg4 harg4 ⟨2, by decide⟩ ⟨46, by decide⟩ _ _ _ _ (k0_off49_eq i ⟨2, by decide⟩) rfl)
  (cCons (blk_of i x0 x2 arg2 harg2 arg4 harg4 ⟨2, by decide⟩ ⟨47, by decide⟩ _ _ _ _ (k0_off50_eq i ⟨2, by decide⟩) rfl)
  (cCons (blk_of i x0 x2 arg2 harg2 arg4 harg4 ⟨2, by decide⟩ ⟨48, by decide⟩ _ _ _ _ (k0_off51_eq i ⟨2, by decide⟩) rfl)
  (cCons (blk_of i x0 x2 arg2 harg2 arg4 harg4 ⟨2, by decide⟩ ⟨49, by decide⟩ _ _ _ _ (k0_off52_eq i ⟨2, by decide⟩) rfl)
  (cCons (blk_of i x0 x2 arg2 harg2 arg4 harg4 ⟨2, by decide⟩ ⟨50, by decide⟩ _ _ _ _ (k0_off53_eq i ⟨2, by decide⟩) rfl)
  (cCons (blk_of i x0 x2 arg2 harg2 arg4 harg4 ⟨2, by decide⟩ ⟨51, by decide⟩ _ _ _ _ (k0_off54_eq i ⟨2, by decide⟩) rfl)
  (cCons (blk_of i x0 x2 arg2 harg2 arg4 harg4 ⟨2, by decide⟩ ⟨52, by decide⟩ _ _ _ _ (k0_off55_eq i ⟨2, by decide⟩) rfl)
  (cCons (blk_of i x0 x2 arg2 harg2 arg4 harg4 ⟨2, by decide⟩ ⟨53, by decide⟩ _ _ _ _ (k0_off56_eq i ⟨2, by decide⟩) rfl)
  (cCons (blk_of i x0 x2 arg2 harg2 arg4 harg4 ⟨2, by decide⟩ ⟨54, by decide⟩ _ _ _ _ (k0_off57_eq i ⟨2, by decide⟩) rfl)
  (cCons (blk_of i x0 x2 arg2 harg2 arg4 harg4 ⟨2, by decide⟩ ⟨55, by decide⟩ _ _ _ _ (k0_off58_eq i ⟨2, by decide⟩) rfl)
  (cCons (blk_of i x0 x2 arg2 harg2 arg4 harg4 ⟨2, by decide⟩ ⟨56, by decide⟩ _ _ _ _ (k0_off59_eq i ⟨2, by decide⟩) rfl)
  (cCons (blk_of i x0 x2 arg2 harg2 arg4 harg4 ⟨2, by decide⟩ ⟨57, by decide⟩ _ _ _ _ (k0_off60_eq i ⟨2, by decide⟩) rfl)
  (cCons (blk_of i x0 x2 arg2 harg2 arg4 harg4 ⟨2, by decide⟩ ⟨58, by decide⟩ _ _ _ _ (k0_off61_eq i ⟨2, by decide⟩) rfl)
  (cCons (blk_of i x0 x2 arg2 harg2 arg4 harg4 ⟨2, by decide⟩ ⟨59, by decide⟩ _ _ _ _ (k0_off62_eq i ⟨2, by decide⟩) rfl)
  (cCons (blk_of i x0 x2 arg2 harg2 arg4 harg4 ⟨2, by decide⟩ ⟨60, by decide⟩ _ _ _ _ (k0_off63_eq i ⟨2, by decide⟩) rfl)
  (cCons (blk_of i x0 x2 arg2 harg2 arg4 harg4 ⟨2, by decide⟩ ⟨61, by decide⟩ _ _ _ _ (k0_off64_eq i ⟨2, by decide⟩) rfl)
  (cCons (blk_of i x0 x2 arg2 harg2 arg4 harg4 ⟨2, by decide⟩ ⟨62, by decide⟩ _ _ _ _ (k0_off65_eq i ⟨2, by decide⟩) rfl)
  (cCons (blk_of i x0 x2 arg2 harg2 arg4 harg4 ⟨2, by decide⟩ ⟨63, by decide⟩ _ _ _ _ (k0_off66_eq i ⟨2, by decide⟩) rfl)
  (cCons (blk_of i x0 x2 arg2 harg2 arg4 harg4 ⟨2, by decide⟩ ⟨64, by decide⟩ _ _ _ _ (k0_off67_eq i ⟨2, by decide⟩) rfl)
  (cCons (blk_of i x0 x2 arg2 harg2 arg4 harg4 ⟨2, by decide⟩ ⟨65, by decide⟩ _ _ _ _ (k0_off68_eq i ⟨2, by decide⟩) rfl)
  (cCons (blk_of i x0 x2 arg2 harg2 arg4 harg4 ⟨2, by decide⟩ ⟨66, by decide⟩ _ _ _ _ (k0_off69_eq i ⟨2, by decide⟩) rfl)
  (cCons (blk_of i x0 x2 arg2 harg2 arg4 harg4 ⟨2, by decide⟩ ⟨67, by decide⟩ _ _ _ _ (k0_off70_eq i ⟨2, by decide⟩) rfl)
  (cCons (blk_of i x0 x2 arg2 harg2 arg4 harg4 ⟨2, by decide⟩ ⟨68, by decide⟩ _ _ _ _ (k0_off71_eq i ⟨2, by decide⟩) rfl)
  (cCons (blk_of i x0 x2 arg2 harg2 arg4 harg4 ⟨2, by decide⟩ ⟨69, by decide⟩ _ _ _ _ (k0_off72_eq i ⟨2, by decide⟩) rfl)
  (cCons (blk_of i x0 x2 arg2 harg2 arg4 harg4 ⟨2, by decide⟩ ⟨70, by decide⟩ _ _ _ _ (k0_off73_eq i ⟨2, by decide⟩) rfl)
  (cCons (blk_of i x0 x2 arg2 harg2 arg4 harg4 ⟨2, by decide⟩ ⟨71, by decide⟩ _ _ _ _ (k0_off74_eq i ⟨2, by decide⟩) rfl)
  (cCons (blk_of i x0 x2 arg2 harg2 arg4 harg4 ⟨2, by decide⟩ ⟨72, by decide⟩ _ _ _ _ (k0_off75_eq i ⟨2, by decide⟩) rfl)
  (cCons (blk_of i x0 x2 arg2 harg2 arg4 harg4 ⟨2, by decide⟩ ⟨73, by decide⟩ _ _ _ _ (k0_off76_eq i ⟨2, by decide⟩) rfl)
  (cCons (blk_of i x0 x2 arg2 harg2 arg4 harg4 ⟨2, by decide⟩ ⟨74, by decide⟩ _ _ _ _ (k0_off77_eq i ⟨2, by decide⟩) rfl)
  (cCons (blk_of i x0 x2 arg2 harg2 arg4 harg4 ⟨2, by decide⟩ ⟨75, by decide⟩ _ _ _ _ (k0_off78_eq i ⟨2, by decide⟩) rfl)
  (cCons (blk_of i x0 x2 arg2 harg2 arg4 harg4 ⟨2, by decide⟩ ⟨76, by decide⟩ _ _ _ _ (k0_off79_eq i ⟨2, by decide⟩) rfl)
  (cCons (blk_of i x0 x2 arg2 harg2 arg4 harg4 ⟨2, by decide⟩ ⟨77, by decide⟩ _ _ _ _ (k0_off80_eq i ⟨2, by decide⟩) rfl)
  (cCons (blk_of i x0 x2 arg2 harg2 arg4 harg4 ⟨2, by decide⟩ ⟨78, by decide⟩ _ _ _ _ (k0_off81_eq i ⟨2, by decide⟩) rfl)
  (cCons (blk_of i x0 x2 arg2 harg2 arg4 harg4 ⟨2, by decide⟩ ⟨79, by decide⟩ _ _ _ _ (k0_off82_eq i ⟨2, by decide⟩) rfl)
  cNil))))))))))))))))))))))))))))))))))))))))))))))))))))))))))))))))))))))))))))))))

set_option maxHeartbeats 4000000 in
/-- The tile the kernel stores. -/
theorem dx_runB (c : Dev nD) (i : grid0.Coords) (arg2 : Memref sig .tc .smem S56x80 .f32) (harg2 : arg2.IsWhole) (arg4 : Memref sig .tc .vmem S512x10240 .fp8e4m3) (harg4 : arg4.IsWhole) (x0 : Vec F S56x80 .f32) (x2 : Vec F S512x10240 .fp8e4m3) (arg8 : Memref sig .tc .vmem S512x10240 .bf16) (harg8 : arg8.IsWhole) (xs : Vec F S512x10240 .bf16) :
    runB.sl.r_677 c i arg2 harg2 arg4 harg4 arg8 harg8 x0 x2 xs = dxT i x0 x2 xs := by
  have e8 : arg8.view.readAt (Elt F) (Rect.unit (s := S512x10240) ![0, 0] S512x10240.size inb_S512x10240_S512x10240_0_0).toLoadRect (harg8.unread xs) = xs := by
    funext y
    rw [View.readAt_apply, harg8.read_unread]
    congr 1
    refine idx_ext ?_ ?_
    · show 0 + 1 * (y 0).val = (y 0).val
      omega
    · show 0 + 1 * (y 1).val = (y 1).val
      omega
  refine congrArg (fun v => truncf .bf16 v bitsLt_bf16_f32) (congrArg₂ (fun a b => matmul (F := F) dot_S512x10240_S512x10240_S512x512_1_1_0_0_n_n none a b (constant S512x512 .f32 0x00000000#32)) e8 ?_)
  refine block_of_rows i x0 x2 _ _ _ _ _ (row0 c i arg2 harg2 arg4 harg4 x0 x2) (row1 c i arg2 harg2 arg4 harg4 x0 x2) (row2 c i arg2 harg2 arg4 harg4 x0 x2) ?_
  exact row_of_list i x0 x2 3 _ (by exact cat80) <| (Eq.trans · (ofFn80 _).symm) <|
  (cCons (blk_of i x0 x2 arg2 harg2 arg4 harg4 ⟨3, by decide⟩ ⟨0, by decide⟩ _ _ _ _ (k0_off3_eq i ⟨3, by decide⟩) rfl)
  (cCons (blk_of i x0 x2 arg2 harg2 arg4 harg4 ⟨3, by decide⟩ ⟨1, by decide⟩ _ _ _ _ (k0_off4_eq i ⟨3, by decide⟩) rfl)
  (cCons (blk_of i x0 x2 arg2 harg2 arg4 harg4 ⟨3, by decide⟩ ⟨2, by decide⟩ _ _ _ _ (k0_off5_eq i ⟨3, by decide⟩) rfl)
  (cCons (blk_of i x0 x2 arg2 harg2 arg4 harg4 ⟨3, by decide⟩ ⟨3, by decide⟩ _ _ _ _ (k0_off6_eq i ⟨3, by decide⟩) rfl)
  (cCons (blk_of i x0 x2 arg2 harg2 arg4 harg4 ⟨3, by decide⟩ ⟨4, by decide⟩ _ _ _ _ (k0_off7_eq i ⟨3, by decide⟩) rfl)
  (cCons (blk_of i x0 x2 arg2 harg2 arg4 harg4 ⟨3, by decide⟩ ⟨5, by decide⟩ _ _ _ _ (k0_off8_eq i ⟨3, by decide⟩) rfl)
  (cCons (blk_of i x0 x2 arg2 harg2 arg4 harg4 ⟨3, by decide⟩ ⟨6, by decide⟩ _ _ _ _ (k0_off9_eq i ⟨3, by decide⟩) rfl)
  (cCons (blk_of i x0 x2 arg2 harg2 arg4 harg4 ⟨3, by decide⟩ ⟨7, by decide⟩ _ _ _ _ (k0_off10_eq i ⟨3, by decide⟩) rfl)
  (cCons (blk_of i x0 x2 arg2 harg2 arg4 harg4 ⟨3, by decide⟩ ⟨8, by decide⟩ _ _ _ _ (k0_off11_eq i ⟨3, by decide⟩) rfl)
  (cCons (blk_of i x0 x2 arg2 harg2 arg4 harg4 ⟨3, by decide⟩ ⟨9, by decide⟩ _ _ _ _ (k0_off12_eq i ⟨3, by decide⟩) rfl)
  (cCons (blk_of i x0 x2 arg2 harg2 arg4 harg4 ⟨3, by decide⟩ ⟨10, by decide⟩ _ _ _ _ (k0_off13_eq i ⟨3, by decide⟩) rfl)
  (cCons (blk_of i x0 x2 arg2 harg2 arg4 harg4 ⟨3, by decide⟩ ⟨11, by decide⟩ _ _ _ _ (k0_off14_eq i ⟨3, by decide⟩) rfl)
  (cCons (blk_of i x0 x2 arg2 harg2 arg4 harg4 ⟨3, by decide⟩ ⟨12, by decide⟩ _ _ _ _ (k0_off15_eq i ⟨3, by decide⟩) rfl)
  (cCons (blk_of i x0 x2 arg2 harg2 arg4 harg4 ⟨3, by decide⟩ ⟨13, by decide⟩ _ _ _ _ (k0_off16_eq i ⟨3, by decide⟩) rfl)
  (cCons (blk_of i x0 x2 arg2 harg2 arg4 harg4 ⟨3, by decide⟩ ⟨14, by decide⟩ _ _ _ _ (k0_off17_eq i ⟨3, by decide⟩) rfl)
  (cCons (blk_of i x0 x2 arg2 harg2 arg4 harg4 ⟨3, by decide⟩ ⟨15, by decide⟩ _ _ _ _ (k0_off18_eq i ⟨3, by decide⟩) rfl)
  (cCons (blk_of i x0 x2 arg2 harg2 arg4 harg4 ⟨3, by decide⟩ ⟨16, by decide⟩ _ _ _ _ (k0_off19_eq i ⟨3, by decide⟩) rfl)
  (cCons (blk_of i x0 x2 arg2 harg2 arg4 harg4 ⟨3, by decide⟩ ⟨17, by decide⟩ _ _ _ _ (k0_off20_eq i ⟨3, by decide⟩) rfl)
  (cCons (blk_of i x0 x2 arg2 harg2 arg4 harg4 ⟨3, by decide⟩ ⟨18, by decide⟩ _ _ _ _ (k0_off21_eq i ⟨3, by decide⟩) rfl)
  (cCons (blk_of i x0 x2 arg2 harg2 arg4 harg4 ⟨3, by decide⟩ ⟨19, by decide⟩ _ _ _ _ (k0_off22_eq i ⟨3, by decide⟩) rfl)
  (cCons (blk_of i x0 x2 arg2 harg2 arg4 harg4 ⟨3, by decide⟩ ⟨20, by decide⟩ _ _ _ _ (k0_off23_eq i ⟨3, by decide⟩) rfl)
  (cCons (blk_of i x0 x2 arg2 harg2 arg4 harg4 ⟨3, by decide⟩ ⟨21, by decide⟩ _ _ _ _ (k0_off24_eq i ⟨3, by decide⟩) rfl)
  (cCons (blk_of i x0 x2 arg2 harg2 arg4 harg4 ⟨3, by decide⟩ ⟨22, by decide⟩ _ _ _ _ (k0_off25_eq i ⟨3, by decide⟩) rfl)
  (cCons (blk_of i x0 x2 arg2 harg2 arg4 harg4 ⟨3, by decide⟩ ⟨23, by decide⟩ _ _ _ _ (k0_off26_eq i ⟨3, by decide⟩) rfl)
  (cCons (blk_of i x0 x2 arg2 harg2 arg4 harg4 ⟨3, by decide⟩ ⟨24, by decide⟩ _ _ _ _ (k0_off27_eq i ⟨3, by decide⟩) rfl)
  (cCons (blk_of i x0 x2 arg2 harg2 arg4 harg4 ⟨3, by decide⟩ ⟨25, by decide⟩ _ _ _ _ (k0_off28_eq i ⟨3, by decide⟩) rfl)
  (cCons (blk_of i x0 x2 arg2 harg2 arg4 harg4 ⟨3, by decide⟩ ⟨26, by decide⟩ _ _ _ _ (k0_off29_eq i ⟨3, by decide⟩) rfl)
  (cCons (blk_of i x0 x2 arg2 harg2 arg4 harg4 ⟨3, by decide⟩ ⟨27, by decide⟩ _ _ _ _ (k0_off30_eq i ⟨3, by decide⟩) rfl)
  (cCons (blk_of i x0 x2 arg2 harg2 arg4 harg4 ⟨3, by decide⟩ ⟨28, by decide⟩ _ _ _ _ (k0_off31_eq i ⟨3, by decide⟩) rfl)
  (cCons (blk_of i x0 x2 arg2 harg2 arg4 harg4 ⟨3, by decide⟩ ⟨29, by decide⟩ _ _ _ _ (k0_off32_eq i ⟨3, by decide⟩) rfl)
  (cCons (blk_of i x0 x2 arg2 harg2 arg4 harg4 ⟨3, by decide⟩ ⟨30, by decide⟩ _ _ _ _ (k0_off33_eq i ⟨3, by decide⟩) rfl)
  (cCons (blk_of i x0 x2 arg2 harg2 arg4 harg4 ⟨3, by decide⟩ ⟨31, by decide⟩ _ _ _ _ (k0_off34_eq i ⟨3, by decide⟩) rfl)
  (cCons (blk_of i x0 x2 arg2 harg2 arg4 harg4 ⟨3, by decide⟩ ⟨32, by decide⟩ _ _ _ _ (k0_off35_eq i ⟨3, by decide⟩) rfl)
  (cCons (blk_of i x0 x2 arg2 harg2 arg4 harg4 ⟨3, by decide⟩ ⟨33, by decide⟩ _ _ _ _ (k0_off36_eq i ⟨3, by decide⟩) rfl)
  (cCons (blk_of i x0 x2 arg2 harg2 arg4 harg4 ⟨3, by decide⟩ ⟨34, by decide⟩ _ _ _ _ (k0_off37_eq i ⟨3, by decide⟩) rfl)
  (cCons (blk_of i x0 x2 arg2 harg2 arg4 harg4 ⟨3, by decide⟩ ⟨35, by decide⟩ _ _ _ _ (k0_off38_eq i ⟨3, by decide⟩) rfl)
  (cCons (blk_of i x0 x2 arg2 harg2 arg4 harg4 ⟨3, by decide⟩ ⟨36, by decide⟩ _ _ _ _ (k0_off39_eq i ⟨3, by decide⟩) rfl)
  (cCons (blk_of i x0 x2 arg2 harg2 arg4 harg4 ⟨3, by decide⟩ ⟨37, by decide⟩ _ _ _ _ (k0_off40_eq i ⟨3, by decide⟩) rfl)
  (cCons (blk_of i x0 x2 arg2 harg2 arg4 harg4 ⟨3, by decide⟩ ⟨38, by decide⟩ _ _ _ _ (k0_off41_eq i ⟨3, by decide⟩) rfl)
  (cCons (blk_of i x0 x2 arg2 harg2 arg4 harg4 ⟨3, by decide⟩ ⟨39, by decide⟩ _ _ _ _ (k0_off42_eq i ⟨3, by decide⟩) rfl)
  (cCons (blk_of i x0 x2 arg2 harg2 arg4 harg4 ⟨3, by decide⟩ ⟨40, by decide⟩ _ _ _ _ (k0_off43_eq i ⟨3, by decide⟩) rfl)
  (cCons (blk_of i x0 x2 arg2 harg2 arg4 harg4 ⟨3, by decide⟩ ⟨41, by decide⟩ _ _ _ _ (k0_off44_eq i ⟨3, by decide⟩) rfl)
  (cCons (blk_of i x0 x2 arg2 harg2 arg4 harg4 ⟨3, by decide⟩ ⟨42, by decide⟩ _ _ _ _ (k0_off45_eq i ⟨3, by decide⟩) rfl)
  (cCons (blk_of i x0 x2 arg2 harg2 arg4 harg4 ⟨3, by decide⟩ ⟨43, by decide⟩ _ _ _ _ (k0_off46_eq i ⟨3, by decide⟩) rfl)
  (cCons (blk_of i x0 x2 arg2 harg2 arg4 harg4 ⟨3, by decide⟩ ⟨44, by decide⟩ _ _ _ _ (k0_off47_eq i ⟨3, by decide⟩) rfl)
  (cCons (blk_of i x0 x2 arg2 harg2 arg4 harg4 ⟨3, by decide⟩ ⟨45, by decide⟩ _ _ _ _ (k0_off48_eq i ⟨3, by decide⟩) rfl)
  (cCons (blk_of i x0 x2 arg2 harg2 arg4 harg4 ⟨3, by decide⟩ ⟨46, by decide⟩ _ _ _ _ (k0_off49_eq i ⟨3, by decide⟩) rfl)
  (cCons (blk_of i x0 x2 arg2 harg2 arg4 harg4 ⟨3, by decide⟩ ⟨47, by decide⟩ _ _ _ _ (k0_off50_eq i ⟨3, by decide⟩) rfl)
  (cCons (blk_of i x0 x2 arg2 harg2 arg4 harg4 ⟨3, by decide⟩ ⟨48, by decide⟩ _ _ _ _ (k0_off51_eq i ⟨3, by decide⟩) rfl)
  (cCons (blk_of i x0 x2 arg2 harg2 arg4 harg4 ⟨3, by decide⟩ ⟨49, by decide⟩ _ _ _ _ (k0_off52_eq i ⟨3, by decide⟩) rfl)
  (cCons (blk_of i x0 x2 arg2 harg2 arg4 harg4 ⟨3, by decide⟩ ⟨50, by decide⟩ _ _ _ _ (k0_off53_eq i ⟨3, by decide⟩) rfl)
  (cCons (blk_of i x0 x2 arg2 harg2 arg4 harg4 ⟨3, by decide⟩ ⟨51, by decide⟩ _ _ _ _ (k0_off54_eq i ⟨3, by decide⟩) rfl)
  (cCons (blk_of i x0 x2 arg2 harg2 arg4 harg4 ⟨3, by decide⟩ ⟨52, by decide⟩ _ _ _ _ (k0_off55_eq i ⟨3, by decide⟩) rfl)
  (cCons (blk_of i x0 x2 arg2 harg2 arg4 harg4 ⟨3, by decide⟩ ⟨53, by decide⟩ _ _ _ _ (k0_off56_eq i ⟨3, by decide⟩) rfl)
  (cCons (blk_of i x0 x2 arg2 harg2 arg4 harg4 ⟨3, by decide⟩ ⟨54, by decide⟩ _ _ _ _ (k0_off57_eq i ⟨3, by decide⟩) rfl)
  (cCons (blk_of i x0 x2 arg2 harg2 arg4 harg4 ⟨3, by decide⟩ ⟨55, by decide⟩ _ _ _ _ (k0_off58_eq i ⟨3, by decide⟩) rfl)
  (cCons (blk_of i x0 x2 arg2 harg2 arg4 harg4 ⟨3, by decide⟩ ⟨56, by decide⟩ _ _ _ _ (k0_off59_eq i ⟨3, by decide⟩) rfl)
  (cCons (blk_of i x0 x2 arg2 harg2 arg4 harg4 ⟨3, by decide⟩ ⟨57, by decide⟩ _ _ _ _ (k0_off60_eq i ⟨3, by decide⟩) rfl)
  (cCons (blk_of i x0 x2 arg2 harg2 arg4 harg4 ⟨3, by decide⟩ ⟨58, by decide⟩ _ _ _ _ (k0_off61_eq i ⟨3, by decide⟩) rfl)
  (cCons (blk_of i x0 x2 arg2 harg2 arg4 harg4 ⟨3, by decide⟩ ⟨59, by decide⟩ _ _ _ _ (k0_off62_eq i ⟨3, by decide⟩) rfl)
  (cCons (blk_of i x0 x2 arg2 harg2 arg4 harg4 ⟨3, by decide⟩ ⟨60, by decide⟩ _ _ _ _ (k0_off63_eq i ⟨3, by decide⟩) rfl)
  (cCons (blk_of i x0 x2 arg2 harg2 arg4 harg4 ⟨3, by decide⟩ ⟨61, by decide⟩ _ _ _ _ (k0_off64_eq i ⟨3, by decide⟩) rfl)
  (cCons (blk_of i x0 x2 arg2 harg2 arg4 harg4 ⟨3, by decide⟩ ⟨62, by decide⟩ _ _ _ _ (k0_off65_eq i ⟨3, by decide⟩) rfl)
  (cCons (blk_of i x0 x2 arg2 harg2 arg4 harg4 ⟨3, by decide⟩ ⟨63, by decide⟩ _ _ _ _ (k0_off66_eq i ⟨3, by decide⟩) rfl)
  (cCons (blk_of i x0 x2 arg2 harg2 arg4 harg4 ⟨3, by decide⟩ ⟨64, by decide⟩ _ _ _ _ (k0_off67_eq i ⟨3, by decide⟩) rfl)
  (cCons (blk_of i x0 x2 arg2 harg2 arg4 harg4 ⟨3, by decide⟩ ⟨65, by decide⟩ _ _ _ _ (k0_off68_eq i ⟨3, by decide⟩) rfl)
  (cCons (blk_of i x0 x2 arg2 harg2 arg4 harg4 ⟨3, by decide⟩ ⟨66, by decide⟩ _ _ _ _ (k0_off69_eq i ⟨3, by decide⟩) rfl)
  (cCons (blk_of i x0 x2 arg2 harg2 arg4 harg4 ⟨3, by decide⟩ ⟨67, by decide⟩ _ _ _ _ (k0_off70_eq i ⟨3, by decide⟩) rfl)
  (cCons (blk_of i x0 x2 arg2 harg2 arg4 harg4 ⟨3, by decide⟩ ⟨68, by decide⟩ _ _ _ _ (k0_off71_eq i ⟨3, by decide⟩) rfl)
  (cCons (blk_of i x0 x2 arg2 harg2 arg4 harg4 ⟨3, by decide⟩ ⟨69, by decide⟩ _ _ _ _ (k0_off72_eq i ⟨3, by decide⟩) rfl)
  (cCons (blk_of i x0 x2 arg2 harg2 arg4 harg4 ⟨3, by decide⟩ ⟨70, by decide⟩ _ _ _ _ (k0_off73_eq i ⟨3, by decide⟩) rfl)
  (cCons (blk_of i x0 x2 arg2 harg2 arg4 harg4 ⟨3, by decide⟩ ⟨71, by decide⟩ _ _ _ _ (k0_off74_eq i ⟨3, by decide⟩) rfl)
  (cCons (blk_of i x0 x2 arg2 harg2 arg4 harg4 ⟨3, by decide⟩ ⟨72, by decide⟩ _ _ _ _ (k0_off75_eq i ⟨3, by decide⟩) rfl)
  (cCons (blk_of i x0 x2 arg2 harg2 arg4 harg4 ⟨3, by decide⟩ ⟨73, by decide⟩ _ _ _ _ (k0_off76_eq i ⟨3, by decide⟩) rfl)
  (cCons (blk_of i x0 x2 arg2 harg2 arg4 harg4 ⟨3, by decide⟩ ⟨74, by decide⟩ _ _ _ _ (k0_off77_eq i ⟨3, by decide⟩) rfl)
  (cCons (blk_of i x0 x2 arg2 harg2 arg4 harg4 ⟨3, by decide⟩ ⟨75, by decide⟩ _ _ _ _ (k0_off78_eq i ⟨3, by decide⟩) rfl)
  (cCons (blk_of i x0 x2 arg2 harg2 arg4 harg4 ⟨3, by decide⟩ ⟨76, by decide⟩ _ _ _ _ (k0_off79_eq i ⟨3, by decide⟩) rfl)
  (cCons (blk_of i x0 x2 arg2 harg2 arg4 harg4 ⟨3, by decide⟩ ⟨77, by decide⟩ _ _ _ _ (k0_off80_eq i ⟨3, by decide⟩) rfl)
  (cCons (blk_of i x0 x2 arg2 harg2 arg4 harg4 ⟨3, by decide⟩ ⟨78, by decide⟩ _ _ _ _ (k0_off81_eq i ⟨3, by decide⟩) rfl)
  (cCons (blk_of i x0 x2 arg2 harg2 arg4 harg4 ⟨3, by decide⟩ ⟨79, by decide⟩ _ _ _ _ (k0_off82_eq i ⟨3, by decide⟩) rfl)
  cNil))))))))))))))))))))))))))))))))))))))))))))))))))))))))))))))))))))))))))))))))

end Cert.KernelIdeal.Dgrad

end
-- ==== Proof.Ideal.Rows.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import proofs.«01_k».proof.Proof.Ideal.RunA
public import proofs.«01_k».proof.Proof.Ideal.Weights
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem trips1 : k0_t1_loop.trips = 8 := by decide
theorem trips2 : k0_t2_loop.trips = 80 := by decide

/-! One trip of the outer loop leaves in each buffer what its 80 tiles and its one strip of scales wrote. -/

theorem tripO_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x10240.Idx) :
    arg6.view.read (Elt F) (arg6.view.writes (Elt F) f (tripO Variants.none c none i arg2 harg2 arg3 harg3 arg4 harg4 arg5 harg5 arg6 harg6 arg7 harg7 arg8 harg8 hc0 (harg3.unread x1) k1).1) y
      = if (y 0).val / 64 = k1.val then codes x1 y else arg6.view.read (Elt F) f y := by
  unfold tripO
  refine (st_codes _ _ _ i arg2 harg2 arg3 harg3 arg4 harg4 arg5 harg5 arg6 harg6 arg7 harg7 arg8 harg8 hc0 k1 _ x1 _ f y 80 (by rw [trips2])).trans ?_
  have h1 := lt1 y
  by_cases h : (y 0).val / 64 = k1.val
  · rw [if_pos ⟨h, by omega⟩, if_pos h]
  · rw [if_neg (fun h' => h h'.1), if_neg h]

theorem tripO_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x10240.Idx) :
    arg8.view.read (Elt F) (arg8.view.writes (Elt F) f (tripO Variants.none c none i arg2 harg2 arg3 harg3 arg4 harg4 arg5 harg5 arg6 harg6 arg7 harg7 arg8 harg8 hc0 (harg3.unread x1) k1).2.2.1) y
      = if (y 0).val / 64 = k1.val then wide x1 y else arg8.view.read (Elt F) f y := by
  unfold tripO
  refine (st_wide _ _ _ i arg2 harg2 arg3 harg3 arg4 harg4 arg5 harg5 arg6 harg6 arg7 harg7 arg8 harg8 hc0 k1 _ x1 _ f y 80 (by rw [trips2])).trans ?_
  have h1 := lt1 y
  by_cases h : (y 0).val / 64 = k1.val
  · rw [if_pos ⟨h, by omega⟩, if_pos h]
  · rw [if_neg (fun h' => h h'.1), if_neg h]

theorem tripO_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (k1 : Fin k0_t1_loop.trips) (f) (y : S512x80.Idx) :
    arg7.view.read (Elt F) (arg7.view.writes (Elt F) f (tripO Variants.none c none i arg2 harg2 arg3 harg3 arg4 harg4 arg5 harg5 arg6 harg6 arg7 harg7 arg8 harg8 hc0 (harg3.unread x1) k1).2.1) y
      = if (y 0).val / 64 = k1.val then scales x1 y else arg7.view.read (Elt F) f y := by
  have h0 := lt0 y
  have h1 := lt1 y
  unfold tripO
  by_cases h : (y 0).val / 64 = k1.val
  · rw [if_pos h]
    refine (View.read_writes_cons_unit_of_mem arg7.view f _ _ [] y (ix2 ⟨(y 0).val % 64, Nat.mod_lt _ (by omega)⟩ ⟨(y 1).val, h1⟩) (k0_off2_eq k1) ?_).trans ?_
    · intro a
      fin_cases a
      · show (y 0).val = 64 * k1.val + (y 0).val % 64
        omega
      · show (y 1).val = 0 + (y 1).val
        omega
    · refine (extractStridedSlice_apply (t := S64x80) ![0, 0] _ slices_S64x128_o0_0_S64x80 _ (ix2 ⟨(y 0).val % 64, Nat.mod_lt _ (by omega)⟩ ⟨(y 1).val, by omega⟩) ?_).trans ?_
      · intro a
        fin_cases a
        · show (y 0).val % 64 = 0 + (y 0).val % 64
          omega
        · show (y 1).val = 0 + (y 1).val
          omega
      · refine (st_scale _ _ _ i arg2 harg2 arg3 harg3 arg4 harg4 arg5 harg5 arg6 harg6 arg7 harg7 arg8 harg8 hc0 k1 _ x1 _ _ 80 (by rw [trips2])).trans ?_
        rw [dif_pos ⟨h1, h1⟩]
        unfold scales
        have e : (⟨k1.val, lt_t1 k1⟩ : Fin 8) = ⟨(y 0).val / 64, by omega⟩ := Fin.ext h.symm
        rw [e]

  · rw [if_neg h]
    refine View.read_writes_cons_unit_of_not_mem arg7.view f _ _ [] y (k0_off2_eq k1) 0 ?_
    show (y 0).val < 64 * k1.val ∨ 64 * k1.val + 64 ≤ (y 0).val
    omega

/-! After `k` trips the first `64 k` rows are written. -/

theorem pieces_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x10240.Idx) : ∀ k : ℕ, k ≤ k0_t1_loop.trips →
    arg6.view.read (Elt F) (arg6.view.writes (Elt F) f (piecesO Variants.none c none i arg2 harg2 arg3 harg3 arg4 harg4 arg5 harg5 arg6 harg6 arg7 harg7 arg8 harg8 hc0 (harg3.unread x1) k).1) y
      = if (y 0).val / 64 < k then codes x1 y else arg6.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_codes, pieces_codes c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_codes (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg6.view.read (Elt F) (arg6.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).1) = codes x1 := by
  funext y
  refine (pieces_codes c i arg2 harg2 arg3 harg3 arg4 harg4 arg5 harg5 arg6 harg6 arg7 harg7 arg8 harg8 hc0 x1 f y 8 (by rw [trips1])).trans (if_pos ?_)
  have := lt0 y
  omega

theorem pieces_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x10240.Idx) : ∀ k : ℕ, k ≤ k0_t1_loop.trips →
    arg8.view.read (Elt F) (arg8.view.writes (Elt F) f (piecesO Variants.none c none i arg2 harg2 arg3 harg3 arg4 harg4 arg5 harg5 arg6 harg6 arg7 harg7 arg8 harg8 hc0 (harg3.unread x1) k).2.2) y
      = if (y 0).val / 64 < k then wide x1 y else arg8.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_wide, pieces_wide c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_wide (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg8.view.read (Elt F) (arg8.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).2.2) = wide x1 := by
  funext y
  refine (pieces_wide c i arg2 harg2 arg3 harg3 arg4 harg4 arg5 harg5 arg6 harg6 arg7 harg7 arg8 harg8 hc0 x1 f y 8 (by rw [trips1])).trans (if_pos ?_)
  have := lt0 y
  omega

theorem pieces_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) (y : S512x80.Idx) : ∀ k : ℕ, k ≤ k0_t1_loop.trips →
    arg7.view.read (Elt F) (arg7.view.writes (Elt F) f (piecesO Variants.none c none i arg2 harg2 arg3 harg3 arg4 harg4 arg5 harg5 arg6 harg6 arg7 harg7 arg8 harg8 hc0 (harg3.unread x1) k).2.1) y
      = if (y 0).val / 64 < k then scales x1 y else arg7.view.read (Elt F) f y
  | 0, _ => by rw [if_neg (by omega)]; rfl
  | k + 1, hk => by
    have hk' : k < k0_t1_loop.trips := hk
    rw [show k + 1 = (⟨k, hk'⟩ : Fin k0_t1_loop.trips).val + 1 from rfl, piecesO_succ]
    dsimp only
    rw [View.writes_append, tripO_scales, pieces_scales c i arg2 harg2 arg3 harg3 arg4 harg4 arg5 harg5 arg6 harg6 arg7 harg7 arg8 harg8 hc0 x1 f y k (by omega)]
    by_cases h1 : (y 0).val / 64 = k
    · rw [if_pos h1, if_pos (by omega)]
    · rw [if_neg h1]
      by_cases h2 : (y 0).val / 64 < k
      · rw [if_pos h2, if_pos (by omega)]
      · rw [if_neg h2, if_neg (by omega)]

/-- After all of them, every row. -/
theorem all_scales (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x1 : Vec F S512x10240 .bf16) (f) :
    arg7.view.read (Elt F) (arg7.view.writes (Elt F) f (piecesO Variants.none c none i arg2 harg2 arg3 harg3 arg4 harg4 arg5 harg5 arg6 harg6 arg7 harg7 arg8 harg8 hc0 (harg3.unread x1) (Scf.trips 0#32 (Scalar.addi 0#32 8#32) 1#32)).2.1) = scales x1 := by
  funext y
  refine (pieces_scales c i arg2 harg2 arg3 harg3 arg4 harg4 arg5 harg5 arg6 harg6 arg7 harg7 arg8 harg8 hc0 x1 f y 8 (by rw [trips1])).trans (if_pos ?_)
  have := lt0 y
  omega

set_option maxHeartbeats 4000000 in
/-- The tile the kernel stores at the first point of a row. -/
theorem dx_runA (c : Dev nD) (i : grid0.Coords) (arg2 : Memref sig .tc .smem S56x80 .f32) (harg2 : arg2.IsWhole) (arg3 : Memref sig .tc .vmem S512x10240 .bf16) (harg3 : arg3.IsWhole) (arg4 : Memref sig .tc .vmem S512x10240 .fp8e4m3) (harg4 : arg4.IsWhole) (arg5 : Memref sig .tc .vmem S512x512 .bf16) (harg5 : arg5.IsWhole) (arg6 : Memref sig .tc .vmem S512x10240 .fp8e4m3) (harg6 : arg6.IsWhole) (arg7 : Memref sig .tc .vmem S512x80 .f32) (harg7 : arg7.IsWhole) (arg8 : Memref sig .tc .vmem S512x10240 .bf16) (harg8 : arg8.IsWhole) (hc0 : k0_cond1 i = 1#1) (x0 : Vec F S56x80 .f32) (x1 : Vec F S512x10240 .bf16) (x2 : Vec F S512x10240 .fp8e4m3) (xs : Vec F S512x10240 .bf16) :
    runA.sl.r_677 c i arg2 harg2 arg3 harg3 arg4 harg4 arg5 harg5 arg6 harg6 arg7 harg7 arg8 harg8 hc0 x0 x1 x2 xs = dxT i x0 x2 (wide x1) := by
  have e8 : runA.sl.v2888 c i arg2 harg2 arg3 harg3 arg4 harg4 arg5 harg5 arg6 harg6 arg7 harg7 arg8 harg8 hc0 x1 xs = wide x1 := by
    funext y
    unfold runA.sl.v2888
    rw [View.readAt_apply]
    refine (congrFun (all_wide c i arg2 harg2 arg3 harg3 arg4 harg4 arg5 harg5 arg6 harg6 arg7 harg7 arg8 harg8 hc0 x1 (harg8.unread xs)) _).trans ?_
    congr 1
    refine idx_ext ?_ ?_
    · show 0 + 1 * (y 0).val = (y 0).val
      omega
    · show 0 + 1 * (y 1).val = (y 1).val
      omega
  refine congrArg (fun v => truncf .bf16 v bitsLt_bf16_f32) (congrArg₂ (fun a b => matmul (F := F) dot_S512x10240_S512x10240_S512x512_1_1_0_0_n_n none a b (constant S512x512 .f32 0x00000000#32)) e8 ?_)
  refine block_of_rows i x0 x2 _ _ _ _ _ (row0 c i arg2 harg2 arg4 harg4 x0 x2) (row1 c i arg2 harg2 arg4 harg4 x0 x2) (row2 c i arg2 harg2 arg4 harg4 x0 x2) ?_
  exact row_of_list i x0 x2 3 _ (by exact cat80) <| (Eq.trans · (ofFn80 _).symm) <|
  (cCons (blk_of i x0 x2 arg2 harg2 arg4 harg4 ⟨3, by decide⟩ ⟨0, by decide⟩ _ _ _ _ (k0_off3_eq i ⟨3, by decide⟩) rfl)
  (cCons (blk_of i x0 x2 arg2 harg2 arg4 harg4 ⟨3, by decide⟩ ⟨1, by decide⟩ _ _ _ _ (k0_off4_eq i ⟨3, by decide⟩) rfl)
  (cCons (blk_of i x0 x2 arg2 harg2 arg4 harg4 ⟨3, by decide⟩ ⟨2, by decide⟩ _ _ _ _ (k0_off5_eq i ⟨3, by decide⟩) rfl)
  (cCons (blk_of i x0 x2 arg2 harg2 arg4 harg4 ⟨3, by decide⟩ ⟨3, by decide⟩ _ _ _ _ (k0_off6_eq i ⟨3, by decide⟩) rfl)
  (cCons (blk_of i x0 x2 arg2 harg2 arg4 harg4 ⟨3, by decide⟩ ⟨4, by decide⟩ _ _ _ _ (k0_off7_eq i ⟨3, by decide⟩) rfl)
  (cCons (blk_of i x0 x2 arg2 harg2 arg4 harg4 ⟨3, by decide⟩ ⟨5, by decide⟩ _ _ _ _ (k0_off8_eq i ⟨3, by decide⟩) rfl)
  (cCons (blk_of i x0 x2 arg2 harg2 arg4 harg4 ⟨3, by decide⟩ ⟨6, by decide⟩ _ _ _ _ (k0_off9_eq i ⟨3, by decide⟩) rfl)
  (cCons (blk_of i x0 x2 arg2 harg2 arg4 harg4 ⟨3, by decide⟩ ⟨7, by decide⟩ _ _ _ _ (k0_off10_eq i ⟨3, by decide⟩) rfl)
  (cCons (blk_of i x0 x2 arg2 harg2 arg4 harg4 ⟨3, by decide⟩ ⟨8, by decide⟩ _ _ _ _ (k0_off11_eq i ⟨3, by decide⟩) rfl)
  (cCons (blk_of i x0 x2 arg2 harg2 arg4 harg4 ⟨3, by decide⟩ ⟨9, by decide⟩ _ _ _ _ (k0_off12_eq i ⟨3, by decide⟩) rfl)
  (cCons (blk_of i x0 x2 arg2 harg2 arg4 harg4 ⟨3, by decide⟩ ⟨10, by decide⟩ _ _ _ _ (k0_off13_eq i ⟨3, by decide⟩) rfl)
  (cCons (blk_of i x0 x2 arg2 harg2 arg4 harg4 ⟨3, by decide⟩ ⟨11, by decide⟩ _ _ _ _ (k0_off14_eq i ⟨3, by decide⟩) rfl)
  (cCons (blk_of i x0 x2 arg2 harg2 arg4 harg4 ⟨3, by decide⟩ ⟨12, by decide⟩ _ _ _ _ (k0_off15_eq i ⟨3, by decide⟩) rfl)
  (cCons (blk_of i x0 x2 arg2 harg2 arg4 harg4 ⟨3, by decide⟩ ⟨13, by decide⟩ _ _ _ _ (k0_off16_eq i ⟨3, by decide⟩) rfl)
  (cCons (blk_of i x0 x2 arg2 harg2 arg4 harg4 ⟨3, by decide⟩ ⟨14, by decide⟩ _ _ _ _ (k0_off17_eq i ⟨3, by decide⟩) rfl)
  (cCons (blk_of i x0 x2 arg2 harg2 arg4 harg4 ⟨3, by decide⟩ ⟨15, by decide⟩ _ _ _ _ (k0_off18_eq i ⟨3, by decide⟩) rfl)
  (cCons (blk_of i x0 x2 arg2 harg2 arg4 harg4 ⟨3, by decide⟩ ⟨16, by decide⟩ _ _ _ _ (k0_off19_eq i ⟨3, by decide⟩) rfl)
  (cCons (blk_of i x0 x2 arg2 harg2 arg4 harg4 ⟨3, by decide⟩ ⟨17, by decide⟩ _ _ _ _ (k0_off20_eq i ⟨3, by decide⟩) rfl)
  (cCons (blk_of i x0 x2 arg2 harg2 arg4 harg4 ⟨3, by decide⟩ ⟨18, by decide⟩ _ _ _ _ (k0_off21_eq i ⟨3, by decide⟩) rfl)
  (cCons (blk_of i x0 x2 arg2 harg2 arg4 harg4 ⟨3, by decide⟩ ⟨19, by decide⟩ _ _ _ _ (k0_off22_eq i ⟨3, by decide⟩) rfl)
  (cCons (blk_of i x0 x2 arg2 harg2 arg4 harg4 ⟨3, by decide⟩ ⟨20, by decide⟩ _ _ _ _ (k0_off23_eq i ⟨3, by decide⟩) rfl)
  (cCons (blk_of i x0 x2 arg2 harg2 arg4 harg4 ⟨3, by decide⟩ ⟨21, by decide⟩ _ _ _ _ (k0_off24_eq i ⟨3, by decide⟩) rfl)
  (cCons (blk_of i x0 x2 arg2 harg2 arg4 harg4 ⟨3, by decide⟩ ⟨22, by decide⟩ _ _ _ _ (k0_off25_eq i ⟨3, by decide⟩) rfl)
  (cCons (blk_of i x0 x2 arg2 harg2 arg4 harg4 ⟨3, by decide⟩ ⟨23, by decide⟩ _ _ _ _ (k0_off26_eq i ⟨3, by decide⟩) rfl)
  (cCons (blk_of i x0 x2 arg2 harg2 arg4 harg4 ⟨3, by decide⟩ ⟨24, by decide⟩ _ _ _ _ (k0_off27_eq i ⟨3, by decide⟩) rfl)
  (cCons (blk_of i x0 x2 arg2 harg2 arg4 harg4 ⟨3, by decide⟩ ⟨25, by decide⟩ _ _ _ _ (k0_off28_eq i ⟨3, by decide⟩) rfl)
  (cCons (blk_of i x0 x2 arg2 harg2 arg4 harg4 ⟨3, by decide⟩ ⟨26, by decide⟩ _ _ _ _ (k0_off29_eq i ⟨3, by decide⟩) rfl)
  (cCons (blk_of i x0 x2 arg2 harg2 arg4 harg4 ⟨3, by decide⟩ ⟨27, by decide⟩ _ _ _ _ (k0_off30_eq i ⟨3, by decide⟩) rfl)
  (cCons (blk_of i x0 x2 arg2 harg2 arg4 harg4 ⟨3, by decide⟩ ⟨28, by decide⟩ _ _ _ _ (k0_off31_eq i ⟨3, by decide⟩) rfl)
  (cCons (blk_of i x0 x2 arg2 harg2 arg4 harg4 ⟨3, by decide⟩ ⟨29, by decide⟩ _ _ _ _ (k0_off32_eq i ⟨3, by decide⟩) rfl)
  (cCons (blk_of i x0 x2 arg2 harg2 arg4 harg4 ⟨3, by decide⟩ ⟨30, by decide⟩ _ _ _ _ (k0_off33_eq i ⟨3, by decide⟩) rfl)
  (cCons (blk_of i x0 x2 arg2 harg2 arg4 harg4 ⟨3, by decide⟩ ⟨31, by decide⟩ _ _ _ _ (k0_off34_eq i ⟨3, by decide⟩) rfl)
  (cCons (blk_of i x0 x2 arg2 harg2 arg4 harg4 ⟨3, by decide⟩ ⟨32, by decide⟩ _ _ _ _ (k0_off35_eq i ⟨3, by decide⟩) rfl)
  (cCons (blk_of i x0 x2 arg2 harg2 arg4 harg4 ⟨3, by decide⟩ ⟨33, by decide⟩ _ _ _ _ (k0_off36_eq i ⟨3, by decide⟩) rfl)
  (cCons (blk_of i x0 x2 arg2 harg2 arg4 harg4 ⟨3, by decide⟩ ⟨34, by decide⟩ _ _ _ _ (k0_off37_eq i ⟨3, by decide⟩) rfl)
  (cCons (blk_of i x0 x2 arg2 harg2 arg4 harg4 ⟨3, by decide⟩ ⟨35, by decide⟩ _ _ _ _ (k0_off38_eq i ⟨3, by decide⟩) rfl)
  (cCons (blk_of i x0 x2 arg2 harg2 arg4 harg4 ⟨3, by decide⟩ ⟨36, by decide⟩ _ _ _ _ (k0_off39_eq i ⟨3, by decide⟩) rfl)
  (cCons (blk_of i x0 x2 arg2 harg2 arg4 harg4 ⟨3, by decide⟩ ⟨37, by decide⟩ _ _ _ _ (k0_off40_eq i ⟨3, by decide⟩) rfl)
  (cCons (blk_of i x0 x2 arg2 harg2 arg4 harg4 ⟨3, by decide⟩ ⟨38, by decide⟩ _ _ _ _ (k0_off41_eq i ⟨3, by decide⟩) rfl)
  (cCons (blk_of i x0 x2 arg2 harg2 arg4 harg4 ⟨3, by decide⟩ ⟨39, by decide⟩ _ _ _ _ (k0_off42_eq i ⟨3, by decide⟩) rfl)
  (cCons (blk_of i x0 x2 arg2 harg2 arg4 harg4 ⟨3, by decide⟩ ⟨40, by decide⟩ _ _ _ _ (k0_off43_eq i ⟨3, by decide⟩) rfl)
  (cCons (blk_of i x0 x2 arg2 harg2 arg4 harg4 ⟨3, by decide⟩ ⟨41, by decide⟩ _ _ _ _ (k0_off44_eq i ⟨3, by decide⟩) rfl)
  (cCons (blk_of i x0 x2 arg2 harg2 arg4 harg4 ⟨3, by decide⟩ ⟨42, by decide⟩ _ _ _ _ (k0_off45_eq i ⟨3, by decide⟩) rfl)
  (cCons (blk_of i x0 x2 arg2 harg2 arg4 harg4 ⟨3, by decide⟩ ⟨43, by decide⟩ _ _ _ _ (k0_off46_eq i ⟨3, by decide⟩) rfl)
  (cCons (blk_of i x0 x2 arg2 harg2 arg4 harg4 ⟨3, by decide⟩ ⟨44, by decide⟩ _ _ _ _ (k0_off47_eq i ⟨3, by decide⟩) rfl)
  (cCons (blk_of i x0 x2 arg2 harg2 arg4 harg4 ⟨3, by decide⟩ ⟨45, by decide⟩ _ _ _ _ (k0_off48_eq i ⟨3, by decide⟩) rfl)
  (cCons (blk_of i x0 x2 arg2 harg2 arg4 harg4 ⟨3, by decide⟩ ⟨46, by decide⟩ _ _ _ _ (k0_off49_eq i ⟨3, by decide⟩) rfl)
  (cCons (blk_of i x0 x2 arg2 harg2 arg4 harg4 ⟨3, by decide⟩ ⟨47, by decide⟩ _ _ _ _ (k0_off50_eq i ⟨3, by decide⟩) rfl)
  (cCons (blk_of i x0 x2 arg2 harg2 arg4 harg4 ⟨3, by decide⟩ ⟨48, by decide⟩ _ _ _ _ (k0_off51_eq i ⟨3, by decide⟩) rfl)
  (cCons (blk_of i x0 x2 arg2 harg2 arg4 harg4 ⟨3, by decide⟩ ⟨49, by decide⟩ _ _ _ _ (k0_off52_eq i ⟨3, by decide⟩) rfl)
  (cCons (blk_of i x0 x2 arg2 harg2 arg4 harg4 ⟨3, by decide⟩ ⟨50, by decide⟩ _ _ _ _ (k0_off53_eq i ⟨3, by decide⟩) rfl)
  (cCons (blk_of i x0 x2 arg2 harg2 arg4 harg4 ⟨3, by decide⟩ ⟨51, by decide⟩ _ _ _ _ (k0_off54_eq i ⟨3, by decide⟩) rfl)
  (cCons (blk_of i x0 x2 arg2 harg2 arg4 harg4 ⟨3, by decide⟩ ⟨52, by decide⟩ _ _ _ _ (k0_off55_eq i ⟨3, by decide⟩) rfl)
  (cCons (blk_of i x0 x2 arg2 harg2 arg4 harg4 ⟨3, by decide⟩ ⟨53, by decide⟩ _ _ _ _ (k0_off56_eq i ⟨3, by decide⟩) rfl)
  (cCons (blk_of i x0 x2 arg2 harg2 arg4 harg4 ⟨3, by decide⟩ ⟨54, by decide⟩ _ _ _ _ (k0_off57_eq i ⟨3, by decide⟩) rfl)
  (cCons (blk_of i x0 x2 arg2 harg2 arg4 harg4 ⟨3, by decide⟩ ⟨55, by decide⟩ _ _ _ _ (k0_off58_eq i ⟨3, by decide⟩) rfl)
  (cCons (blk_of i x0 x2 arg2 harg2 arg4 harg4 ⟨3, by decide⟩ ⟨56, by decide⟩ _ _ _ _ (k0_off59_eq i ⟨3, by decide⟩) rfl)
  (cCons (blk_of i x0 x2 arg2 harg2 arg4 harg4 ⟨3, by decide⟩ ⟨57, by decide⟩ _ _ _ _ (k0_off60_eq i ⟨3, by decide⟩) rfl)
  (cCons (blk_of i x0 x2 arg2 harg2 arg4 harg4 ⟨3, by decide⟩ ⟨58, by decide⟩ _ _ _ _ (k0_off61_eq i ⟨3, by decide⟩) rfl)
  (cCons (blk_of i x0 x2 arg2 harg2 arg4 harg4 ⟨3, by decide⟩ ⟨59, by decide⟩ _ _ _ _ (k0_off62_eq i ⟨3, by decide⟩) rfl)
  (cCons (blk_of i x0 x2 arg2 harg2 arg4 harg4 ⟨3, by decide⟩ ⟨60, by decide⟩ _ _ _ _ (k0_off63_eq i ⟨3, by decide⟩) rfl)
  (cCons (blk_of i x0 x2 arg2 harg2 arg4 harg4 ⟨3, by decide⟩ ⟨61, by decide⟩ _ _ _ _ (k0_off64_eq i ⟨3, by decide⟩) rfl)
  (cCons (blk_of i x0 x2 arg2 harg2 arg4 harg4 ⟨3, by decide⟩ ⟨62, by decide⟩ _ _ _ _ (k0_off65_eq i ⟨3, by decide⟩) rfl)
  (cCons (blk_of i x0 x2 arg2 harg2 arg4 harg4 ⟨3, by decide⟩ ⟨63, by decide⟩ _ _ _ _ (k0_off66_eq i ⟨3, by decide⟩) rfl)
  (cCons (blk_of i x0 x2 arg2 harg2 arg4 harg4 ⟨3, by decide⟩ ⟨64, by decide⟩ _ _ _ _ (k0_off67_eq i ⟨3, by decide⟩) rfl)
  (cCons (blk_of i x0 x2 arg2 harg2 arg4 harg4 ⟨3, by decide⟩ ⟨65, by decide⟩ _ _ _ _ (k0_off68_eq i ⟨3, by decide⟩) rfl)
  (cCons (blk_of i x0 x2 arg2 harg2 arg4 harg4 ⟨3, by decide⟩ ⟨66, by decide⟩ _ _ _ _ (k0_off69_eq i ⟨3, by decide⟩) rfl)
  (cCons (blk_of i x0 x2 arg2 harg2 arg4 harg4 ⟨3, by decide⟩ ⟨67, by decide⟩ _ _ _ _ (k0_off70_eq i ⟨3, by decide⟩) rfl)
  (cCons (blk_of i x0 x2 arg2 harg2 arg4 harg4 ⟨3, by decide⟩ ⟨68, by decide⟩ _ _ _ _ (k0_off71_eq i ⟨3, by decide⟩) rfl)
  (cCons (blk_of i x0 x2 arg2 harg2 arg4 harg4 ⟨3, by decide⟩ ⟨69, by decide⟩ _ _ _ _ (k0_off72_eq i ⟨3, by decide⟩) rfl)
  (cCons (blk_of i x0 x2 arg2 harg2 arg4 harg4 ⟨3, by decide⟩ ⟨70, by decide⟩ _ _ _ _ (k0_off73_eq i ⟨3, by decide⟩) rfl)
  (cCons (blk_of i x0 x2 arg2 harg2 arg4 harg4 ⟨3, by decide⟩ ⟨71, by decide⟩ _ _ _ _ (k0_off74_eq i ⟨3, by decide⟩) rfl)
  (cCons (blk_of i x0 x2 arg2 harg2 arg4 harg4 ⟨3, by decide⟩ ⟨72, by decide⟩ _ _ _ _ (k0_off75_eq i ⟨3, by decide⟩) rfl)
  (cCons (blk_of i x0 x2 arg2 harg2 arg4 harg4 ⟨3, by decide⟩ ⟨73, by decide⟩ _ _ _ _ (k0_off76_eq i ⟨3, by decide⟩) rfl)
  (cCons (blk_of i x0 x2 arg2 harg2 arg4 harg4 ⟨3, by decide⟩ ⟨74, by decide⟩ _ _ _ _ (k0_off77_eq i ⟨3, by decide⟩) rfl)
  (cCons (blk_of i x0 x2 arg2 harg2 arg4 harg4 ⟨3, by decide⟩ ⟨75, by decide⟩ _ _ _ _ (k0_off78_eq i ⟨3, by decide⟩) rfl)
  (cCons (blk_of i x0 x2 arg2 harg2 arg4 harg4 ⟨3, by decide⟩ ⟨76, by decide⟩ _ _ _ _ (k0_off79_eq i ⟨3, by decide⟩) rfl)
  (cCons (blk_of i x0 x2 arg2 harg2 arg4 harg4 ⟨3, by decide⟩ ⟨77, by decide⟩ _ _ _ _ (k0_off80_eq i ⟨3, by decide⟩) rfl)
  (cCons (blk_of i x0 x2 arg2 harg2 arg4 harg4 ⟨3, by decide⟩ ⟨78, by decide⟩ _ _ _ _ (k0_off81_eq i ⟨3, by decide⟩) rfl)
  (cCons (blk_of i x0 x2 arg2 harg2 arg4 harg4 ⟨3, by decide⟩ ⟨79, by decide⟩ _ _ _ _ (k0_off82_eq i ⟨3, by decide⟩) rfl)
  cNil))))))))))))))))))))))))))))))))))))))))))))))))))))))))))))))))))))))))))))))))

end Cert.KernelIdeal.Dgrad

end
-- ==== Proof.Ideal.Data.lean ====
module

public import proofs.«01_k».proof.Proof.Gen.KernelIdeal.Launch
public import proofs.«01_k».proof.Proof.Gen.KernelIdeal.Loops
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import proofs.«01_k».proof.Proof.Ideal.Rows
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Dgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open Idealize.ShloMosaic.Pipeline (Dat Cfg Window BodyObligation cellOf)

variable (m : (ℓ : Loc nD τ sig) → Buf (Elt F) ℓ) (ρ : Dev nD → PrngReg)

/-! ## The grid, point by point -/

theorem N672 (t : Fin cfg0.N) : t.val < 672 := Nat.lt_of_lt_of_eq t.isLt N_0

/-- The quantising branch is taken at the first point of each row. -/
theorem hcond : ∀ t : Fin cfg0.N, k0_cond1 (grid0.coords t) = 1#1 ↔ t.val % 14 = 0 :=
  (fun t => by
    have ht : t.val < 672 := Nat.lt_of_lt_of_eq t.isLt N_0
    have e1 : (grid0.coords t 1).val = t.val / 1 % 14 := Pipeline.Grid.coords_val t 1 (by decide) rfl
    simp only [k0_cond1, e1]
    word_cmp
   : ∀ t : Fin grid0.N, k0_cond1 (grid0.coords t) = 1#1 ↔ t.val % 14 = 0)

theorem idle_4 (t : Fin cfg0.N) : idle0 4 (grid0.coords t) = !decide (t.val % 14 = 0) := by
  show (!(k0_cond1 (grid0.coords t) == 1#1)) = _
  congr 1
  rw [Bool.eq_iff_iff, beq_iff_eq, decide_eq_true_iff]
  exact hcond t
theorem idle_5 (t : Fin cfg0.N) : idle0 5 (grid0.coords t) = !decide (t.val % 14 = 0) := idle_4 t

/-- The block of dy at point `t`, -/
def dyBlk (c : Dev nD) (t : Fin cfg0.N) : Vec F S512x10240 .bf16 := iblk m c 1 t

theorem idx1 : ∀ t : Fin grid0.N, win0_1.index t 0 = t.val / 14 ∧ win0_1.index t 1 = 0 := by decide +kernel

/-- which is rows `512 (t / 14) …` of dy, -/
theorem dyBlk_apply (c : Dev nD) (t : Fin cfg0.N) (y : S512x10240.Idx) :
    dyBlk m c t y = V m c main_v0 (ix2 ⟨512 * (t.val / 14) + (y 0).val, by have := N672 t; have := lt0 y; omega⟩ ⟨(y 1).val, lt1 y⟩ : S24576x10240.Idx) := by
  show V m c main_v0 ((win0_1.rect t).emb y) = _
  congr 1
  refine idx_ext ?_ ?_
  · show win0_1.index t 0 * 512 + 1 * (y 0).val = 512 * (t.val / 14) + (y 0).val
    rw [(idx1 t).1]; omega
  · show win0_1.index t 1 * 10240 + 1 * (y 1).val = (y 1).val
    rw [(idx1 t).2]; omega

/-- and the same along a row of the grid. -/
theorem dyBlk_congr (c : Dev nD) (t u : Fin cfg0.N) (h : t.val / 14 = u.val / 14) : dyBlk m c t = dyBlk m c u := by
  funext y
  rw [dyBlk_apply, dyBlk_apply]
  congr 1
  exact idx_ext (by show 512 * (t.val / 14) + (y 0).val = 512 * (u.val / 14) + (y 0).val; rw [h]) rfl
theorem dyBlk_prev (c : Dev nD) (t : Fin cfg0.N) (h0 : ¬ t.val % 14 = 0) :
    dyBlk m c ⟨t.val - 1, by omega⟩ = dyBlk m c t :=
  dyBlk_congr m c _ _ (by show (t.val - 1) / 14 = t.val / 14; omega)

/-! ## The buffers the pipeline passes -/

abbrev ms0_0 (t : Fin cfg0.N) : Memref sig .tc .smem S56x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x10240 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x10240 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x10240 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x80 .f32 := win0_5.stage (cfg0.slots t 5)
abbrev hs0_5 (t : Fin cfg0.N) : (ms0_5 t).IsWhole := hstage0_5 ((cfg0.slots t 5).cast nbuf0_5)
abbrev scM0_0 : Memref sig .tc .vmem S512x10240 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- Between points the scratch holds the widened block of the row the last point was in. -/
def PhiS (c : Dev nD) : (n : ℕ) → n ≤ cfg0.N → sProp 𝕄
  | 0, _ => Pipeline.ΦA spec0 c
  | n + 1, hn => iprop(iprop(owns (c : Thread nD τ) scM0_0 fullShare (wide (dyBlk m c ⟨n, hn⟩))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (wide (dyBlk m c ⟨n, hn⟩))) ∗ (∃ r, prngReg c r)) := rfl
theorem PhiS_pos (c : Dev nD) (n : ℕ) (h : n ≤ cfg0.N) (hz : n ≠ 0) :
    PhiS m c n h = iprop(iprop(owns (c : Thread nD τ) scM0_0 fullShare (wide (dyBlk m c ⟨n - 1, by omega⟩))) ∗ (∃ r, prngReg c r)) := by
  cases n with
  | zero => exact absurd rfl hz
  | succ n => rfl

/-- What the body leaves in each buffer: the inputs as they were, the product's tile, the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxT (grid0.coords t) (iblk m c 0 t) (iblk m c 2 t) (wide (dyBlk m c t))
    | ⟨4, _⟩ => codes (dyBlk m c t)
    | ⟨5, _⟩ => scales (dyBlk m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = dxT (grid0.coords t) (iblk m c 0 t) (iblk m c 2 t) (wide (dyBlk m c t)) := by dsimp only [dats]
theorem after0_4 (c : Dev nD) (t : Fin cfg0.N) : (dats m 0 c).after 4 t = codes (dyBlk m c t) := by dsimp only [dats]
theorem after0_5 (c : Dev nD) (t : Fin cfg0.N) : (dats m 0 c).after 5 t = scales (dyBlk m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The points where the codes and the scales are not stored -/

theorem fresh0_4 (n : ℕ) (h : n ≤ cfg0.N) : cfg0.fresh 4 n = decide (n % 14 = 0) :=
  cfg0.fresh_tab 4 (fun n => decide (n % 14 = 0)) rfl (fun t => by
    show decide ((t.val + 1) % 14 = 0) = ((cfg0.win 4).flush t || (idle0 4 (grid0.coords t) && decide (t.val % 14 = 0)))
    rw [idle_4]
    by_cases h13 : t.val % 14 = 13
    · rw [(flush0_4 t).mpr h13, decide_eq_true (by omega)]; rfl
    · rw [Bool.eq_false_iff.mpr (fun hf => h13 ((flush0_4 t).mp hf)), decide_eq_false (by omega)]
      by_cases h0 : t.val % 14 = 0 <;> simp [h0]) n h

/-- Where the body stores nothing into output 4, the buffer holds what the row's first point left, -/
theorem before0_4 (c : Dev nD) (t : Fin cfg0.N) (h0 : ¬ t.val % 14 = 0) (d) : (dats m 0 c).before 4 t d = (dats m 0 c).after 4 t := by
  rw [(dats m 0 c).before_out_traj 4 rfl (fun _ _ => rfl) (fun u hu _ hf => ?_) t.val t rfl d,
    fresh0_4 _ (Nat.le_of_lt t.isLt), decide_eq_false h0, after0_4, after0_4, dyBlk_prev m c t h0]
  · rfl
  · rw [fresh0_4 _ (Nat.le_of_lt u.isLt)] at hf
    rw [after0_4, after0_4, dyBlk_prev m c u (of_decide_eq_false hf)]

/-- and is handed back so; -/
theorem leave_4 (c : Dev nD) (t : Fin cfg0.N) (h0 : ¬ t.val % 14 = 0) (d) :
    owns (c : Thread nD τ) (ms0_4 t) fullShare ((dats m 0 c).before 4 t d) ⊢ (dats m 0 c).leavesExact 4 t := by
  by_cases hf : (cfg0.win 4).flush t = true
  · rw [before0_4 m c t h0]
    unfold Dat.leavesExact
    rw [show cfg0.idle 4 (cfg0.grid.coords t) = true from by rw [show cfg0.idle 4 (cfg0.grid.coords t) = idle0 4 (grid0.coords t) from rfl, idle_4]; simp [h0], hf]
  · rw [(dats m 0 c).leavesExact_idle 4 t (by rw [show cfg0.idle 4 (cfg0.grid.coords t) = idle0 4 (grid0.coords t) from rfl, idle_4]; simp [h0]) (Bool.eq_false_iff.mpr hf)]
    iintro H
    iexists d
    iexact H

/-- elsewhere it is left at what the point computes. -/
theorem live_4 (c : Dev nD) (t : Fin cfg0.N) (h0 : t.val % 14 = 0) :
    (dats m 0 c).leavesExact 4 t = owns (c : Thread nD τ) (ms0_4 t) fullShare (codes (dyBlk m c t)) := by
  unfold Dat.leavesExact
  rw [show cfg0.idle 4 (cfg0.grid.coords t) = false from by rw [show cfg0.idle 4 (cfg0.grid.coords t) = idle0 4 (grid0.coords t) from rfl, idle_4]; simp [h0], after0_4]

theorem fresh0_5 (n : ℕ) (h : n ≤ cfg0.N) : cfg0.fresh 5 n = decide (n % 14 = 0) :=
  cfg0.fresh_tab 5 (fun n => decide (n % 14 = 0)) rfl (fun t => by
    show decide ((t.val + 1) % 14 = 0) = ((cfg0.win 5).flush t || (idle0 5 (grid0.coords t) && decide (t.val % 14 = 0)))
    rw [idle_5]
    by_cases h13 : t.val % 14 = 13
    · rw [(flush0_5 t).mpr h13, decide_eq_true (by omega)]; rfl
    · rw [Bool.eq_false_iff.mpr (fun hf => h13 ((flush0_5 t).mp hf)), decide_eq_false (by omega)]
      by_cases h0 : t.val % 14 = 0 <;> simp [h0]) n h

/-- Where the body stores nothing into output 5, the buffer holds what the row's first point left, -/
theorem before0_5 (c : Dev nD) (t : Fin cfg0.N) (h0 : ¬ t.val % 14 = 0) (d) : (dats m 0 c).before 5 t d = (dats m 0 c).after 5 t := by
  rw [(dats m 0 c).before_out_traj 5 rfl (fun _ _ => rfl) (fun u hu _ hf => ?_) t.val t rfl d,
    fresh0_5 _ (Nat.le_of_lt t.isLt), decide_eq_false h0, after0_5, after0_5, dyBlk_prev m c t h0]
  · rfl
  · rw [fresh0_5 _ (Nat.le_of_lt u.isLt)] at hf
    rw [after0_5, after0_5, dyBlk_prev m c u (of_decide_eq_false hf)]

/-- and is handed back so; -/
theorem leave_5 (c : Dev nD) (t : Fin cfg0.N) (h0 : ¬ t.val % 14 = 0) (d) :
    owns (c : Thread nD τ) (ms0_5 t) fullShare ((dats m 0 c).before 5 t d) ⊢ (dats m 0 c).leavesExact 5 t := by
  by_cases hf : (cfg0.win 5).flush t = true
  · rw [before0_5 m c t h0]
    unfold Dat.leavesExact
    rw [show cfg0.idle 5 (cfg0.grid.coords t) = true from by rw [show cfg0.idle 5 (cfg0.grid.coords t) = idle0 5 (grid0.coords t) from rfl, idle_5]; simp [h0], hf]
  · rw [(dats m 0 c).leavesExact_idle 5 t (by rw [show cfg0.idle 5 (cfg0.grid.coords t) = idle0 5 (grid0.coords t) from rfl, idle_5]; simp [h0]) (Bool.eq_false_iff.mpr hf)]
    iintro H
    iexists d
    iexact H

/-- elsewhere it is left at what the point computes. -/
theorem live_5 (c : Dev nD) (t : Fin cfg0.N) (h0 : t.val % 14 = 0) :
    (dats m 0 c).leavesExact 5 t = owns (c : Thread nD τ) (ms0_5 t) fullShare (scales (dyBlk m c t)) := by
  unfold Dat.leavesExact
  rw [show cfg0.idle 5 (cfg0.grid.coords t) = false from by rw [show cfg0.idle 5 (cfg0.grid.coords t) = idle0 5 (grid0.coords t) from rfl, idle_5]; simp [h0], after0_5]

/-! ## The body at a point -/

/-- One store through the whole buffer leaves what was stored. -/
theorem read_whole_piece (v : View sig .tc .vmem S512x512 .bf16) (f) (inb) (w : S512x512.Idx → Elt F .bf16) :
    v.read (Elt F) (v.writes (Elt F) f [(⟨Rect.unit (s := S512x512) ![0, 0] ![512, 512] inb, w⟩ : View.Piece (Elt F) S512x512 .bf16)]) = w := by
  funext y
  refine View.read_writes_cons_unit_of_mem v f inb w [] y y rfl ?_
  intro a
  fin_cases a
  · show (y 0).val = 0 + (y 0).val
    omega
  · show (y 1).val = 0 + (y 1).val
    omega

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t
    ∗ (dats m 0 c).leavesExact 5 t)

set_option maxHeartbeats 3200000 in
/-- The body at any point: the quantising case at the first point of a row, the other elsewhere, where the
    scratch holds the row's widened block and the codes and scales stay as the first point left them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  rw [show iblk m c 1 t = dyBlk m c t from rfl]
  by_cases h0 : t.val % 14 = 0
  · rw [live_4 m c t h0, live_5 m c t h0]
    by_cases hz : t.val = 0
    · rw [PhiS_castSucc m c t, PhiS_zero m c _ _ hz, PhiA0_eq]
      iintro ⟨⟨⟨%xs, HS0⟩, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (iblk m c 0 t) (dyBlk m c t) (iblk m c 2 t) xs).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact all_wide c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (read_whole_piece _ _ _ _).trans (dx_runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) _ _ _ _)
      isplitl [H4]
      · unfold owns; iexists _; isplitr
        swap; · iexact H4
        ipureintro; exact all_codes c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
      unfold owns; iexists _; isplitr
      swap; · iexact H5
      ipureintro; exact all_scales c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (iblk m c 0 t) (dyBlk m c t) (iblk m c 2 t) (wide (dyBlk m c ⟨t.val - 1, by omega⟩))).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact all_wide c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact (read_whole_piece _ _ _ _).trans (dx_runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) _ _ _ _)
      isplitl [H4]
      · unfold owns; iexists _; isplitr
        swap; · iexact H4
        ipureintro; exact all_codes c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
      unfold owns; iexists _; isplitr
      swap; · iexact H5
      ipureintro; exact all_scales c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond t).mpr h0) (dyBlk m c t) _
  · have hz : t.val ≠ 0 := fun h => h0 (by rw [h])
    rw [PhiS_castSucc m c t, PhiS_pos m c _ _ hz, dyBlk_prev m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond t).mp h)) (iblk m c 0 t) (iblk m c 2 t) (wide (dyBlk m c t))).2 Set.univ _)
    isplitl [H0]; · iexact H0
    isplitl [H2]; · iexact H2
    isplitl [H3]; · iexists _; iexact H3
    isplitl [HS0]; · iexact HS0
    iintro ⟨H0, H2, ⟨%e3, H3⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (read_whole_piece _ _ _ _).trans (dx_runB c (grid0.coords t) _ _ _ _ _ _ _ _ _)
    isplitl [H4]
    · iapply (leave_4 m c t h0 d4)
      iexact H4
    iapply (leave_5 m c t h0 d5)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 672 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Dgrad

end
-- ==== Proof.Value.Scalar.lean ====
/-
  The quantiser's scale, of one group. The kernel finds the exponent field of a float by a binary
  search over its eight bits, comparing against the float that the candidate bits denote; the
  reference takes the floor of a logarithm. Over the extended reals, for every value under `2^126`,
  the scale and its reciprocal that the two make of it agree.
-/
module

public import Idealize.ShloMosaic.PureOps.Ideal.Laws

@[expose] public section

set_option maxRecDepth 16384

noncomputable section

namespace Cert.Scalar

open Idealize.ShloMosaic

/-- The word whose exponent field is `n`, all else zero. -/
def w (n : ℕ) : BitVec 32 := BitVec.ofNat 32 (n * 8388608)

/-- The value of that word. -/
def B (n : ℕ) : EReal := Ideal.ofBits .f32 (w n)

theorem w_fields : ∀ n : Fin 256, ((w n).extractLsb' 31 1 == 1#1) = false ∧ ((w n).extractLsb' 23 8).toNat = n.val
    ∧ ((w n).extractLsb' 0 23).toNat = 0 := by decide +kernel

theorem w_or : ∀ n : Fin 256, ∀ j : Fin 8, n.val % 2 ^ (j.val + 1) = 0 → w n.val ||| w (2 ^ j.val) = w (n.val + 2 ^ j.val) := by
  decide +kernel

theorem w_succ : ∀ n : Fin 256, w n.val + 8388608#32 = w (n.val + 1) := by decide +kernel
theorem w_inv : ∀ n : Fin 254, 2122317824#32 - w n.val = w (253 - n.val) := by decide +kernel
theorem w_zero : ∀ n : Fin 256, w n.val = 0#32 ↔ n.val = 0 := by decide +kernel

/-- The powers of two that the exponent fields stand for. -/
theorem B_val (n : ℕ) (h1 : 1 ≤ n) (h2 : n ≤ 254) : B n = (((2 : ℝ) ^ ((n : ℤ) - 127) : ℝ) : EReal) := by
  obtain ⟨ha, hb, hc⟩ := w_fields ⟨n, by omega⟩
  have ha' : ((w n).extractLsb' (8 + 23) 1 == 1#1) = false := ha
  have hb' : ((w n).extractLsb' 23 8).toNat = n := hb
  have hc' : ((w n).extractLsb' 0 23).toNat = 0 := hc
  show Ideal.ieee 8 23 (w n) = _
  unfold Ideal.ieee
  simp only [ha', hb', hc']
  rw [if_neg (by omega), if_neg (by omega)]
  congr 1
  have hp : (2 : ℝ) ^ ((n : ℤ) - 127) = (2 : ℝ) ^ (23 : ℤ) * (2 : ℝ) ^ ((n : ℤ) - 127 - 23) := by
    rw [← zpow_add₀ (by norm_num)]; congr 1; ring
  rw [hp]
  norm_num

theorem B_0 : B 0 = 0 := by
  obtain ⟨ha, hb, hc⟩ := w_fields 0
  have ha' : ((w 0).extractLsb' (8 + 23) 1 == 1#1) = false := ha
  have hb' : ((w 0).extractLsb' 23 8).toNat = 0 := hb
  have hc' : ((w 0).extractLsb' 0 23).toNat = 0 := hc
  show Ideal.ieee 8 23 (w 0) = _
  unfold Ideal.ieee
  simp only [ha', hb', hc']
  simp

/-- One step of the search: take the bit if the value reaches the float it makes. -/
def step (t : EReal) (b e : BitVec 32) : BitVec 32 := if t < Ideal.ofBits .f32 (e ||| b) then e else e ||| b

/-- What the search has found with the bits from `j` up decided. -/
def Inv (t : EReal) (j n : ℕ) : Prop :=
  2 ^ j ∣ n ∧ n + 2 ^ j ≤ 256 ∧ (n = 0 ∨ B n ≤ t) ∧ (n + 2 ^ j = 256 ∨ t < B (n + 2 ^ j))

theorem step_inv (t : EReal) (j : Fin 8) (n : ℕ) (h : Inv t (j.val + 1) n) :
    ∃ n', step t (w (2 ^ j.val)) (w n) = w n' ∧ Inv t j.val n' := by
  obtain ⟨hd, hle, hlo, hhi⟩ := h
  have h2 : 2 ^ (j.val + 1) = 2 * 2 ^ j.val := by rw [pow_succ]; ring
  have hpos : 0 < 2 ^ j.val := Nat.two_pow_pos _
  have hor : w n ||| w (2 ^ j.val) = w (n + 2 ^ j.val) := w_or ⟨n, by omega⟩ j (Nat.mod_eq_zero_of_dvd hd)
  have hdj : 2 ^ j.val ∣ n := Dvd.dvd.trans ⟨2, by rw [h2]; ring⟩ hd
  unfold step
  rw [hor]
  by_cases hc : t < B (n + 2 ^ j.val)
  · exact ⟨n, if_pos hc, hdj, by omega, hlo, .inr hc⟩
  · refine ⟨n + 2 ^ j.val, if_neg hc, (Nat.dvd_add_right hdj).2 (dvd_refl _), by omega, .inr (not_lt.1 hc), ?_⟩
    have e : n + 2 ^ j.val + 2 ^ j.val = n + 2 ^ (j.val + 1) := by omega
    rw [e]
    exact hhi

/-- The exponent field of a value, by the search over its eight bits. -/
def expo (t : EReal) : BitVec 32 :=
  step t 8388608#32 (step t 16777216#32 (step t 33554432#32 (step t 67108864#32
    (step t 134217728#32 (step t 268435456#32 (step t 536870912#32 (step t 1073741824#32 0#32)))))))

theorem expo_spec (t : EReal) : ∃ n, expo t = w n ∧ Inv t 0 n := by
  have e0 : (0#32 : BitVec 32) = w 0 := by decide
  have h8 : Inv t 8 0 := ⟨dvd_zero _, by norm_num, .inl rfl, .inl (by norm_num)⟩
  obtain ⟨n7, e7, h7⟩ := step_inv t 7 0 h8
  obtain ⟨n6, e6, h6⟩ := step_inv t 6 n7 h7
  obtain ⟨n5, e5, h5⟩ := step_inv t 5 n6 h6
  obtain ⟨n4, e4, h4⟩ := step_inv t 4 n5 h5
  obtain ⟨n3, e3, h3⟩ := step_inv t 3 n4 h4
  obtain ⟨n2, e2, h2⟩ := step_inv t 2 n3 h3
  obtain ⟨n1, e1, h1⟩ := step_inv t 1 n2 h2
  obtain ⟨n0, e0', h0⟩ := step_inv t 0 n1 h1
  refine ⟨n0, ?_, h0⟩
  have b7 : (1073741824#32 : BitVec 32) = w (2 ^ (7 : Fin 8).val) := by decide
  have b6 : (536870912#32 : BitVec 32) = w (2 ^ (6 : Fin 8).val) := by decide
  have b5 : (268435456#32 : BitVec 32) = w (2 ^ (5 : Fin 8).val) := by decide
  have b4 : (134217728#32 : BitVec 32) = w (2 ^ (4 : Fin 8).val) := by decide
  have b3 : (67108864#32 : BitVec 32) = w (2 ^ (3 : Fin 8).val) := by decide
  have b2 : (33554432#32 : BitVec 32) = w (2 ^ (2 : Fin 8).val) := by decide
  have b1 : (16777216#32 : BitVec 32) = w (2 ^ (1 : Fin 8).val) := by decide
  have b0 : (8388608#32 : BitVec 32) = w (2 ^ (0 : Fin 8).val) := by decide
  unfold expo
  rw [b0, b1, b2, b3, b4, b5, b6, b7, e0, e7, e6, e5, e4, e3, e2, e1, e0']

/-- The scale, and its reciprocal, as the kernel makes them of the exponent field. -/
def kScale (t : EReal) : EReal := if expo t = 0#32 then Ideal.ofBits .f32 0x3F800000#32 else Ideal.ofBits .f32 (expo t + 8388608#32)
def kInv (t : EReal) : EReal := if expo t = 0#32 then Ideal.ofBits .f32 0x3F800000#32 else Ideal.ofBits .f32 (2122317824#32 - expo t)

/-- A value under the least normal float counts as zero. -/
def flush (t : EReal) : EReal := if t < Ideal.ofBits .f32 0x00800000#32 then Ideal.ofBits .f32 0x00000000#32 else t

/-- The exponent, as the reference makes it. -/
def rExp (t : EReal) : EReal :=
  if flush t = Ideal.ofBits .f32 0x00000000#32 then Ideal.ofBits .f32 0x00000000#32
  else Ideal.liftRound Int.floor (Ideal.div (Ideal.log (flush t)) (Ideal.log (Ideal.ofBits .f32 0x40000000#32)))
    + Ideal.ofBits .f32 0x3F800000#32

theorem ofBits_zero : Ideal.ofBits .f32 0x00000000#32 = 0 := B_0
theorem ofBits_min : Ideal.ofBits .f32 0x00800000#32 = B 1 := rfl
theorem ofBits_one : Ideal.ofBits .f32 0x3F800000#32 = ((1 : ℝ) : EReal) := by
  have : Ideal.ofBits .f32 0x3F800000#32 = B 127 := rfl
  rw [this, B_val 127 (by norm_num) (by norm_num)]; norm_num
theorem ofBits_two : Ideal.ofBits .f32 0x40000000#32 = ((2 : ℝ) : EReal) := by
  have : Ideal.ofBits .f32 0x40000000#32 = B 128 := rfl
  rw [this, B_val 128 (by norm_num) (by norm_num)]; norm_num

theorem exp2_int (k : ℤ) : Ideal.exp2 (((k : ℝ)) : EReal) = (((2 : ℝ) ^ k : ℝ) : EReal) := by
  show ((Real.rpow 2 (k : ℝ) : ℝ) : EReal) = _
  congr 1
  exact Real.rpow_intCast 2 k

/-- The floor of the binary logarithm, between two powers of two. -/
theorem floor_log (r : ℝ) (k : ℤ) (h1 : (2 : ℝ) ^ k ≤ r) (h2 : r < (2 : ℝ) ^ (k + 1)) : ⌊Real.log r * (Real.log 2)⁻¹⌋ = k := by
  have hl : 0 < Real.log 2 := Real.log_pos (by norm_num)
  have hp : (0 : ℝ) < (2 : ℝ) ^ k := zpow_pos (by norm_num) _
  have hr : 0 < r := lt_of_lt_of_le hp h1
  have e1 : Real.log ((2 : ℝ) ^ k) = k * Real.log 2 := Real.log_zpow 2 k
  have e2 : Real.log ((2 : ℝ) ^ (k + 1)) = ((k + 1 : ℤ) : ℝ) * Real.log 2 := Real.log_zpow 2 (k + 1)
  have a1 := Real.log_le_log hp h1
  have a2 := Real.log_lt_log hr h2
  rw [e1] at a1
  rw [e2] at a2
  rw [← div_eq_mul_inv, Int.floor_eq_iff]
  refine ⟨(le_div_iff₀ hl).2 a1, (div_lt_iff₀ hl).2 ?_⟩
  push_cast at a2
  exact a2

/-- What the two searches have in common: no exponent, or one between the powers of two around the value. -/
theorem rExp_spec (t : EReal) (ht : t < (((2 : ℝ) ^ (126 : ℤ) : ℝ) : EReal)) :
    (expo t = 0#32 ∧ rExp t = 0) ∨ ∃ n : ℕ, 1 ≤ n ∧ n ≤ 252 ∧ expo t = w n ∧ rExp t = ((((n : ℤ) - 126 : ℤ) : ℝ) : EReal) := by
  obtain ⟨n, en, hd, hle, hlo, hhi⟩ := expo_spec t
  have hn : n ≤ 255 := by simp at hle; omega
  rcases Nat.eq_zero_or_pos n with h0 | hpos
  · subst h0
    refine .inl ⟨by rw [en]; decide, ?_⟩
    have h1 : t < B 1 := by rcases hhi with h | h <;> simp_all
    unfold rExp flush
    rw [ofBits_min, if_pos h1, if_pos rfl, ofBits_zero]
  · have hlo' : B n ≤ t := hlo.resolve_left (by omega)
    have hn252 : n ≤ 252 := by
      by_contra hc
      have h253 : (((2 : ℝ) ^ (126 : ℤ) : ℝ) : EReal) ≤ B n := by
        rcases (by omega : n ≤ 254 ∨ n = 255) with h | h
        · rw [B_val n hpos h, EReal.coe_le_coe_iff]
          exact zpow_le_zpow_right₀ (by norm_num) (by omega)
        · subst h
          have : B 255 = ⊤ := by
            obtain ⟨ha, hb, hc'⟩ := w_fields 255
            have ha' : ((w 255).extractLsb' (8 + 23) 1 == 1#1) = false := ha
            have hb' : ((w 255).extractLsb' 23 8).toNat = 255 := hb
            have hc'' : ((w 255).extractLsb' 0 23).toNat = 0 := hc'
            show Ideal.ieee 8 23 (w 255) = _
            unfold Ideal.ieee
            simp only [ha', hb', hc'']
            simp
          rw [this]; exact le_top
      exact absurd (lt_of_lt_of_le ht (le_trans h253 hlo')) (lt_irrefl _)
    have hhi' : t < B (n + 1) := by
      rcases hhi with h | h
      · exfalso; norm_num at h; omega
      · simpa using h
    refine .inr ⟨n, hpos, hn252, en, ?_⟩
    rw [B_val n hpos (by omega)] at hlo'
    rw [B_val (n + 1) (by omega) (by omega)] at hhi'
    have hbot : t ≠ ⊥ := fun h => by rw [h] at hlo'; exact absurd hlo' (by simp)
    have htop : t ≠ ⊤ := fun h => by rw [h] at ht; exact absurd ht (by simp)
    lift t to ℝ using ⟨htop, hbot⟩
    rw [EReal.coe_le_coe_iff] at hlo'
    rw [EReal.coe_lt_coe_iff] at hhi'
    have hge : ¬ ((t : EReal) < B 1) := by
      rw [B_val 1 (by norm_num) (by norm_num), EReal.coe_lt_coe_iff, not_lt]
      exact le_trans (zpow_le_zpow_right₀ (by norm_num) (by omega)) hlo'
    have hpos' : 0 < t := lt_of_lt_of_le (zpow_pos (by norm_num) _) hlo'
    have hne : ¬ ((t : EReal) = 0) := by
      rw [← EReal.coe_zero, EReal.coe_eq_coe_iff]; exact hpos'.ne'
    have hl : 0 < Real.log 2 := Real.log_pos (by norm_num)
    unfold rExp flush
    rw [ofBits_min, if_neg hge, ofBits_zero, if_neg hne, ofBits_one, ofBits_two]
    have l1 : Ideal.log ((t : ℝ) : EReal) = ((Real.log t : ℝ) : EReal) := if_neg (not_le.2 hpos')
    have l2 : Ideal.log ((2 : ℝ) : EReal) = ((Real.log 2 : ℝ) : EReal) := if_neg (by norm_num)
    have ld : Ideal.div ((Real.log t : ℝ) : EReal) ((Real.log 2 : ℝ) : EReal) = ((Real.log t * (Real.log 2)⁻¹ : ℝ) : EReal) := by
      unfold Ideal.div
      rw [if_neg (by rw [← EReal.coe_zero, EReal.coe_eq_coe_iff]; exact hl.ne'), ← EReal.coe_inv, ← EReal.coe_mul]
    rw [l1, l2, ld]
    have hfl : ⌊Real.log t * (Real.log 2)⁻¹⌋ = (n : ℤ) - 127 :=
      floor_log t _ hlo' (by
        have e : (n : ℤ) - 127 + 1 = ((n + 1 : ℕ) : ℤ) - 127 := by push_cast; ring
        rw [e]; exact hhi')
    show (((⌊Real.log t * (Real.log 2)⁻¹⌋ : ℤ) : ℝ) : EReal) + ((1 : ℝ) : EReal) = _
    rw [hfl, ← EReal.coe_add]
    congr 1
    push_cast
    ring

theorem scale_eq (t : EReal) (ht : t < (((2 : ℝ) ^ (126 : ℤ) : ℝ) : EReal)) : kScale t = Ideal.exp2 (rExp t) := by
  unfold kScale
  rcases rExp_spec t ht with ⟨h1, h2⟩ | ⟨n, hp, hn, h1, h2⟩
  · rw [if_pos h1, h2, ofBits_one]
    have := exp2_int 0
    simpa using this.symm
  · rw [h1, if_neg (fun h => by have := (w_zero ⟨n, by omega⟩).1 h; simp at this; omega), h2, exp2_int]
    have e : w n + 8388608#32 = w (n + 1) := w_succ ⟨n, by omega⟩
    rw [e]
    show B (n + 1) = _
    rw [B_val (n + 1) (by omega) (by omega)]
    congr 2
    push_cast
    ring

theorem inv_eq (t : EReal) (ht : t < (((2 : ℝ) ^ (126 : ℤ) : ℝ) : EReal)) :
    kInv t = Ideal.exp2 (Ideal.ofBits .f32 0x00000000#32 - rExp t) := by
  unfold kInv
  rw [ofBits_zero]
  rcases rExp_spec t ht with ⟨h1, h2⟩ | ⟨n, hp, hn, h1, h2⟩
  · rw [if_pos h1, h2, ofBits_one]
    have := exp2_int 0
    simpa using this.symm
  · have e0 : (0 : EReal) - ((((n : ℤ) - 126 : ℤ) : ℝ) : EReal) = (((126 - (n : ℤ) : ℤ) : ℝ) : EReal) := by
      rw [← EReal.coe_zero, ← EReal.coe_sub]; congr 1; push_cast; ring
    rw [h1, if_neg (fun h => by have := (w_zero ⟨n, by omega⟩).1 h; simp at this; omega), h2, e0, exp2_int]
    have e : 2122317824#32 - w n = w (253 - n) := w_inv ⟨n, by omega⟩
    rw [e]
    show B (253 - n) = _
    rw [B_val (253 - n) (by omega) (by omega)]
    congr 2
    omega

end Cert.Scalar
-- ==== Proof.Value.Spec.lean ====
/-
  What the two programs compute over the extended reals, said once for both: of a matrix of gradients
  and its groups of 128 lanes, the scale of a group, the clipped codes, the codes times their scales,
  and the product with the weight times its block scales.
-/
module

public import proofs.«01_k».proof.Proof.Value.Scalar
public import Idealize.ShloMosaic.Lib.ValueIdxCore

@[expose] public section

noncomputable section

namespace Cert.Spec

open Idealize.ShloMosaic Idealize.ShloMosaic.ValueIdx

abbrev SX : Shape := ⟨2, ![24576, 10240]⟩
abbrev SW : Shape := ⟨2, ![7168, 10240]⟩
abbrev SB : Shape := ⟨2, ![56, 80]⟩
abbrev SG : Shape := ⟨2, ![24576, 80]⟩
abbrev SO : Shape := ⟨2, ![24576, 7168]⟩

/-- Two rank-2 indices with the same coordinates are equal. -/
theorem ext2 {a b : ℕ} {y z : (⟨2, ![a, b]⟩ : Shape).Idx} (h0 : (y 0).val = (z 0).val) (h1 : (y 1).val = (z 1).val) : y = z :=
  funext fun d => Fin.ext (by fin_cases d; exacts [h0, h1])

/-- The lane `l` of group `g`. -/
def lane (g : Fin 80) (l : Fin 128) : Fin 10240 := ⟨128 * g.val + l.val, by have := g.isLt; have := l.isLt; omega⟩
/-- The group of a lane. -/
def grp (c : Fin 10240) : Fin 80 := ⟨c.val / 128, by have := c.isLt; omega⟩
/-- The block of rows of the weight that a row lies in. -/
def blk (n : Fin 7168) : Fin 56 := ⟨n.val / 128, by have := n.isLt; omega⟩

/-- The magnitude of an extended real. -/
def ab (x : EReal) : EReal := max x (-x)

/-- The largest magnitude of 128 values, times the constant `1/448` (as the float nearest to it). -/
def top (f : Fin 128 → EReal) : EReal :=
  (Finset.univ : Finset (Fin 128)).fold max ⊥ (fun l => ab (f l)) * Ideal.ofBits .f32 0x3B124925#32

/-- Clipping to the range of the codes. -/
def clip (x : EReal) : EReal := min (Ideal.ofBits .f32 0x43E00000#32) (max (Ideal.ofBits .f32 0xC3E00000#32) x)

/-- The target of a group: its largest magnitude over 448. -/
def target (X : SX.Idx → EReal) (r : Fin 24576) (g : Fin 80) : EReal := top (fun l => X (ix2 r (lane g l)))

/-- The exponent of a group's scale. -/
def ex (X : SX.Idx → EReal) (r : Fin 24576) (g : Fin 80) : EReal := Cert.Scalar.rExp (target X r g)

/-- The scales. -/
def scale (X : SX.Idx → EReal) : SG.Idx → EReal := fun y => Ideal.exp2 (ex X (y 0) (y 1))

/-- The codes. -/
def code (X : SX.Idx → EReal) : SX.Idx → EReal := fun y =>
  clip (X y * Ideal.exp2 (Ideal.ofBits .f32 0x00000000#32 - ex X (y 0) (grp (y 1))))

/-- The codes times their scales. -/
def wide (X : SX.Idx → EReal) : SX.Idx → EReal := fun y => code X y * scale X (ix2 (y 0) (grp (y 1)))

/-- The weight times its block scales. -/
def wgt (W : SW.Idx → EReal) (S : SB.Idx → EReal) : SW.Idx → EReal := fun y => W y * S (ix2 (blk (y 0)) (grp (y 1)))

/-- The gradient of the input: the product of the two over the lanes. -/
def grad (X : SX.Idx → EReal) (W : SW.Idx → EReal) (S : SB.Idx → EReal) : SO.Idx → EReal := fun y =>
  ∑ k : Fin 10240, wide X (ix2 (y 0) k) * wgt W S (ix2 (y 1) k)

end Cert.Spec
-- ==== Proof.Value.Tile.lean ====
/-
  The kernel's quantiser on one tile of 64 rows by one group of 128 lanes, over the extended reals:
  the tile's exponent fields are found as in Value/Scalar.lean, of each row's largest magnitude.
-/
module

public import proofs.«01_k».proof.Proof.Ideal.Tiles
public import proofs.«01_k».proof.Proof.Value.Spec
public import Idealize.ShloMosaic.Lib.ValueLayoutCasts

@[expose] public section

set_option maxRecDepth 16384

noncomputable section

namespace Cert.KernelIdeal.Dgrad

open Cert.KernelIdeal Cert.KernelIdeal.Gen
open Idealize.ShloMosaic Idealize.ShloMosaic.ValueIdx

/-- One step of the search on a whole tile. -/
def stepV (t : FVec Ideal S64x128 .f32) (b : BitVec 32) (e : IVec S64x128 32) : IVec S64x128 32 :=
  select (cmpf .olt t (bitcastToFloat .f32 (ori e (broadcast S64x128 b)))) e (ori e (broadcast S64x128 b))

theorem stepV_apply (t : FVec Ideal S64x128 .f32) (b : BitVec 32) (e : IVec S64x128 32) (y : S64x128.Idx) :
    stepV t b e y = Cert.Scalar.step (t y) b (e y) := by
  show (if BitVec.ofBool (decide ((t y : EReal) < Ideal.ofBits .f32 (e y ||| b))) = 1#1 then e y else e y ||| b) = _
  unfold Cert.Scalar.step
  by_cases h : (t y : EReal) < Ideal.ofBits .f32 (e y ||| b) <;> simp [h]

theorem expo_tile (v : Vec Ideal S64x128 .bf16) (y : S64x128.Idx) :
    k0_pay7 (k0_pay2 v) (k0_pay3 v) (k0_pay4 v) (k0_pay5 v) y = Cert.Scalar.expo (k0_pay2 v y) := by
  have e : k0_pay7 (k0_pay2 v) (k0_pay3 v) (k0_pay4 v) (k0_pay5 v)
      = stepV (k0_pay2 v) 8388608#32 (stepV (k0_pay2 v) 16777216#32 (stepV (k0_pay2 v) 33554432#32 (stepV (k0_pay2 v) 67108864#32
        (stepV (k0_pay2 v) 134217728#32 (stepV (k0_pay2 v) 268435456#32 (stepV (k0_pay2 v) 536870912#32
          (stepV (k0_pay2 v) 1073741824#32 (broadcast S64x128 0#32)))))))) := rfl
  refine (congrFun e y).trans ?_
  simp only [stepV_apply]
  rfl

theorem lift_row (h : S64x128.Reduces [1] S64) (j : S64.Idx) (l : Fin 128) : h.lift j l = ix2 (n0 := 64) (n1 := 128) (j 0) l := by
  funext a
  match a with
  | ⟨0, _⟩ => rfl
  | ⟨1, _⟩ => rfl

theorem bf16_bot : (FloatOps.ofBits (F := Ideal) .bf16 0xFF80#16 : EReal) = ⊥ := by
  show Ideal.ieee 8 7 0xFF80#16 = (⊥ : EReal)
  simp [Ideal.ieee]

/-- The largest magnitude of each row. -/
def rowmax (v : Vec Ideal S64x128 .bf16) : FVec Ideal S64 .bf16 :=
  multiReduction .maximumf [1] S64 (absf (k0_pay1 v)) 0xFF80#16 reduces_S64x128_S64 (.inr rfl) rfl

theorem rowmax_apply (v : Vec Ideal S64x128 .bf16) (j : S64.Idx) :
    (rowmax v j : EReal) = (Finset.univ : Finset (Fin 128)).fold max ⊥ (fun l => Cert.Spec.ab (v (ix2 (j 0) l))) := by
  have hv : k0_pay1 v = v := shapeCast_self _ _
  refine (Ideal.multiReduction_maximumf_single (absf (k0_pay1 v)) 0xFF80#16 reduces_S64x128_S64 (.inr rfl) rfl j).trans ?_
  rw [hv, bf16_bot]
  refine congrArg (fun f => (Finset.univ : Finset (Fin 128)).fold (max : EReal → EReal → EReal) ⊥ f) (funext fun l => ?_)
  show Cert.Spec.ab (v (reduces_S64x128_S64.lift j l)) = _
  exact congrArg (fun i => Cert.Spec.ab (v i)) (lift_row _ j l)

/-- The target of the row that an element lies in. -/
theorem target_tile (v : Vec Ideal S64x128 .bf16) (y : S64x128.Idx) :
    k0_pay2 v y = Cert.Spec.top (fun l => v (ix2 (y 0) l)) := by
  have e : broadcastTo S64x128 (shapeCast S64x1 (shapeCast S64x1 (rowmax v) shapeCasts_S64_S64x1)
      shapeCasts_S64x1_S64x1) broadcasts_S64x1_S64x128 y = rowmax v (ix1 (y 0)) := by
    refine (broadcastTo_apply _ _ y (ix2 (n0 := 64) (n1 := 1) (y 0) 0) (by intro a; match a with | ⟨0, _⟩ => rfl | ⟨1, _⟩ => rfl)).trans ?_
    refine (congrFun (shapeCast_self _ shapeCasts_S64x1_S64x1) _).trans ?_
    exact shapeCast_a_a1_apply _ _ _ _
  exact congrArg (fun x : EReal => x * Ideal.ofBits .f32 0x3B124925#32) (e.trans (rowmax_apply v _))

theorem scale_tile (v : Vec Ideal S64x128 .bf16) (y : S64x128.Idx) :
    scaleT v y = Cert.Scalar.kScale (Cert.Spec.top (fun l => v (ix2 (y 0) l))) := by
  rw [← target_tile]
  unfold scaleT k0_pay9 k0_pay8 Cert.Scalar.kScale
  show (if BitVec.ofBool (decide (k0_pay7 (k0_pay2 v) (k0_pay3 v) (k0_pay4 v) (k0_pay5 v) y = 0#32)) = 1#1 then Ideal.ofBits .f32 0x3F800000#32
    else Ideal.ofBits .f32 (k0_pay7 (k0_pay2 v) (k0_pay3 v) (k0_pay4 v) (k0_pay5 v) y + 8388608#32)) = _
  rw [expo_tile]
  by_cases h : Cert.Scalar.expo (k0_pay2 v y) = 0#32 <;> simp [h]

theorem code_tile (v : Vec Ideal S64x128 .bf16) (y : S64x128.Idx) :
    codeT v y = Cert.Spec.clip (v y * Cert.Scalar.kInv (Cert.Spec.top (fun l => v (ix2 (y 0) l)))) := by
  rw [← target_tile]
  unfold codeT k0_pay10 k0_pay8 Cert.Scalar.kInv Cert.Spec.clip
  show min (Ideal.ofBits .f32 0x43E00000#32) (max (Ideal.ofBits .f32 0xC3E00000#32) (k0_pay1 v y *
    (if BitVec.ofBool (decide (k0_pay7 (k0_pay2 v) (k0_pay3 v) (k0_pay4 v) (k0_pay5 v) y = 0#32)) = 1#1 then Ideal.ofBits .f32 0x3F800000#32
    else Ideal.ofBits .f32 (2122317824#32 - k0_pay7 (k0_pay2 v) (k0_pay3 v) (k0_pay4 v) (k0_pay5 v) y)))) = _
  rw [expo_tile]
  unfold k0_pay1
  rw [shapeCast_self]
  by_cases h : Cert.Scalar.expo (k0_pay2 v y) = 0#32 <;> simp [h]

theorem wide_tile (v : Vec Ideal S64x128 .bf16) (y : S64x128.Idx) : wideT v y = codeT v y * scaleT v y := by
  unfold wideT codeT scaleT k0_pay11
  rw [shapeCast_self]
  rfl

end Cert.KernelIdeal.Dgrad
-- ==== Proof.Value.Block.lean ====
/-
  The blocks that the kernel stages, over the extended reals: of a block of 512 rows of a matrix they
  are the same rows of what Value/Spec.lean says of the whole matrix.
-/
module

public import proofs.«01_k».proof.Proof.Ideal.Weights
public import proofs.«01_k».proof.Proof.Value.Tile
public import Idealize.ShloMosaic.Lib.MatmulPlain

@[expose] public section

set_option maxRecDepth 16384

noncomputable section

namespace Cert.KernelIdeal.Dgrad

open Cert.KernelIdeal Cert.KernelIdeal.Gen
open Idealize.ShloMosaic Idealize.ShloMosaic.ValueIdx
open Cert.Spec (SX SW SB SG SO lane grp)

/-- Every group's target is under `2^126`. -/
def Small (X : SX.Idx → EReal) : Prop := ∀ r g, Cert.Spec.target X r g < (((2 : ℝ) ^ (126 : ℤ) : ℝ) : EReal)

/-- The block `x` is rows `R …` of `X`. -/
def Rows (x : Vec Ideal S512x10240 .bf16) (X : SX.Idx → EReal) (R : ℕ) (hR : R + 512 ≤ 24576) : Prop :=
  ∀ y : S512x10240.Idx, (x y : EReal) = X (ix2 ⟨R + (y 0).val, by have := lt0 y; omega⟩ ⟨(y 1).val, lt1 y⟩)

variable {x : Vec Ideal S512x10240 .bf16} {X : SX.Idx → EReal} {R : ℕ} {hR : R + 512 ≤ 24576}

/-- The target of a tile's row is the target of the matrix's row and group. -/
theorem tile_target (hx : Rows x X R hR) (a : Fin 8) (b : Fin 80) (z : S64x128.Idx) (r : Fin 24576) (hr : r.val = R + 64 * a.val + (z 0).val) :
    Cert.Spec.top (fun l => tile x a b (ix2 (n0 := 64) (n1 := 128) (z 0) l)) = Cert.Spec.target X r b := by
  refine congrArg Cert.Spec.top (funext fun l => ?_)
  refine (hx _).trans (congrArg X (idx_ext ?_ ?_))
  · show R + (64 * a.val + (z 0).val) = r.val
    omega
  · rfl

theorem codes_val (hx : Rows x X R hR) (hX : Small X) (y : S512x10240.Idx) :
    (codes x y : EReal) = Cert.Spec.code X (ix2 ⟨R + (y 0).val, by have := lt0 y; omega⟩ ⟨(y 1).val, lt1 y⟩) := by
  have h0 := lt0 y
  have h1 := lt1 y
  refine (code_tile _ _).trans ?_
  rw [tile_target hx (ta y) (tb y) (tl y) ⟨R + (y 0).val, by omega⟩ (by
    show R + (y 0).val = R + 64 * ((y 0).val / 64) + (y 0).val % 64
    omega), Cert.Scalar.inv_eq _ (hX _ _)]
  have e : (tile x (ta y) (tb y) (tl y) : EReal) = X (ix2 ⟨R + (y 0).val, by omega⟩ ⟨(y 1).val, h1⟩) := by
    refine (hx _).trans (congrArg X (idx_ext ?_ ?_))
    · show R + (64 * ((y 0).val / 64) + (y 0).val % 64) = R + (y 0).val
      omega
    · show 128 * ((y 1).val / 128) + (y 1).val % 128 = (y 1).val
      omega
  rw [e]
  rfl

theorem scale_at (hx : Rows x X R hR) (hX : Small X) (a : Fin 8) (b : Fin 80) (z : S64x128.Idx) (r : Fin 24576) (hr : r.val = R + 64 * a.val + (z 0).val) :
    (scaleT (tile x a b) z : EReal) = Cert.Spec.scale X (ix2 r b) := by
  refine (scale_tile _ _).trans ?_
  rw [tile_target hx a b z r hr, Cert.Scalar.scale_eq _ (hX _ _)]
  rfl

theorem scales_val (hx : Rows x X R hR) (hX : Small X) (y : S512x80.Idx) :
    (scales x y : EReal) = Cert.Spec.scale X (ix2 ⟨R + (y 0).val, by have := lt0 y; omega⟩ ⟨(y 1).val, lt1 y⟩) := by
  refine scale_at hx hX _ _ _ _ ?_
  show R + (y 0).val = R + 64 * ((y 0).val / 64) + (y 0).val % 64
  omega

theorem wide_val (hx : Rows x X R hR) (hX : Small X) (y : S512x10240.Idx) :
    (wide x y : EReal) = Cert.Spec.wide X (ix2 ⟨R + (y 0).val, by have := lt0 y; omega⟩ ⟨(y 1).val, lt1 y⟩) := by
  refine (wide_tile _ _).trans ?_
  refine congrArg₂ (fun a b : EReal => a * b) (codes_val hx hX y) ?_
  refine scale_at hx hX _ _ _ _ ?_
  show R + (y 0).val = R + 64 * ((y 0).val / 64) + (y 0).val % 64
  omega

/-- One tile of the product is the same tile of the whole product. -/
theorem dxT_val (i : grid0.Coords) (x0 : Vec Ideal S56x80 .f32) (x2 : Vec Ideal S512x10240 .fp8e4m3) (W : SW.Idx → EReal)
    (hx : Rows x X R hR) (hX : Small X) (hi : (i 1).val < 14)
    (h2 : ∀ z : S512x10240.Idx, (x2 z : EReal) = W (ix2 ⟨512 * (i 1).val + (z 0).val, by have := lt0 z; omega⟩ ⟨(z 1).val, lt1 z⟩))
    (y : S512x512.Idx) :
    (dxT i x0 x2 (wide x) y : EReal)
      = Cert.Spec.grad X W x0 (ix2 ⟨R + (y 0).val, by have := lt0 y; omega⟩ ⟨512 * (i 1).val + (y 1).val, by have := lt1 y; omega⟩) := by
  have h0 := lt0 y
  have h1 := lt1 y
  have e : y = ix2 (n0 := 512) (n1 := 512) ⟨(y 0).val, h0⟩ ⟨(y 1).val, h1⟩ := idx_ext rfl rfl
  have hm := Ideal.matmul_transposedRhs_apply (M := 512) (K := 10240) (N := 512) (φ₁ := .bf16) (φ₂ := .bf16) none (wide x) (wdq i x0 x2)
    (constant S512x512 .f32 0x00000000#32) ⟨(y 0).val, h0⟩ ⟨(y 1).val, h1⟩
  rw [← e] at hm
  refine (show (dxT i x0 x2 (wide x) y : EReal) = _ from hm).trans ?_
  have hz : ((constant (F := Ideal) S512x512 .f32 0x00000000#32) y : EReal) = 0 := Cert.Scalar.ofBits_zero
  refine (congrArg (fun z : EReal => z + _) hz).trans ?_
  rw [zero_add]
  refine Finset.sum_congr rfl fun k _ => ?_
  refine congrArg₂ (fun a b : EReal => a * b) (wide_val hx hX _) ?_
  refine congrArg₂ (fun a b : EReal => a * b) (h2 _) ?_
  refine congrArg (fun z => (x0 z : EReal)) (idx_ext ?_ rfl)
  show 4 * (i 1).val + (y 1).val / 128 = (512 * (i 1).val + (y 1).val) / 128
  omega

end Cert.KernelIdeal.Dgrad
-- ==== Proof.Value.Array.lean ====
/-
  The three arrays the kernel leaves, over the extended reals, where every group's target is under
  `2^126`: what Value/Spec.lean says of the arrays the region finds.
-/
module

public import proofs.«01_k».proof.Proof.Ideal.Data
public import proofs.«01_k».proof.Proof.Value.Block
public import Idealize.ShloMosaic.Lib.Pipeline.Value

@[expose] public section

set_option maxRecDepth 16384

noncomputable section

namespace Cert.KernelIdeal.Dgrad

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The gradients, the weight and its scales, as the region finds them. -/
def gX (c : Dev nD) : Cert.Spec.SX.Idx → EReal := V m c main_v0
def gW (c : Dev nD) : Cert.Spec.SW.Idx → EReal := V m c main_arg1
def gS (c : Dev nD) : Cert.Spec.SB.Idx → EReal := V m c main_arg2

/-! ## The blocks of the windows -/

theorem index0 : ∀ t : Fin grid0.N, win0_0.index t 0 = 0 ∧ win0_0.index t 1 = 0 := by decide +kernel
theorem index2 : ∀ t : Fin grid0.N, win0_2.index t 0 = t.val % 14 ∧ win0_2.index t 1 = 0 := by decide +kernel
theorem index3 : ∀ t : Fin grid0.N, win0_3.index t 0 = t.val / 14 ∧ win0_3.index t 1 = t.val % 14 := by decide +kernel
theorem index4 : ∀ t : Fin grid0.N, win0_4.index t 0 = t.val / 14 ∧ win0_4.index t 1 = 0 := by decide +kernel
theorem index5 : ∀ t : Fin grid0.N, win0_5.index t 0 = t.val / 14 ∧ win0_5.index t 1 = 0 := by decide +kernel

theorem coord1 (t : Fin cfg0.N) : (grid0.coords t 1).val = t.val % 14 := by
  have e1 : (grid0.coords t 1).val = t.val / 1 % 14 := Pipeline.Grid.coords_val t 1 (by decide) rfl
  simpa using e1

theorem rows_dy (c : Dev nD) (t : Fin cfg0.N) :
    Rows (dyBlk m c t) (gX m c) (512 * (t.val / 14)) (by have := N672 t; omega) := fun y => dyBlk_apply m c t y

theorem iblk0 (c : Dev nD) (t : Fin cfg0.N) : (iblk m c 0 t : S56x80.Idx → EReal) = gS m c := by
  funext y
  refine (show iblk m c 0 t y = V m c main_arg2 ((win0_0.rect t).emb y) from rfl).trans ?_
  refine congrArg (V m c main_arg2) (idx_ext (a := 56) (b := 80) ?_ ?_)
  · show win0_0.index t 0 * 56 + 1 * (y 0).val = (y 0).val
    rw [(index0 t).1]; omega
  · show win0_0.index t 1 * 80 + 1 * (y 1).val = (y 1).val
    rw [(index0 t).2]; omega

theorem iblk2 (c : Dev nD) (t : Fin cfg0.N) (z : S512x10240.Idx) :
    (iblk m c 2 t z : EReal) = gW m c (ix2 ⟨512 * (grid0.coords t 1).val + (z 0).val, by have := lt0 z; have := coord1 t; omega⟩ ⟨(z 1).val, lt1 z⟩) := by
  refine (show iblk m c 2 t z = V m c main_arg1 ((win0_2.rect t).emb z) from rfl).trans ?_
  refine congrArg (V m c main_arg1) (idx_ext (a := 7168) (b := 10240) ?_ ?_)
  · show win0_2.index t 0 * 512 + 1 * (z 0).val = 512 * (grid0.coords t 1).val + (z 0).val
    rw [(index2 t).1, coord1]; omega
  · show win0_2.index t 1 * 10240 + 1 * (z 1).val = (z 1).val
    rw [(index2 t).2]; omega

/-! ## What is written back -/

theorem flushed3 (hX : ∀ c, Small (gX m c)) (c : Dev nD) (t : Fin cfg0.N) :
    (dats m 0 c).flushed 3 t = (win0_3.blk t).view.read (Elt Ideal) (Cert.Spec.grad (gX m c) (gW m c) (gS m c)) := by
  show (cfg0.win 3).cut (grid0.coords t) ((dats m 0 c).after 3 t) = _
  rw [after0_3]
  funext y
  refine (dxT_val (grid0.coords t) (iblk m c 0 t) (iblk m c 2 t) (gW m c) (rows_dy m c t) (hX c)
    (by rw [coord1]; omega) (iblk2 m c t) y).trans ?_
  rw [iblk0]
  show _ = Cert.Spec.grad (gX m c) (gW m c) (gS m c) ((win0_3.rect t).emb y)
  refine congrArg (Cert.Spec.grad (gX m c) (gW m c) (gS m c)) (idx_ext (a := 24576) (b := 7168) ?_ ?_)
  · show 512 * (t.val / 14) + (y 0).val = win0_3.index t 0 * 512 + 1 * (y 0).val
    rw [(index3 t).1]; omega
  · show 512 * (grid0.coords t 1).val + (y 1).val = win0_3.index t 1 * 512 + 1 * (y 1).val
    rw [(index3 t).2, coord1]; omega

theorem flushed4 (hX : ∀ c, Small (gX m c)) (c : Dev nD) (t : Fin cfg0.N) :
    (dats m 0 c).flushed 4 t = (win0_4.blk t).view.read (Elt Ideal) (Cert.Spec.code (gX m c)) := by
  show (cfg0.win 4).cut (grid0.coords t) (codes (dyBlk m c t)) = _
  funext y
  refine (codes_val (rows_dy m c t) (hX c) y).trans ?_
  show _ = Cert.Spec.code (gX m c) ((win0_4.rect t).emb y)
  refine congrArg (Cert.Spec.code (gX m c)) (idx_ext (a := 24576) (b := 10240) ?_ ?_)
  · show 512 * (t.val / 14) + (y 0).val = win0_4.index t 0 * 512 + 1 * (y 0).val
    rw [(index4 t).1]; omega
  · show (y 1).val = win0_4.index t 1 * 10240 + 1 * (y 1).val
    rw [(index4 t).2]; omega

theorem flushed5 (hX : ∀ c, Small (gX m c)) (c : Dev nD) (t : Fin cfg0.N) :
    (dats m 0 c).flushed 5 t = (win0_5.blk t).view.read (Elt Ideal) (Cert.Spec.scale (gX m c)) := by
  show (cfg0.win 5).cut (grid0.coords t) (scales (dyBlk m c t)) = _
  funext y
  refine (scales_val (rows_dy m c t) (hX c) y).trans ?_
  show _ = Cert.Spec.scale (gX m c) ((win0_5.rect t).emb y)
  refine congrArg (Cert.Spec.scale (gX m c)) (idx_ext (a := 24576) (b := 80) ?_ ?_)
  · show 512 * (t.val / 14) + (y 0).val = win0_5.index t 0 * 512 + 1 * (y 0).val
    rw [(index5 t).1]; omega
  · show (y 1).val = win0_5.index t 1 * 80 + 1 * (y 1).val
    rw [(index5 t).2]; omega

/-! ## The blocks cover the arrays -/

theorem cover3 (i : S24576x7168.Idx) : ∃ t : Fin cfg0.N, (cfg0.win 3).flush t = true ∧ i ∈ ((cfg0.win 3).blk t).view.set := by
  have h0 : (i 0 : Nat) < 24576 := (i 0).isLt
  have h1 : (i 1 : Nat) < 7168 := (i 1).isLt
  have hN : cfg0.N = 672 := N_0
  refine ⟨⟨(i 0).val / 512 * 14 + (i 1).val / 512, by omega⟩, flush0_3 _, ?_⟩
  generalize ht : (⟨(i 0).val / 512 * 14 + (i 1).val / 512, _⟩ : Fin cfg0.N) = t
  have hv : (i 0).val / 512 * 14 + (i 1).val / 512 = t.val := congrArg Fin.val ht
  show i ∈ ((View.whole main_v1_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(index3 t).1]; omega
  | ⟨1, _⟩ =>
    show win0_3.index t 1 * 512 ≤ (i 1 : Nat) ∧ (i 1 : Nat) < win0_3.index t 1 * 512 + 512
    rw [(index3 t).2]; omega

theorem cover4 (i : S24576x10240.Idx) : ∃ t : Fin cfg0.N, (cfg0.win 4).flush t = true ∧ i ∈ ((cfg0.win 4).blk t).view.set := by
  have h0 : (i 0 : Nat) < 24576 := (i 0).isLt
  have h1 : (i 1 : Nat) < 10240 := (i 1).isLt
  have hN : cfg0.N = 672 := N_0
  refine ⟨⟨(i 0).val / 512 * 14 + 13, by omega⟩, (flush0_4 _).2 (by show ((i 0).val / 512 * 14 + 13) % 14 = 13; omega), ?_⟩
  generalize ht : (⟨(i 0).val / 512 * 14 + 13, _⟩ : Fin cfg0.N) = t
  have hv : (i 0).val / 512 * 14 + 13 = t.val := congrArg Fin.val ht
  show i ∈ ((View.whole main_v1_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [(index4 t).1]; omega
  | ⟨1, _⟩ =>
    show win0_4.index t 1 * 10240 ≤ (i 1 : Nat) ∧ (i 1 : Nat) < win0_4.index t 1 * 10240 + 10240
    rw [(index4 t).2]; omega

theorem cover5 (i : S24576x80.Idx) : ∃ t : Fin cfg0.N, (cfg0.win 5).flush t = true ∧ i ∈ ((cfg0.win 5).blk t).view.set := by
  have h0 : (i 0 : Nat) < 24576 := (i 0).isLt
  have h1 : (i 1 : Nat) < 80 := (i 1).isLt
  have hN : cfg0.N = 672 := N_0
  refine ⟨⟨(i 0).val / 512 * 14 + 13, by omega⟩, (flush0_5 _).2 (by show ((i 0).val / 512 * 14 + 13) % 14 = 13; omega), ?_⟩
  generalize ht : (⟨(i 0).val / 512 * 14 + 13, _⟩ : Fin cfg0.N) = t
  have hv : (i 0).val / 512 * 14 + 13 = t.val := congrArg Fin.val ht
  show i ∈ ((View.whole main_v1_2).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index5 t).1]; omega
  | ⟨1, _⟩ =>
    show win0_5.index t 1 * 80 ≤ (i 1 : Nat) ∧ (i 1 : Nat) < win0_5.index t 1 * 80 + 80
    rw [(index5 t).2]; omega

theorem final3 (hX : ∀ c, Small (gX m c)) (c : Dev nD) :
    (dats m 0 c).arrAt 3 cfg0.N = Cert.Spec.grad (gX m c) (gW m c) (gS m c) :=
  (dats m 0 c).arrAt_eq_of_cover 3 (Cert.Spec.grad (gX m c) (gW m c) (gS m c)) (fun t _ => flushed3 m hX c t) cover3
theorem final4 (hX : ∀ c, Small (gX m c)) (c : Dev nD) : (dats m 0 c).arrAt 4 cfg0.N = Cert.Spec.code (gX m c) :=
  (dats m 0 c).arrAt_eq_of_cover 4 (Cert.Spec.code (gX m c)) (fun t _ => flushed4 m hX c t) cover4
theorem final5 (hX : ∀ c, Small (gX m c)) (c : Dev nD) : (dats m 0 c).arrAt 5 cfg0.N = Cert.Spec.scale (gX m c) :=
  (dats m 0 c).arrAt_eq_of_cover 5 (Cert.Spec.scale (gX m c)) (fun t _ => flushed5 m hX c t) cover5

/-- The run, read: the three results, and the arguments unchanged. -/
theorem run_value (hX : ∀ c, Small (gX m c)) :
    θ_run defs (onTc (τ := τ) (main (F := Ideal))) ⟨m, fun _ => 0, ρ⟩ (fun r => ∀ c : Dev nD,
      r.2.mem ((c.tc : Thread nD τ).loc main_v1_0) = Cert.Spec.grad (gX m c) (gW m c) (gS m c)
      ∧ r.2.mem ((c.tc : Thread nD τ).loc main_v1_1) = Cert.Spec.code (gX m c)
      ∧ r.2.mem ((c.tc : Thread nD τ).loc main_v1_2) = Cert.Spec.scale (gX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m hX c), ((h c).1 4).trans (final4 m hX c),
    ((h c).1 5).trans (final5 m hX c),
    ((h c).2 main_arg0 (Pipeline.mem_restRefs_of main_arg0 (by decide) (by decide))).trans (V_main_arg0 m c),
    ((h c).1 2).trans (((dats m 0 c).arrAt_in 2 rfl _).trans ((A_eq m c 2).trans (V_main_arg1 m c))),
    ((h c).1 0).trans (((dats m 0 c).arrAt_in 0 rfl _).trans ((A_eq m c 0).trans (V_main_arg2 m c)))⟩) (run_main m ρ)

end Cert.KernelIdeal.Dgrad
-- ==== Proof.Value.Ref.lean ====
/-
  The reference's three results, over the extended reals: what Value/Spec.lean says, of any gradients,
  weight and scales. Its body is one point with whole arrays, so its arrays end at its payloads.
-/
module

public import proofs.«01_k».proof.Proof.Gen.ReferenceIdeal.Frame
public import proofs.«01_k».proof.Proof.Value.Spec
public import Idealize.ShloMosaic.Lib.MatmulPlain
public import Idealize.ShloMosaic.Lib.Pipeline.Value

@[expose] public section

set_option maxRecDepth 16384

noncomputable section

namespace Cert.ReferenceIdeal.Value

open Cert.ReferenceIdeal Cert.ReferenceIdeal.Gen
open Idealize.ShloMosaic Idealize.ShloMosaic.TcCoe Idealize.SL.Sem Idealize.ShloMosaic.ValueIdx
open Idealize.ShloMosaic.Pipeline (Dat)
open Cert.Spec (lane grp ext2)

/-! ## The payloads -/

/-- Grouping the lanes. -/
theorem grouped {α : Type} (v : S24576x10240.Idx → α) (h : S24576x10240.ShapeCasts S24576x80x128) (r : Fin 24576) (g : Fin 80) (l : Fin 128) :
    shapeCast S24576x80x128 v h (ix3 (n0 := 24576) (n1 := 80) (n2 := 128) r g l) = v (ix2 (n0 := 24576) (n1 := 10240) r (lane g l)) :=
  shapeCast_apply v h _ _ (by
    rw [Shape.rowMajor_val_two, Shape.rowMajor_val_three]
    show r.val * 10240 + (128 * g.val + l.val) = (r.val * 80 + g.val) * 128 + l.val
    omega)

/-- Ungrouping them. -/
theorem ungrouped {α : Type} (v : S24576x80x128.Idx → α) (h : S24576x80x128.ShapeCasts S24576x10240) (r : Fin 24576) (k : Fin 10240) :
    shapeCast S24576x10240 v h (ix2 (n0 := 24576) (n1 := 10240) r k)
      = v (ix3 (n0 := 24576) (n1 := 80) (n2 := 128) r (grp k) ⟨k.val % 128, Nat.mod_lt _ (by omega)⟩) :=
  shapeCast_apply v h _ _ (by
    rw [Shape.rowMajor_val_two, Shape.rowMajor_val_three]
    show (r.val * 80 + k.val / 128) * 128 + k.val % 128 = r.val * 10240 + k.val
    omega)

theorem lane_grp (k : Fin 10240) : lane (grp k) ⟨k.val % 128, Nat.mod_lt _ (by omega)⟩ = k := by
  apply Fin.ext
  show 128 * (k.val / 128) + k.val % 128 = k.val
  omega

/-- A value of each group, read at a lane. -/
theorem spread {α : Type} (v : S24576x80.Idx → α) (h : S24576x80.ShapeCasts S24576x80x1) (h' : S24576x80x1.Broadcasts S24576x80x128)
    (r : Fin 24576) (g : Fin 80) (l : Fin 128) :
    broadcastTo S24576x80x128 (shapeCast S24576x80x1 v h) h' (ix3 (n0 := 24576) (n1 := 80) (n2 := 128) r g l)
      = v (ix2 (n0 := 24576) (n1 := 80) r g) := by
  refine (broadcastTo_apply _ h' _ (ix3 (n0 := 24576) (n1 := 80) (n2 := 1) r g 0)
    (by intro a; match a with | ⟨0, _⟩ => rfl | ⟨1, _⟩ => rfl | ⟨2, _⟩ => rfl)).trans ?_
  exact shapeCast_apply v h _ _ (by
    rw [Shape.rowMajor_val_two, Shape.rowMajor_val_three]
    show r.val * 80 + g.val = (r.val * 80 + g.val) * 1 + 0
    omega)

variable (v : Vec Ideal S24576x10240 .bf16)

theorem pay3_apply (r : Fin 24576) (g : Fin 80) (l : Fin 128) :
    (k0_pay3 v (ix3 (n0 := 24576) (n1 := 80) (n2 := 128) r g l) : EReal) = v (ix2 (n0 := 24576) (n1 := 10240) r (lane g l)) := by
  refine (grouped (shapeCast S24576x10240 v shapeCasts_S24576x10240_S24576x10240) _ r g l).trans ?_
  exact congrFun (shapeCast_self v _) _

theorem f32_bot : (FloatOps.ofBits (F := Ideal) .f32 0xFF800000#32 : EReal) = ⊥ := by
  show Ideal.ieee 8 23 0xFF800000#32 = (⊥ : EReal)
  simp [Ideal.ieee]

theorem lift_group (h : S24576x80x128.Reduces [2] S24576x80) (r : Fin 24576) (g : Fin 80) (l : Fin 128) :
    h.lift (ix2 (n0 := 24576) (n1 := 80) r g) l = ix3 (n0 := 24576) (n1 := 80) (n2 := 128) r g l := by
  funext a
  match a with
  | ⟨0, _⟩ => rfl
  | ⟨1, _⟩ => rfl
  | ⟨2, _⟩ => rfl

/-- The largest magnitude of each group. -/
def groupmax : FVec Ideal S24576x80 .f32 :=
  multiReduction .maximumf [2] S24576x80 (absf (k0_pay3 v)) 0xFF800000#32 reduces_S24576x80x128_S24576x80 (.inl rfl) rfl

theorem groupmax_apply (r : Fin 24576) (g : Fin 80) :
    (groupmax v (ix2 (n0 := 24576) (n1 := 80) r g) : EReal)
      = (Finset.univ : Finset (Fin 128)).fold max ⊥ (fun l => Cert.Spec.ab (v (ix2 (n0 := 24576) (n1 := 10240) r (lane g l)))) := by
  refine (Ideal.multiReduction_maximumf_single (absf (k0_pay3 v)) 0xFF800000#32 reduces_S24576x80x128_S24576x80 (.inl rfl) rfl _).trans ?_
  rw [f32_bot]
  refine congrArg (fun f => (Finset.univ : Finset (Fin 128)).fold (max : EReal → EReal → EReal) ⊥ f) (funext fun l => ?_)
  show Cert.Spec.ab (k0_pay3 v (reduces_S24576x80x128_S24576x80.lift (ix2 (n0 := 24576) (n1 := 80) r g) l)) = _
  refine (congrArg (fun i => Cert.Spec.ab (k0_pay3 v i)) (lift_group _ r g l)).trans ?_
  exact congrArg Cert.Spec.ab (pay3_apply v r g l)

/-- The exponents, of the largest magnitudes. -/
def exponents (q : FVec Ideal S24576x80 .f32) : FVec Ideal S24576x80 .f32 :=
  have t : FVec Ideal S24576x80 .f32 := mulf q (broadcast S24576x80 (Scalar.ofBits (F := Ideal) .f32 0x3B124925#32))
  have f : FVec Ideal S24576x80 .f32 :=
    select (cmpf .olt t (broadcast S24576x80 (Scalar.ofBits (F := Ideal) .f32 0x00800000#32))) (broadcast S24576x80 (Scalar.ofBits (F := Ideal) .f32 0x00000000#32)) t
  select (cmpf .oeq f (broadcast S24576x80 (Scalar.ofBits (F := Ideal) .f32 0x00000000#32))) (broadcast S24576x80 (Scalar.ofBits (F := Ideal) .f32 0x00000000#32))
    (addf (floor (divf (log f) (log (broadcast S24576x80 (Scalar.ofBits (F := Ideal) .f32 0x40000000#32))))) (broadcast S24576x80 (Scalar.ofBits (F := Ideal) .f32 0x3F800000#32)))

theorem pay4_eq : k0_pay4 v = exponents (groupmax v) := rfl

theorem exponents_apply (q : FVec Ideal S24576x80 .f32) (i : S24576x80.Idx) :
    (exponents q i : EReal) = Cert.Scalar.rExp ((q i : EReal) * Ideal.ofBits .f32 0x3B124925#32) := by
  have hs : ∀ (x y a b : EReal), (if BitVec.ofBool (decide (x < y)) = 1#1 then a else b) = if x < y then a else b := by
    intro x y a b
    by_cases h : x < y <;> simp [h]
  have he : ∀ (x y a b : EReal), (if BitVec.ofBool (decide (x = y)) = 1#1 then a else b) = if x = y then a else b := by
    intro x y a b
    by_cases h : x = y <;> simp [h]
  unfold Cert.Scalar.rExp Cert.Scalar.flush
  rw [← hs, ← he]
  rfl

theorem pay4_apply (r : Fin 24576) (g : Fin 80) : (k0_pay4 v (ix2 (n0 := 24576) (n1 := 80) r g) : EReal) = Cert.Spec.ex v r g := by
  rw [pay4_eq]
  refine (exponents_apply (groupmax v) _).trans ?_
  exact congrArg (fun x : EReal => Cert.Scalar.rExp (x * Ideal.ofBits .f32 0x3B124925#32)) (groupmax_apply v r g)

/-- A power of two of each element, and of its opposite; a cast. -/
theorem exp2_apply (q : FVec Ideal S24576x80 .f32) (i : S24576x80.Idx) : (exp2 q i : EReal) = Ideal.exp2 (q i) := rfl
theorem cast_apply (q : FVec Ideal S24576x80 .f32) (i : S24576x80.Idx) : (truncf .bf16 q bitsLt_bf16_f32 i : EReal) = q i := rfl
theorem exp2_neg_apply (q : FVec Ideal S24576x80 .f32) (i : S24576x80.Idx) :
    (exp2 (subf (broadcast S24576x80 (Scalar.ofBits (F := Ideal) .f32 0x00000000#32)) q) i : EReal) = Ideal.exp2 (Ideal.ofBits .f32 0x00000000#32 - q i) := rfl

theorem pay5_eq : (k0_pay5 v : S24576x80.Idx → EReal) = Cert.Spec.scale v := by
  funext y
  obtain ⟨r, g, rfl⟩ : ∃ r g, y = ix2 (n0 := 24576) (n1 := 80) r g := ⟨y 0, y 1, eq_ix2 y⟩
  refine (exp2_apply (k0_pay4 v) _).trans ?_
  rw [pay4_apply]
  rfl

theorem pay6_apply (r : Fin 24576) (g : Fin 80) (l : Fin 128) :
    (k0_pay6 v (ix3 (n0 := 24576) (n1 := 80) (n2 := 128) r g l) : EReal) = Cert.Spec.code v (ix2 r (lane g l)) := by
  have hg : grp (lane g l) = g := by
    apply Fin.ext
    show (128 * g.val + l.val) / 128 = g.val
    have := l.isLt
    omega
  have h1 := spread (exp2 (subf (broadcast S24576x80 (Scalar.ofBits (F := Ideal) .f32 0x00000000#32)) (k0_pay4 v)))
    shapeCasts_S24576x80_S24576x80x1 broadcasts_S24576x80x1_S24576x80x128 r g l
  have h2 : (exp2 (subf (broadcast S24576x80 (Scalar.ofBits (F := Ideal) .f32 0x00000000#32)) (k0_pay4 v)) (ix2 (n0 := 24576) (n1 := 80) r g) : EReal)
      = Ideal.exp2 (Ideal.ofBits .f32 0x00000000#32 - Cert.Spec.ex v r g) :=
    (exp2_neg_apply (k0_pay4 v) _).trans (congrArg (fun x : EReal => Ideal.exp2 (Ideal.ofBits .f32 0x00000000#32 - x)) (pay4_apply v r g))
  unfold k0_pay6 Cert.Spec.code
  show _ = Cert.Spec.clip (v (ix2 r (lane g l)) * Ideal.exp2 (Ideal.ofBits .f32 0x00000000#32 - Cert.Spec.ex v r (grp (lane g l))))
  rw [hg, ← h2, ← h1, ← pay3_apply v r g l]
  rfl

theorem codes_eq : (k0_pay2 (k0_pay6 v) : S24576x10240.Idx → EReal) = Cert.Spec.code v := by
  funext y
  obtain ⟨r, k, rfl⟩ : ∃ r k, y = ix2 (n0 := 24576) (n1 := 10240) r k := ⟨y 0, y 1, eq_ix2 y⟩
  refine (ungrouped (k0_pay6 v) _ r k).trans ?_
  rw [pay6_apply, lane_grp]

theorem pay7_apply (r : Fin 24576) (g : Fin 80) (l : Fin 128) :
    (k0_pay7 v (ix3 (n0 := 24576) (n1 := 80) (n2 := 128) r g l) : EReal)
      = Cert.Spec.code v (ix2 r (lane g l)) * Cert.Spec.scale v (ix2 r g) := by
  rw [← pay6_apply]
  have h1 := spread (truncf .bf16 (k0_pay5 v) bitsLt_bf16_f32) shapeCasts_S24576x80_S24576x80x1 broadcasts_S24576x80x1_S24576x80x128 r g l
  have h2 : (truncf .bf16 (k0_pay5 v) bitsLt_bf16_f32 (ix2 (n0 := 24576) (n1 := 80) r g) : EReal) = Cert.Spec.scale v (ix2 r g) :=
    (cast_apply (k0_pay5 v) _).trans (congrFun (pay5_eq v) _)
  rw [← h2, ← h1]
  unfold k0_pay7
  rfl

/-- The codes times their scales, ungrouped. -/
theorem wide_apply (r : Fin 24576) (k : Fin 10240) :
    (shapeCast S24576x10240 (k0_pay7 v) shapeCasts_S24576x80x128_S24576x10240 (ix2 (n0 := 24576) (n1 := 10240) r k) : EReal)
      = Cert.Spec.wide v (ix2 r k) := by
  refine (ungrouped (k0_pay7 v) _ r k).trans ?_
  rw [pay7_apply, lane_grp]
  rfl

variable (w : FVec Ideal S7168x10240 .fp8e4m3) (s : FVec Ideal S56x80 .f32)

/-- The weight in blocks, times the scale of each. -/
def blocks : FVec Ideal S56x128x80x128 .bf16 :=
  mulf (k0_pay8 w) (broadcastTo S56x128x80x128 (shapeCast S56x1x80x1 (truncf .bf16 s bitsLt_bf16_f32) shapeCasts_S56x80_S56x1x80x1)
    broadcasts_S56x1x80x1_S56x128x80x128)

theorem wgt_apply (n : Fin 7168) (k : Fin 10240) :
    (shapeCast S7168x10240 (blocks w s) shapeCasts_S56x128x80x128_S7168x10240 (ix2 (n0 := 7168) (n1 := 10240) n k) : EReal)
      = Cert.Spec.wgt w s (ix2 n k) := by
  refine (shapeCast_apply (blocks w s) _ _
    (ix4 (n0 := 56) (n1 := 128) (n2 := 80) (n3 := 128) (Cert.Spec.blk n) ⟨n.val % 128, Nat.mod_lt _ (by omega)⟩ (grp k) ⟨k.val % 128, Nat.mod_lt _ (by omega)⟩) (by
    rw [Shape.rowMajor_val_two, Shape.rowMajor_val_four]
    show ((n.val / 128 * 128 + n.val % 128) * 80 + k.val / 128) * 128 + k.val % 128 = n.val * 10240 + k.val
    omega)).trans ?_
  refine congrArg₂ (fun a b : EReal => a * b) ?_ ?_
  · refine shapeCast_apply (extf .bf16 w bitsLt_fp8e4m3_bf16) shapeCasts_S7168x10240_S56x128x80x128 _ (ix2 (n0 := 7168) (n1 := 10240) n k) ?_
    rw [Shape.rowMajor_val_two, Shape.rowMajor_val_four]
    show n.val * 10240 + k.val = ((n.val / 128 * 128 + n.val % 128) * 80 + k.val / 128) * 128 + k.val % 128
    omega
  · refine (broadcastTo_apply _ broadcasts_S56x1x80x1_S56x128x80x128 _ (ix4 (n0 := 56) (n1 := 1) (n2 := 80) (n3 := 1) (Cert.Spec.blk n) 0 (grp k) 0)
      (by intro a; match a with | ⟨0, _⟩ => rfl | ⟨1, _⟩ => rfl | ⟨2, _⟩ => rfl | ⟨3, _⟩ => rfl)).trans ?_
    refine shapeCast_apply (truncf .bf16 s bitsLt_bf16_f32) shapeCasts_S56x80_S56x1x80x1 _ (ix2 (n0 := 56) (n1 := 80) (Cert.Spec.blk n) (grp k)) ?_
    rw [Shape.rowMajor_val_two, Shape.rowMajor_val_four]
    show n.val / 128 * 80 + k.val / 128 = ((n.val / 128 * 1 + 0) * 80 + k.val / 128) * 1 + 0
    omega

theorem grad_eq : (k0_pay1 (k0_pay7 v) (k0_pay8 w) s : S24576x7168.Idx → EReal) = Cert.Spec.grad v w s := by
  funext y
  obtain ⟨r, n, rfl⟩ : ∃ r n, y = ix2 (n0 := 24576) (n1 := 7168) r n := ⟨y 0, y 1, eq_ix2 y⟩
  have hm := Ideal.matmul_transposedRhs_apply (M := 24576) (K := 10240) (N := 7168) (φ₁ := .bf16) (φ₂ := .bf16) none
    (shapeCast S24576x10240 (k0_pay7 v) shapeCasts_S24576x80x128_S24576x10240) (shapeCast S7168x10240 (blocks w s) shapeCasts_S56x128x80x128_S7168x10240)
    (constant S24576x7168 .f32 0x00000000#32) r n
  refine (show (k0_pay1 (k0_pay7 v) (k0_pay8 w) s (ix2 (n0 := 24576) (n1 := 7168) r n) : EReal) = _ from hm).trans ?_
  have hz : ((constant (F := Ideal) S24576x7168 .f32 0x00000000#32) (ix2 (n0 := 24576) (n1 := 7168) r n) : EReal) = 0 := Cert.Scalar.ofBits_zero
  refine (congrArg (fun z : EReal => z + _) hz).trans ?_
  rw [zero_add]
  exact Finset.sum_congr rfl fun k _ => congrArg₂ (fun a b : EReal => a * b) (wide_apply v r k) (wgt_apply w s n k)

/-! ## The arrays -/

variable (m : (ℓ : Loc nD τ sig) → Buf (Elt Ideal) ℓ) (ρ : Dev nD → PrngReg)

/-- The gradients, the weight and its scales, as the region finds them. -/
def gX (c : Dev nD) : Cert.Spec.SX.Idx → EReal := V m c main_v0
def gW (c : Dev nD) : Cert.Spec.SW.Idx → EReal := V m c main_arg1
def gS (c : Dev nD) : Cert.Spec.SB.Idx → EReal := V m c main_arg2

theorem index0 : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) := by decide +kernel

theorem iblk0 (c : Dev nD) (t : Fin cfg0.N) : (iblk m c 0 t : S24576x10240.Idx → EReal) = gX m c := by
  funext y
  refine (show iblk m c 0 t y = V m c main_v0 ((win0_0.rect t).emb y) from rfl).trans ?_
  refine congrArg (V m c main_v0) (ext2 (a := 24576) (b := 10240) ?_ ?_)
  · show win0_0.index t 0 * 24576 + 1 * (y 0).val = (y 0).val
    rw [(index0 t).1.1]; omega
  · show win0_0.index t 1 * 10240 + 1 * (y 1).val = (y 1).val
    rw [(index0 t).1.2]; omega
theorem iblk1 (c : Dev nD) (t : Fin cfg0.N) : (iblk m c 1 t : S7168x10240.Idx → EReal) = gW m c := by
  funext y
  refine (show iblk m c 1 t y = V m c main_arg1 ((win0_1.rect t).emb y) from rfl).trans ?_
  refine congrArg (V m c main_arg1) (ext2 (a := 7168) (b := 10240) ?_ ?_)
  · show win0_1.index t 0 * 7168 + 1 * (y 0).val = (y 0).val
    rw [(index0 t).2.1.1]; omega
  · show win0_1.index t 1 * 10240 + 1 * (y 1).val = (y 1).val
    rw [(index0 t).2.1.2]; omega
theorem iblk2 (c : Dev nD) (t : Fin cfg0.N) : (iblk m c 2 t : S56x80.Idx → EReal) = gS m c := by
  funext y
  refine (show iblk m c 2 t y = V m c main_arg2 ((win0_2.rect t).emb y) from rfl).trans ?_
  refine congrArg (V m c main_arg2) (ext2 (a := 56) (b := 80) ?_ ?_)
  · show win0_2.index t 0 * 56 + 1 * (y 0).val = (y 0).val
    rw [(index0 t).2.2.1.1]; omega
  · show win0_2.index t 1 * 80 + 1 * (y 1).val = (y 1).val
    rw [(index0 t).2.2.1.2]; omega

theorem hz : (![0, 0] : Fin 2 → ℕ) = fun _ => 0 := by decide

theorem flushed3 (c : Dev nD) (t : Fin cfg0.N) :
    (dats m 0 c).flushed 3 t = (win0_3.blk t).view.read (Elt Ideal) (Cert.Spec.grad (gX m c) (gW m c) (gS m c)) := by
  show (cfg0.win 3).cut (grid0.coords t) ((dats m 0 c).after 3 t) = _
  rw [after0_3]
  unfold out0_3
  rw [View.canon_unit_zero hz, View.ld_unit_zero hz, View.ld_unit_zero hz, View.ld_unit_zero hz]
  funext y
  refine (congrFun (grad_eq (iblk m c 0 t) (iblk m c 1 t) (iblk m c 2 t)) y).trans ?_
  rw [iblk0, iblk1, iblk2]
  show _ = Cert.Spec.grad (gX m c) (gW m c) (gS m c) ((win0_3.rect t).emb y)
  refine congrArg (Cert.Spec.grad (gX m c) (gW m c) (gS m c)) (ext2 (a := 24576) (b := 7168) ?_ ?_)
  · show (y 0).val = win0_3.index t 0 * 24576 + 1 * (y 0).val
    rw [(index0 t).2.2.2.1.1]; omega
  · show (y 1).val = win0_3.index t 1 * 7168 + 1 * (y 1).val
    rw [(index0 t).2.2.2.1.2]; omega
theorem flushed4 (c : Dev nD) (t : Fin cfg0.N) :
    (dats m 0 c).flushed 4 t = (win0_4.blk t).view.read (Elt Ideal) (Cert.Spec.code (gX m c)) := by
  show (cfg0.win 4).cut (grid0.coords t) ((dats m 0 c).after 4 t) = _
  rw [after0_4]
  unfold out0_4
  rw [View.canon_unit_zero hz, View.ld_unit_zero hz]
  funext y
  refine (congrFun (codes_eq (iblk m c 0 t)) y).trans ?_
  rw [iblk0]
  show _ = Cert.Spec.code (gX m c) ((win0_4.rect t).emb y)
  refine congrArg (Cert.Spec.code (gX m c)) (ext2 (a := 24576) (b := 10240) ?_ ?_)
  · show (y 0).val = win0_4.index t 0 * 24576 + 1 * (y 0).val
    rw [(index0 t).2.2.2.2.1.1]; omega
  · show (y 1).val = win0_4.index t 1 * 10240 + 1 * (y 1).val
    rw [(index0 t).2.2.2.2.1.2]; omega
theorem flushed5 (c : Dev nD) (t : Fin cfg0.N) :
    (dats m 0 c).flushed 5 t = (win0_5.blk t).view.read (Elt Ideal) (Cert.Spec.scale (gX m c)) := by
  show (cfg0.win 5).cut (grid0.coords t) ((dats m 0 c).after 5 t) = _
  rw [after0_5]
  unfold out0_5
  rw [View.canon_unit_zero hz, View.ld_unit_zero hz]
  funext y
  refine (congrFun (pay5_eq (iblk m c 0 t)) y).trans ?_
  rw [iblk0]
  show _ = Cert.Spec.scale (gX m c) ((win0_5.rect t).emb y)
  refine congrArg (Cert.Spec.scale (gX m c)) (ext2 (a := 24576) (b := 80) ?_ ?_)
  · show (y 0).val = win0_5.index t 0 * 24576 + 1 * (y 0).val
    rw [(index0 t).2.2.2.2.2.1]; omega
  · show (y 1).val = win0_5.index t 1 * 80 + 1 * (y 1).val
    rw [(index0 t).2.2.2.2.2.2]; omega

theorem cover3 (i : S24576x7168.Idx) : ∃ t : Fin cfg0.N, (cfg0.win 3).flush t = true ∧ i ∈ ((cfg0.win 3).blk t).view.set := by
  have h0 : (i 0 : Nat) < 24576 := (i 0).isLt
  have h1 : (i 1 : Nat) < 7168 := (i 1).isLt
  refine ⟨t0_0, flush0_3 _, ?_⟩
  show i ∈ ((View.whole main_v1_0).slice (win0_3.rect t0_0)).set
  rw [View.set_slice_whole, Rect.mem_set_unit]
  intro a
  match a with
  | ⟨0, _⟩ =>
    show win0_3.index t0_0 0 * 24576 ≤ (i 0 : Nat) ∧ (i 0 : Nat) < win0_3.index t0_0 0 * 24576 + 24576
    rw [(index0 t0_0).2.2.2.1.1]; omega
  | ⟨1, _⟩ =>
    show win0_3.index t0_0 1 * 7168 ≤ (i 1 : Nat) ∧ (i 1 : Nat) < win0_3.index t0_0 1 * 7168 + 7168
    rw [(index0 t0_0).2.2.2.1.2]; omega
theorem cover4 (i : S24576x10240.Idx) : ∃ t : Fin cfg0.N, (cfg0.win 4).flush t = true ∧ i ∈ ((cfg0.win 4).blk t).view.set := by
  have h0 : (i 0 : Nat) < 24576 := (i 0).isLt
  have h1 : (i 1 : Nat) < 10240 := (i 1).isLt
  refine ⟨t0_0, flush0_4 _, ?_⟩
  show i ∈ ((View.whole main_v1_1).slice (win0_4.rect t0_0)).set
  rw [View.set_slice_whole, Rect.mem_set_unit]
  intro a
  match a with
  | ⟨0, _⟩ =>
    show win0_4.index t0_0 0 * 24576 ≤ (i 0 : Nat) ∧ (i 0 : Nat) < win0_4.index t0_0 0 * 24576 + 24576
    rw [(index0 t0_0).2.2.2.2.1.1]; omega
  | ⟨1, _⟩ =>
    show win0_4.index t0_0 1 * 10240 ≤ (i 1 : Nat) ∧ (i 1 : Nat) < win0_4.index t0_0 1 * 10240 + 10240
    rw [(index0 t0_0).2.2.2.2.1.2]; omega
theorem cover5 (i : S24576x80.Idx) : ∃ t : Fin cfg0.N, (cfg0.win 5).flush t = true ∧ i ∈ ((cfg0.win 5).blk t).view.set := by
  have h0 : (i 0 : Nat) < 24576 := (i 0).isLt
  have h1 : (i 1 : Nat) < 80 := (i 1).isLt
  refine ⟨t0_0, flush0_5 _, ?_⟩
  show i ∈ ((View.whole main_v1_2).slice (win0_5.rect t0_0)).set
  rw [View.set_slice_whole, Rect.mem_set_unit]
  intro a
  match a with
  | ⟨0, _⟩ =>
    show win0_5.index t0_0 0 * 24576 ≤ (i 0 : Nat) ∧ (i 0 : Nat) < win0_5.index t0_0 0 * 24576 + 24576
    rw [(index0 t0_0).2.2.2.2.2.1]; omega
  | ⟨1, _⟩ =>
    show win0_5.index t0_0 1 * 80 ≤ (i 1 : Nat) ∧ (i 1 : Nat) < win0_5.index t0_0 1 * 80 + 80
    rw [(index0 t0_0).2.2.2.2.2.2]; omega

theorem final3 (c : Dev nD) : (dats m 0 c).arrAt 3 cfg0.N = Cert.Spec.grad (gX m c) (gW m c) (gS m c) :=
  (dats m 0 c).arrAt_eq_of_cover 3 (Cert.Spec.grad (gX m c) (gW m c) (gS m c)) (fun t _ => flushed3 m c t) cover3
theorem final4 (c : Dev nD) : (dats m 0 c).arrAt 4 cfg0.N = Cert.Spec.code (gX m c) :=
  (dats m 0 c).arrAt_eq_of_cover 4 (Cert.Spec.code (gX m c)) (fun t _ => flushed4 m c t) cover4
theorem final5 (c : Dev nD) : (dats m 0 c).arrAt 5 cfg0.N = Cert.Spec.scale (gX m c) :=
  (dats m 0 c).arrAt_eq_of_cover 5 (Cert.Spec.scale (gX m c)) (fun t _ => flushed5 m c t) cover5

/-- The run, read: the three results, and the arguments unchanged. -/
theorem run_value :
    θ_run defs (onTc (τ := τ) (main (F := Ideal))) ⟨m, fun _ => 0, ρ⟩ (fun r => ∀ c : Dev nD,
      r.2.mem ((c.tc : Thread nD τ).loc main_v1_0) = Cert.Spec.grad (gX m c) (gW m c) (gS m c)
      ∧ r.2.mem ((c.tc : Thread nD τ).loc main_v1_1) = Cert.Spec.code (gX m c)
      ∧ r.2.mem ((c.tc : Thread nD τ).loc main_v1_2) = Cert.Spec.scale (gX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c), ((h c).1 4).trans (final4 m c),
    ((h c).1 5).trans (final5 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.ReferenceIdeal.Value
-- ==== Proof.Value.Finite.lean ====
/-
  Finite gradients have small targets: a bfloat16 that is at most the largest finite one is below 2^128, and
  a target is the largest of its magnitudes over 448.
-/
module

public import proofs.«01_k».proof.Proof.Gen.ReferenceIdeal.Frame
public import proofs.«01_k».proof.Proof.Value.Array
public import proofs.«01_k».proof.Proof.Value.Ref
public import proofs.«01_k».proof.Defs

@[expose] public section

set_option maxRecDepth 16384

noncomputable section

namespace Cert.Value

open Idealize.ShloMosaic Idealize.ShloMosaic.TcCoe Idealize.SL.Sem Idealize.ShloMosaic.ValueIdx

/-- The largest finite bfloat16, and the reciprocal of 448. -/
theorem bound_val : Ideal.ofBits .f32 0x7F7F0000#32 = ((255 * 2 ^ 120 : ℝ) : EReal) := by
  simp [Ideal.ofBits, Ideal.ieee, -EReal.coe_mul]
  norm_num
theorem recip_val : Ideal.ofBits .f32 0x3B124925#32 = ((9586981 / 2 ^ 32 : ℝ) : EReal) := by
  simp [Ideal.ofBits, Ideal.ieee, -EReal.coe_mul]
  norm_num

theorem top_lt (f : Fin 128 → EReal) (h : ∀ l, Cert.Spec.ab (f l) ≤ Ideal.ofBits .f32 0x7F7F0000#32) :
    Cert.Spec.top f < (((2 : ℝ) ^ (126 : ℤ) : ℝ) : EReal) := by
  have hM : (Finset.univ : Finset (Fin 128)).fold max ⊥ (fun l => Cert.Spec.ab (f l)) ≤ Ideal.ofBits .f32 0x7F7F0000#32 :=
    Finset.fold_max_le _ |>.2 ⟨bot_le, fun l _ => h l⟩
  have hc : (0 : EReal) ≤ Ideal.ofBits .f32 0x3B124925#32 := by
    rw [recip_val, ← EReal.coe_zero, EReal.coe_le_coe_iff]; norm_num
  refine lt_of_le_of_lt (mul_le_mul_of_nonneg_right hM hc) ?_
  rw [bound_val, recip_val, ← EReal.coe_mul, EReal.coe_lt_coe_iff]
  norm_num

variable (m : (ℓ : Loc Cert.KernelIdeal.nD Cert.KernelIdeal.τ Cert.KernelIdeal.sig) → Buf (Elt Ideal) ℓ)

/-- The kernel's region finds the gradients as two axes. -/
theorem gX_kernel (c : Dev Cert.KernelIdeal.nD) :
    Cert.KernelIdeal.Dgrad.gX m c = shapeCast Cert.KernelIdeal.S24576x10240 (m ((c.tc : Thread Cert.KernelIdeal.nD Cert.KernelIdeal.τ).loc Cert.KernelIdeal.main_arg0))
      Cert.KernelIdeal.Gen.facts.shapeCasts_S3x8192x10240_S24576x10240 := by
  show StableHlo.after Cert.KernelIdeal.Gen.hostOps0 (fun b => m (c, b)) (Proc.devRef .tc Cert.KernelIdeal.main_v0) = _
  after_results
  rfl

/-- So does the reference's. -/
theorem gX_ref (m' : (ℓ : Loc Cert.ReferenceIdeal.nD Cert.ReferenceIdeal.τ Cert.ReferenceIdeal.sig) → Buf (Elt Ideal) ℓ) (c : Dev Cert.ReferenceIdeal.nD) :
    Cert.ReferenceIdeal.Value.gX m' c = shapeCast Cert.ReferenceIdeal.S24576x10240 (m' ((c.tc : Thread Cert.ReferenceIdeal.nD Cert.ReferenceIdeal.τ).loc Cert.ReferenceIdeal.main_arg0))
      Cert.ReferenceIdeal.Gen.facts.shapeCasts_S3x8192x10240_S24576x10240 := by
  show StableHlo.after Cert.ReferenceIdeal.Gen.hostOps0 (fun b => m' (c, b)) (Proc.devRef .tc Cert.ReferenceIdeal.main_v0) = _
  after_results
  rfl

instance preFacts : Cert.Pre_finite.Facts := ⟨by decide, by decide⟩

theorem small (h : Cert.Pre_KernelIdeal_finite m) (c : Dev Cert.KernelIdeal.nD) : Cert.KernelIdeal.Dgrad.Small (Cert.KernelIdeal.Dgrad.gX m c) := by
  intro r g
  refine top_lt _ fun l => ?_
  rw [gX_kernel]
  generalize ix2 r (Cert.Spec.lane g l) = y
  unfold shapeCast
  generalize Shape.reshapeEquiv _ y = i
  have hi := congrFun (h c) i
  have hb : BitVec.ofBool (decide (Cert.Spec.ab (m ((c.tc : Thread Cert.KernelIdeal.nD Cert.KernelIdeal.τ).loc Cert.KernelIdeal.main_arg0) i) ≤ Ideal.ofBits .f32 0x7F7F0000#32)) = 1#1 := hi
  by_contra hn
  simp [hn] at hb

end Cert.Value
-- ==== Proof.lean ====
/-
  The certificate. Each program runs to its end, from any memory and any PRNG state, and leaves its arguments as they were; the
  program that the idealisation rewrites is the kernel's; and the kernel and its reference, over the extended reals, end with
  the same three results whenever the gradients are finite.
-/
module

public import proofs.«01_k».proof.Defs
public import proofs.«01_k».proof.Proof.Gen.ReferenceIdeal.Frame
public import proofs.«01_k».proof.Proof.Kern.Data
public import proofs.«01_k».proof.Proof.Ideal.Data
public import proofs.«01_k».proof.Proof.Value.Finite

@[expose] public section

noncomputable section

namespace Cert.Proof

open Idealize.ShloMosaic Idealize.ShloMosaic.TcCoe Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Value.preFacts) := by
  intro m g m' g' hp ha
  refine ⟨_, _, _, Cert.KernelIdeal.Dgrad.run_value m g (fun c => Cert.Value.small m hp c), ?_⟩
  refine (θ_run _ _ _).mono (fun r h c => ?_) (Cert.ReferenceIdeal.Value.run_value m' g')
  have hX : Cert.ReferenceIdeal.Value.gX m' c = Cert.KernelIdeal.Dgrad.gX m c := by
    rw [Cert.Value.gX_ref, Cert.Value.gX_kernel, (ha c).1]
  have hW : Cert.ReferenceIdeal.Value.gW m' c = Cert.KernelIdeal.Dgrad.gW m c :=
    (Cert.ReferenceIdeal.Gen.V_main_arg1 m' c).trans ((ha c).2.1.trans (Cert.KernelIdeal.Gen.V_main_arg1 m c).symm)
  have hS : Cert.ReferenceIdeal.Value.gS m' c = Cert.KernelIdeal.Dgrad.gS m c :=
    (Cert.ReferenceIdeal.Gen.V_main_arg2 m' c).trans ((ha c).2.2.trans (Cert.KernelIdeal.Gen.V_main_arg2 m c).symm)
  have hc := h c
  rw [hX, hW, hS] at hc
  exact hc

theorem claim : Cert.Claim :=
  ⟨Cert.Kernel.Gen.facts, Cert.KernelIdeal.Gen.facts, Cert.ReferenceIdeal.Gen.facts, Cert.Value.preFacts,
    fun m ρ _ => Cert.Kernel.Dgrad.frame m ρ, fun m ρ _ => Cert.KernelIdeal.Dgrad.frame m ρ, fun m ρ _ => Cert.KernelIdeal.Dgrad.frame m ρ,
    fun m ρ _ => Cert.ReferenceIdeal.Gen.frame m ρ, fun m ρ _ => Cert.ReferenceIdeal.Gen.frame m ρ, trivial, algebraic⟩

end Cert.Proof

end
